-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelGx (m : (ℓ : Loc Cert.KernelGx.nD Cert.KernelGx.τ Cert.KernelGx.sig) → Buf (Elt Bits) ℓ) : Prop :=
  True

def Pre_KernelGxIdeal (m : (ℓ : Loc Cert.KernelGxIdeal.nD Cert.KernelGxIdeal.τ Cert.KernelGxIdeal.sig) → Buf (Elt Ideal) ℓ) : Prop :=
  True

def Pre_ReferenceGxIdeal (m : (ℓ : Loc Cert.ReferenceGxIdeal.nD Cert.ReferenceGxIdeal.τ Cert.ReferenceGxIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelGx [hKernelGx : Cert.KernelGx.Facts] : Prop :=
  ∀ (m : (ℓ : Loc Cert.KernelGx.nD Cert.KernelGx.τ Cert.KernelGx.sig) → Buf (Elt Bits) ℓ) (g : Dev Cert.KernelGx.nD → PrngReg), Pre_KernelGx m →
    θ_run (Cert.KernelGx.defs (F := Bits)) (onTc (τ := Cert.KernelGx.τ) (Cert.KernelGx.main (F := Bits))) ⟨m, fun _ => 0, g⟩ (fun r => (∀ c : Dev Cert.KernelGx.nD,
      r.2.mem ((c.tc : Thread Cert.KernelGx.nD Cert.KernelGx.τ).loc Cert.KernelGx.main_arg0) = m ((c.tc : Thread Cert.KernelGx.nD Cert.KernelGx.τ).loc Cert.KernelGx.main_arg0)
      ∧ r.2.mem ((c.tc : Thread Cert.KernelGx.nD Cert.KernelGx.τ).loc Cert.KernelGx.main_arg1) = m ((c.tc : Thread Cert.KernelGx.nD Cert.KernelGx.τ).loc Cert.KernelGx.main_arg1)
      ∧ r.2.mem ((c.tc : Thread Cert.KernelGx.nD Cert.KernelGx.τ).loc Cert.KernelGx.main_arg2) = m ((c.tc : Thread Cert.KernelGx.nD Cert.KernelGx.τ).loc Cert.KernelGx.main_arg2))
      ∧ r.2.sem = fun _ => 0)

def quiescent_KernelGxIdeal [hKernelGxIdeal : Cert.KernelGxIdeal.Facts] : Prop :=
  ∀ (m : (ℓ : Loc Cert.KernelGxIdeal.nD Cert.KernelGxIdeal.τ Cert.KernelGxIdeal.sig) → Buf (Elt Ideal) ℓ) (g : Dev Cert.KernelGxIdeal.nD → PrngReg), Pre_KernelGxIdeal m →
    θ_run (Cert.KernelGxIdeal.defs (F := Ideal)) (onTc (τ := Cert.KernelGxIdeal.τ) (Cert.KernelGxIdeal.main (F := Ideal))) ⟨m, fun _ => 0, g⟩ (fun r => (∀ c : Dev Cert.KernelGxIdeal.nD,
      r.2.mem ((c.tc : Thread Cert.KernelGxIdeal.nD Cert.KernelGxIdeal.τ).loc Cert.KernelGxIdeal.main_arg0) = m ((c.tc : Thread Cert.KernelGxIdeal.nD Cert.KernelGxIdeal.τ).loc Cert.KernelGxIdeal.main_arg0)
      ∧ r.2.mem ((c.tc : Thread Cert.KernelGxIdeal.nD Cert.KernelGxIdeal.τ).loc Cert.KernelGxIdeal.main_arg1) = m ((c.tc : Thread Cert.KernelGxIdeal.nD Cert.KernelGxIdeal.τ).loc Cert.KernelGxIdeal.main_arg1)
      ∧ r.2.mem ((c.tc : Thread Cert.KernelGxIdeal.nD Cert.KernelGxIdeal.τ).loc Cert.KernelGxIdeal.main_arg2) = m ((c.tc : Thread Cert.KernelGxIdeal.nD Cert.KernelGxIdeal.τ).loc Cert.KernelGxIdeal.main_arg2))
      ∧ r.2.sem = fun _ => 0)

def quiescent_ReferenceGxIdeal [hReferenceGxIdeal : Cert.ReferenceGxIdeal.Facts] : Prop :=
  ∀ (m : (ℓ : Loc Cert.ReferenceGxIdeal.nD Cert.ReferenceGxIdeal.τ Cert.ReferenceGxIdeal.sig) → Buf (Elt Ideal) ℓ) (g : Dev Cert.ReferenceGxIdeal.nD → PrngReg), Pre_ReferenceGxIdeal m →
    θ_run (Cert.ReferenceGxIdeal.defs (F := Ideal)) (onTc (τ := Cert.ReferenceGxIdeal.τ) (Cert.ReferenceGxIdeal.main (F := Ideal))) ⟨m, fun _ => 0, g⟩ (fun r => (∀ c : Dev Cert.ReferenceGxIdeal.nD,
      r.2.mem ((c.tc : Thread Cert.ReferenceGxIdeal.nD Cert.ReferenceGxIdeal.τ).loc Cert.ReferenceGxIdeal.main_arg0) = m ((c.tc : Thread Cert.ReferenceGxIdeal.nD Cert.ReferenceGxIdeal.τ).loc Cert.ReferenceGxIdeal.main_arg0)
      ∧ r.2.mem ((c.tc : Thread Cert.ReferenceGxIdeal.nD Cert.ReferenceGxIdeal.τ).loc Cert.ReferenceGxIdeal.main_arg1) = m ((c.tc : Thread Cert.ReferenceGxIdeal.nD Cert.ReferenceGxIdeal.τ).loc Cert.ReferenceGxIdeal.main_arg1)
      ∧ r.2.mem ((c.tc : Thread Cert.ReferenceGxIdeal.nD Cert.ReferenceGxIdeal.τ).loc Cert.ReferenceGxIdeal.main_arg2) = m ((c.tc : Thread Cert.ReferenceGxIdeal.nD Cert.ReferenceGxIdeal.τ).loc Cert.ReferenceGxIdeal.main_arg2))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5)
      ∧ r.2.mem ((c.tc : Thread Cert.KernelDx.nD Cert.KernelDx.τ).loc Cert.KernelDx.main_arg6) = m ((c.tc : Thread Cert.KernelDx.nD Cert.KernelDx.τ).loc Cert.KernelDx.main_arg6))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101_0)) (v1 : (c : Dev Cert.KernelIdeal.nD) → Buf (Elt Ideal) ((c.tc : Thread Cert.KernelIdeal.nD Cert.KernelIdeal.τ).loc Cert.KernelIdeal.main_v101_1)) (v2 : (c : Dev Cert.KernelIdeal.nD) → Buf (Elt Ideal) ((c.tc : Thread Cert.KernelIdeal.nD Cert.KernelIdeal.τ).loc Cert.KernelIdeal.main_v101_2)) (v3 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101_0) = v0 c
          ∧ r.2.mem ((c.tc : Thread Cert.KernelIdeal.nD Cert.KernelIdeal.τ).loc Cert.KernelIdeal.main_v101_1) = v1 c
          ∧ r.2.mem ((c.tc : Thread Cert.KernelIdeal.nD Cert.KernelIdeal.τ).loc Cert.KernelIdeal.main_v101_2) = v2 c
          ∧ r.2.mem ((c.tc : Thread Cert.KernelIdeal.nD Cert.KernelIdeal.τ).loc Cert.KernelIdeal.main_v104) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelGx_KernelGxIdeal : Prop :=
  True

def algebraic_KernelGxIdeal_ReferenceGxIdeal [hKernelGxIdeal : Cert.KernelGxIdeal.Facts] [hReferenceGxIdeal : Cert.ReferenceGxIdeal.Facts] : Prop :=
  ∀ (m : (ℓ : Loc Cert.KernelGxIdeal.nD Cert.KernelGxIdeal.τ Cert.KernelGxIdeal.sig) → Buf (Elt Ideal) ℓ) (g : Dev Cert.KernelGxIdeal.nD → PrngReg)
    (m' : (ℓ : Loc Cert.ReferenceGxIdeal.nD Cert.ReferenceGxIdeal.τ Cert.ReferenceGxIdeal.sig) → Buf (Elt Ideal) ℓ) (g' : Dev Cert.ReferenceGxIdeal.nD → PrngReg), Pre_KernelGxIdeal m →
    (∀ c : Dev Cert.KernelGxIdeal.nD,
      m' ((c.tc : Thread Cert.ReferenceGxIdeal.nD Cert.ReferenceGxIdeal.τ).loc Cert.ReferenceGxIdeal.main_arg0) = m ((c.tc : Thread Cert.KernelGxIdeal.nD Cert.KernelGxIdeal.τ).loc Cert.KernelGxIdeal.main_arg0)
      ∧ m' ((c.tc : Thread Cert.ReferenceGxIdeal.nD Cert.ReferenceGxIdeal.τ).loc Cert.ReferenceGxIdeal.main_arg1) = m ((c.tc : Thread Cert.KernelGxIdeal.nD Cert.KernelGxIdeal.τ).loc Cert.KernelGxIdeal.main_arg1)
      ∧ m' ((c.tc : Thread Cert.ReferenceGxIdeal.nD Cert.ReferenceGxIdeal.τ).loc Cert.ReferenceGxIdeal.main_arg2) = m ((c.tc : Thread Cert.KernelGxIdeal.nD Cert.KernelGxIdeal.τ).loc Cert.KernelGxIdeal.main_arg2)) →
    ∃ (v0 : (c : Dev Cert.KernelGxIdeal.nD) → Buf (Elt Ideal) ((c.tc : Thread Cert.KernelGxIdeal.nD Cert.KernelGxIdeal.τ).loc Cert.KernelGxIdeal.main_v0)),
      θ_run (Cert.KernelGxIdeal.defs (F := Ideal)) (onTc (τ := Cert.KernelGxIdeal.τ) (Cert.KernelGxIdeal.main (F := Ideal))) ⟨m, fun _ => 0, g⟩ (fun r => ∀ c : Dev Cert.KernelGxIdeal.nD,
          r.2.mem ((c.tc : Thread Cert.KernelGxIdeal.nD Cert.KernelGxIdeal.τ).loc Cert.KernelGxIdeal.main_v0) = v0 c
          ∧ r.2.mem ((c.tc : Thread Cert.KernelGxIdeal.nD Cert.KernelGxIdeal.τ).loc Cert.KernelGxIdeal.main_arg0) = m ((c.tc : Thread Cert.KernelGxIdeal.nD Cert.KernelGxIdeal.τ).loc Cert.KernelGxIdeal.main_arg0)
          ∧ r.2.mem ((c.tc : Thread Cert.KernelGxIdeal.nD Cert.KernelGxIdeal.τ).loc Cert.KernelGxIdeal.main_arg1) = m ((c.tc : Thread Cert.KernelGxIdeal.nD Cert.KernelGxIdeal.τ).loc Cert.KernelGxIdeal.main_arg1)
          ∧ r.2.mem ((c.tc : Thread Cert.KernelGxIdeal.nD Cert.KernelGxIdeal.τ).loc Cert.KernelGxIdeal.main_arg2) = m ((c.tc : Thread Cert.KernelGxIdeal.nD Cert.KernelGxIdeal.τ).loc Cert.KernelGxIdeal.main_arg2))
      ∧ θ_run (Cert.ReferenceGxIdeal.defs (F := Ideal)) (onTc (τ := Cert.ReferenceGxIdeal.τ) (Cert.ReferenceGxIdeal.main (F := Ideal))) ⟨m', fun _ => 0, g'⟩ (fun r => ∀ c : Dev Cert.ReferenceGxIdeal.nD,
          r.2.mem ((c.tc : Thread Cert.ReferenceGxIdeal.nD Cert.ReferenceGxIdeal.τ).loc Cert.ReferenceGxIdeal.main_v9) = v0 c
          ∧ r.2.mem ((c.tc : Thread Cert.ReferenceGxIdeal.nD Cert.ReferenceGxIdeal.τ).loc Cert.ReferenceGxIdeal.main_arg0) = m' ((c.tc : Thread Cert.ReferenceGxIdeal.nD Cert.ReferenceGxIdeal.τ).loc Cert.ReferenceGxIdeal.main_arg0)
          ∧ r.2.mem ((c.tc : Thread Cert.ReferenceGxIdeal.nD Cert.ReferenceGxIdeal.τ).loc Cert.ReferenceGxIdeal.main_arg1) = m' ((c.tc : Thread Cert.ReferenceGxIdeal.nD Cert.ReferenceGxIdeal.τ).loc Cert.ReferenceGxIdeal.main_arg1)
          ∧ r.2.mem ((c.tc : Thread Cert.ReferenceGxIdeal.nD Cert.ReferenceGxIdeal.τ).loc Cert.ReferenceGxIdeal.main_arg2) = m' ((c.tc : Thread Cert.ReferenceGxIdeal.nD Cert.ReferenceGxIdeal.τ).loc Cert.ReferenceGxIdeal.main_arg2))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)
      ∧ m' ((c.tc : Thread Cert.ReferenceDxIdeal.nD Cert.ReferenceDxIdeal.τ).loc Cert.ReferenceDxIdeal.main_arg6) = m ((c.tc : Thread Cert.KernelDxIdeal.nD Cert.KernelDxIdeal.τ).loc Cert.KernelDxIdeal.main_arg6)) →
    ∃ (v0 : (c : Dev Cert.KernelDxIdeal.nD) → Buf (Elt Ideal) ((c.tc : Thread Cert.KernelDxIdeal.nD Cert.KernelDxIdeal.τ).loc Cert.KernelDxIdeal.main_v2)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v2) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
          ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v24) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5)
          ∧ r.2.mem ((c.tc : Thread Cert.ReferenceDxIdeal.nD Cert.ReferenceDxIdeal.τ).loc Cert.ReferenceDxIdeal.main_arg6) = m' ((c.tc : Thread Cert.ReferenceDxIdeal.nD Cert.ReferenceDxIdeal.τ).loc Cert.ReferenceDxIdeal.main_arg6))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v2)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v2) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v5) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v5) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def Claim : Prop :=
  ∃ (hKernel : Cert.Kernel.Facts) (hKernelIdeal : Cert.KernelIdeal.Facts) (hReferenceIdeal : Cert.ReferenceIdeal.Facts) (hKernelGx : Cert.KernelGx.Facts) (hKernelGxIdeal : Cert.KernelGxIdeal.Facts) (hReferenceGxIdeal : Cert.ReferenceGxIdeal.Facts) (hKernelDx : Cert.KernelDx.Facts) (hKernelDxIdeal : Cert.KernelDxIdeal.Facts) (hReferenceDxIdeal : Cert.ReferenceDxIdeal.Facts) (hKernelDwin : Cert.KernelDwin.Facts) (hKernelDwinIdeal : Cert.KernelDwinIdeal.Facts) (hReferenceDwinIdeal : Cert.ReferenceDwinIdeal.Facts) (hKernelDwout : Cert.KernelDwout.Facts) (hKernelDwoutIdeal : Cert.KernelDwoutIdeal.Facts) (hReferenceDwoutIdeal : Cert.ReferenceDwoutIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGx (hKernelGx := hKernelGx)
    ∧ quiescent_KernelGxIdeal (hKernelGxIdeal := hKernelGxIdeal)
    ∧ quiescent_ReferenceGxIdeal (hReferenceGxIdeal := hReferenceGxIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGx_KernelGxIdeal
    ∧ algebraic_KernelGxIdeal_ReferenceGxIdeal (hKernelGxIdeal := hKernelGxIdeal) (hReferenceGxIdeal := hReferenceGxIdeal)
    ∧ preserves_KernelDx_KernelDxIdeal
    ∧ algebraic_KernelDxIdeal_ReferenceDxIdeal (hKernelDxIdeal := hKernelDxIdeal) (hReferenceDxIdeal := hReferenceDxIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
-- ==== Pre_finite.lean ====
abbrev S8192x1024 : Shape := ⟨2, ![8192, 1024]⟩
abbrev S8192x16x64 : Shape := ⟨3, ![8192, 16, 64]⟩
abbrev S8192x16 : Shape := ⟨2, ![8192, 16]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16x64 : S_.BroadcastsInDim S8192x16x64 (![] : Fin 0 → Fin S8192x16x64.rank)
  reducesTo_S8192x16x64_S_d0_1_2 : S8192x16x64.ReducesTo [0, 1, 2] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x16x64 .f32) (main_arg2 : FVec F S8192x16x64 .f32) (main_arg3 : FVec F S8192x16 .f32) (main_arg4 : FVec F S8192x1024 .f32) (main_arg5 : FVec F S8192x3072 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : IVec S_ 1 := andi main_v3 main_v7
  let main_v9 : FVec F S8192x16x64 .f32 := Host.absf main_arg2
  let main_cst_2 : FVec F S_ .f32 := constant S_ .f32 0x7F800000#32
  let main_v10 : FVec F S8192x16x64 .f32 := broadcastInDim S8192x16x64 ![] bcast_S_S8192x16x64 main_cst_2
  let main_v11 : IVec S8192x16x64 1 := cmpf .olt main_v9 main_v10
  let main_c_3 : IVec S_ 1 := constantI S_ 1 1#1
  let main_v12 : IVec S_ 1 := (fun x v => Host.reduce IntOp.andi x v reducesTo_S8192x16x64_S_d0_1_2 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x1024 : Shape := ⟨2, ![8192, 1024]⟩
abbrev S8192x16x64 : Shape := ⟨3, ![8192, 16, 64]⟩
abbrev S8192x16 : Shape := ⟨2, ![8192, 16]⟩
abbrev S8192x3072 : Shape := ⟨2, ![8192, 3072]⟩
abbrev S36 : Shape := ⟨1, ![36]⟩
abbrev S16x8192x8192 : Shape := ⟨3, ![16, 8192, 8192]⟩
abbrev S_ : Shape := ⟨0, ![]⟩
abbrev S16x8192 : Shape := ⟨2, ![16, 8192]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x1 : Shape := ⟨3, ![16, 8192, 1]⟩
abbrev S16x64x8192 : Shape := ⟨3, ![16, 64, 8192]⟩
abbrev S8192x16x1 : Shape := ⟨3, ![8192, 16, 1]⟩
abbrev S8192x16x58 : Shape := ⟨3, ![8192, 16, 58]⟩
abbrev S8192x16x128 : Shape := ⟨3, ![8192, 16, 128]⟩
abbrev S8192x2048 : Shape := ⟨2, ![8192, 2048]⟩
abbrev S8192x16x61 : Shape := ⟨3, ![8192, 16, 61]⟩
abbrev S1024x256 : Shape := ⟨2, ![1024, 256]⟩
abbrev S1 : Shape := ⟨1, ![1]⟩
abbrev S8192x128 : Shape := ⟨2, ![8192, 128]⟩
abbrev S1024x128 : Shape := ⟨2, ![1024, 128]⟩
abbrev S2x8192x128 : Shape := ⟨3, ![2, 8192, 128]⟩
abbrev S2x1024x128 : Shape := ⟨3, ![2, 1024, 128]⟩
abbrev S1024x1024 : Shape := ⟨2, ![1024, 1024]⟩
abbrev S1x1024x128 : Shape := ⟨3, ![1, 1024, 128]⟩
abbrev S512x128 : Shape := ⟨2, ![512, 128]⟩
abbrev S512x1024 : Shape := ⟨2, ![512, 1024]⟩
abbrev S1x512x128 : Shape := ⟨3, ![1, 512, 128]⟩
abbrev S512x512 : Shape := ⟨2, ![512, 512]⟩
abbrev S1x8192x128 : Shape := ⟨3, ![1, 8192, 128]⟩

abbrev nBuf : Space → Nat
  | .hbm => 131
  | .vmem => 21
  | .smem => 2
  | _ => 0

abbrev hbmTy0_0 (i : Nat) : BufTy := match i % 128 with
  | 0 => ⟨S8192x1024, .f32⟩
  | 1 => ⟨S8192x16x64, .f32⟩
  | 2 => ⟨S8192x16x64, .f32⟩
  | 3 => ⟨S8192x16, .f32⟩
  | 4 => ⟨S8192x1024, .f32⟩
  | 5 => ⟨S8192x3072, .bf16⟩
  | 6 => ⟨S8192x16x64, .f32⟩
  | 7 => ⟨S8192x16x64, .f32⟩
  | 8 => ⟨S16x8192x8192, .f32⟩
  | 9 => ⟨S_, .f32⟩
  | 10 => ⟨S16x8192x8192, .f32⟩
  | 11 => ⟨S16x8192x8192, .f32⟩
  | 12 => ⟨S16x8192, .f32⟩
  | 13 => ⟨S16x1x8192, .f32⟩
  | 14 => ⟨S16x8192x8192, .f32⟩
  | 15 => ⟨S16x8192x8192, .f32⟩
  | 16 => ⟨S8192, .i32⟩
  | 17 => ⟨S1x8192, .i32⟩
  | 18 => ⟨S8192, .i32⟩
  | 19 => ⟨S8192x1, .i32⟩
  | 20 => ⟨S8192x8192, .i32⟩
  | 21 => ⟨S8192x8192, .i32⟩
  | 22 => ⟨S8192x8192, .i1⟩
  | 23 => ⟨S_, .f32⟩
  | 24 => ⟨S_, .f32⟩
  | 25 => ⟨S16x8192x8192, .i1⟩
  | 26 => ⟨S16x8192x8192, .f32⟩
  | 27 => ⟨S16x8192x8192, .f32⟩
  | 28 => ⟨S_, .f32⟩
  | 29 => ⟨S16x8192, .f32⟩
  | 30 => ⟨S16x8192x1, .f32⟩
  | 31 => ⟨S16x8192x8192, .f32⟩
  | 32 => ⟨S16x8192x8192, .f32⟩
  | 33 => ⟨S16x8192x8192, .f32⟩
  | 34 => ⟨S_, .f32⟩
  | 35 => ⟨S16x8192, .f32⟩
  | 36 => ⟨S16x8192x1, .f32⟩
  | 37 => ⟨S16x8192x8192, .f32⟩
  | 38 => ⟨S16x8192x8192, .f32⟩
  | 39 => ⟨S16x64x8192, .f32⟩
  | 40 => ⟨S8192x16x64, .f32⟩
  | 41 => ⟨S_, .f32⟩
  | 42 => ⟨S_, .f32⟩
  | 43 => ⟨S_, .f32⟩
  | 44 => ⟨S_, .f32⟩
  | 45 => ⟨S16x8192, .f32⟩
  | 46 => ⟨S16x8192, .f32⟩
  | 47 => ⟨S16x8192, .f32⟩
  | 48 => ⟨S16x8192, .f32⟩
  | 49 => ⟨S8192x16x64, .f32⟩
  | 50 => ⟨S_, .f32⟩
  | 51 => ⟨S8192x16, .f32⟩
  | 52 => ⟨S_, .f32⟩
  | 53 => ⟨S8192x16, .f32⟩
  | 54 => ⟨S_, .f32⟩
  | 55 => ⟨S_, .f32⟩
  | 56 => ⟨S8192x16x64, .f32⟩
  | 57 => ⟨S8192x16x64, .f32⟩
  | 58 => ⟨S8192x16, .f32⟩
  | 59 => ⟨S8192x16, .f32⟩
  | 60 => ⟨S8192x16, .bf16⟩
  | 61 => ⟨S8192x16, .f32⟩
  | 62 => ⟨S8192x16, .f32⟩
  | 63 => ⟨S8192x16, .bf16⟩
  | 64 => ⟨S8192x16, .f32⟩
  | 65 => ⟨S8192x16, .f32⟩
  | 66 => ⟨S8192x16, .bf16⟩
  | 67 => ⟨S8192x16, .f32⟩
  | 68 => ⟨S8192x16x1, .f32⟩
  | 69 => ⟨S8192x16x1, .f32⟩
  | 70 => ⟨S8192x16x1, .f32⟩
  | 71 => ⟨S8192x16x1, .f32⟩
  | 72 => ⟨S8192x16x1, .f32⟩
  | 73 => ⟨S8192x16x1, .f32⟩
  | 74 => ⟨S_, .f32⟩
  | 75 => ⟨S8192x16x58, .f32⟩
  | 76 => ⟨S8192x16x128, .f32⟩
  | 77 => ⟨S8192x16x128, .bf16⟩
  | 78 => ⟨S8192x2048, .bf16⟩
  | 79 => ⟨S8192x16, .f32⟩
  | 80 => ⟨S8192x16, .f32⟩
  | 81 => ⟨S8192x16, .f32⟩
  | 82 => ⟨S8192x16, .bf16⟩
  | 83 => ⟨S8192x16, .f32⟩
  | 84 => ⟨S8192x16, .f32⟩
  | 85 => ⟨S8192x16, .bf16⟩
  | 86 => ⟨S8192x16, .f32⟩
  | 87 => ⟨S8192x16, .f32⟩
  | 88 => ⟨S8192x16, .bf16⟩
  | 89 => ⟨S8192x16, .f32⟩
  | 90 => ⟨S8192x16x1, .f32⟩
  | 91 => ⟨S8192x16x1, .f32⟩
  | 92 => ⟨S8192x16x1, .f32⟩
  | 93 => ⟨S8192x16x1, .f32⟩
  | 94 => ⟨S8192x16x1, .f32⟩
  | 95 => ⟨S8192x16x1, .f32⟩
  | 96 => ⟨S_, .f32⟩
  | 97 => ⟨S8192x16x58, .f32⟩
  | 98 => ⟨S8192x16x128, .f32⟩
  | 99 => ⟨S8192x16x128, .bf16⟩
  | 100 => ⟨S8192x2048, .bf16⟩
  | 101 => ⟨S_, .f32⟩
  | 102 => ⟨S8192x16x64, .f32⟩
  | 103 => ⟨S8192x16x128, .f32⟩
  | 104 => ⟨S8192x16x128, .bf16⟩
  | 105 => ⟨S8192x2048, .bf16⟩
  | 106 => ⟨S8192x16, .f32⟩
  | 107 => ⟨S8192x16, .bf16⟩
  | 108 => ⟨S8192x16, .f32⟩
  | 109 => ⟨S8192x16, .f32⟩
  | 110 => ⟨S8192x16, .bf16⟩
  | 111 => ⟨S8192x16, .f32⟩
  | 112 => ⟨S8192x16, .f32⟩
  | 113 => ⟨S8192x16, .bf16⟩
  | 114 => ⟨S8192x16, .f32⟩
  | 115 => ⟨S8192x16x1, .f32⟩
  | 116 => ⟨S8192x16x1, .f32⟩
  | 117 => ⟨S8192x16x1, .f32⟩
  | 118 => ⟨S_, .f32⟩
  | 119 => ⟨S8192x16x61, .f32⟩
  | 120 => ⟨S8192x16x128, .f32⟩
  | 121 => ⟨S8192x16x128, .bf16⟩
  | 122 => ⟨S8192x2048, .bf16⟩
  | 123 => ⟨S8192x3072, .bf16⟩
  | 124 => ⟨S8192x1024, .bf16⟩
  | 125 => ⟨S8192x1024, .bf16⟩
  | 126 => ⟨S8192x1024, .f32⟩
  | 127 => ⟨S8192x1024, .f32⟩
  | _ => ⟨S8192x1024, .f32⟩

abbrev hbmTy0_1 (i : Nat) : BufTy := match i % 128 with
  | 0 => ⟨S8192x16, .f32⟩
  | 1 => ⟨S8192x16, .f32⟩
  | 2 => ⟨S8192x16, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S8192x128, .bf16⟩
  | .local _ .vmem, ⟨9, _⟩ => ⟨S8192x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S8192x128, .f32⟩
  | .local _ .vmem, ⟨17, _⟩ => ⟨S8192x128, .f32⟩
  | .local _ .vmem, ⟨18, _⟩ => ⟨S2x8192x128, .f32⟩
  | .local _ .vmem, ⟨19, _⟩ => ⟨S2x1024x128, .f32⟩
  | .local _ .vmem, ⟨20, _⟩ => ⟨S2x1024x128, .f32⟩
  | .local _ .smem, ⟨0, _⟩ => ⟨S36, .i32⟩
  | .local _ .smem, ⟨1, _⟩ => ⟨S36, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_12 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101_0 : Ref sig .tc := ⟨.hbm, 123, rfl⟩
abbrev main_v101_1 : Ref sig .tc := ⟨.hbm, 124, rfl⟩
abbrev main_v101_2 : Ref sig .tc := ⟨.hbm, 125, rfl⟩
abbrev main_v101_3 : Ref sig .tc := ⟨.hbm, 126, rfl⟩
abbrev main_v101_4 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v53 : BitVec 32 := Scalar.muli v1 c1024_i32
  let c0_i32_28 : BitVec 32 := 0#32
  let v54 : BitVec 32 := Scalar.addi v53 c0_i32_28
  v54
def k0_cond3 (v1 : BitVec 32) (v3 : BitVec 32) : BitVec 1 :=
  let v13 : BitVec 1 := Scalar.cmpi .sgt v1 v3
  let v14 : BitVec 32 := Scalar.extui v13
  let c0_i32_2 : BitVec 32 := 0#32
  let v15 : BitVec 1 := Scalar.cmpi .ne v14 c0_i32_2
  v15

def k0_off2 (v1 : BitVec 32) : Fin 3 → Nat :=
  let c0_29 : Index := 0#32
  let c1024_i32 : BitVec 32 := 1024#32
  let v53 : BitVec 32 := Scalar.muli v1 c1024_i32
  let c0_i32_28 : BitVec 32 := 0#32
  let v54 : BitVec 32 := Scalar.addi v53 c0_i32_28
  let v55 : BitVec 32 := v54
  let v56 : Index := Scalar.indexCast v55
  let c0_30 : Index := 0#32
  ![0, v56.toNat, 0]
def k0_mult2 (v1 : BitVec 32) : BitVec 32 :=
  let c1024_i32_56 : BitVec 32 := 1024#32
  let v93 : BitVec 32 := Scalar.muli v1 c1024_i32_56
  let c0_i32_57 : BitVec 32 := 0#32
  let v94 : BitVec 32 := Scalar.addi v93 c0_i32_57
  v94
def k0_off3 (v1 : BitVec 32) : Fin 3 → Nat :=
  let c1_58 : Index := 1#32
  let c1024_i32_56 : BitVec 32 := 1024#32
  let v93 : BitVec 32 := Scalar.muli v1 c1024_i32_56
  let c0_i32_57 : BitVec 32 := 0#32
  let v94 : BitVec 32 := Scalar.addi v93 c0_i32_57
  let v95 : BitVec 32 := v94
  let v96 : Index := Scalar.indexCast v95
  let c0_59 : Index := 0#32
  ![1, v96.toNat, 0]
def k0_mult3 (v1 : BitVec 32) : BitVec 32 :=
  let c1024_i32 : BitVec 32 := 1024#32
  let v62 : BitVec 32 := Scalar.muli v1 c1024_i32
  let c0_i32_31 : BitVec 32 := 0#32
  let v63 : BitVec 32 := Scalar.addi v62 c0_i32_31
  v63
def k0_cond4 (v1 : BitVec 32) (v3 : BitVec 32) : BitVec 1 :=
  let v16 : BitVec 1 := Scalar.cmpi .eq v1 v3
  let v17 : BitVec 32 := Scalar.extui v16
  let c0_i32_3 : BitVec 32 := 0#32
  let v18 : BitVec 1 := Scalar.cmpi .ne v17 c0_i32_3
  v18

def k0_off4 (v1 : BitVec 32) : Fin 3 → Nat :=
  let c0_32 : Index := 0#32
  let c1024_i32 : BitVec 32 := 1024#32
  let v62 : BitVec 32 := Scalar.muli v1 c1024_i32
  let c0_i32_31 : BitVec 32 := 0#32
  let v63 : BitVec 32 := Scalar.addi v62 c0_i32_31
  let v64 : BitVec 32 := v63
  let v65 : Index := Scalar.indexCast v64
  let c0_33 : Index := 0#32
  ![0, v65.toNat, 0]
def k0_mult4 (v1 : BitVec 32) : BitVec 32 :=
  let c1024_i32_62 : BitVec 32 := 1024#32
  let v111 : BitVec 32 := Scalar.muli v1 c1024_i32_62
  let c512_i32_63 : BitVec 32 := 512#32
  let v112 : BitVec 32 := Scalar.addi v111 c512_i32_63
  v112
def k0_off5 (v1 : BitVec 32) : Fin 3 → Nat :=
  let c0_64 : Index := 0#32
  let c1024_i32_62 : BitVec 32 := 1024#32
  let v111 : BitVec 32 := Scalar.muli v1 c1024_i32_62
  let c512_i32_63 : BitVec 32 := 512#32
  let v112 : BitVec 32 := Scalar.addi v111 c512_i32_63
  let v113 : BitVec 32 := v112
  let v114 : Index := Scalar.indexCast v113
  let c0_65 : Index := 0#32
  ![0, v114.toNat, 0]
def k0_mult5 (v1 : BitVec 32) : BitVec 32 :=
  let c1024_i32_94 : BitVec 32 := 1024#32
  let v160 : BitVec 32 := Scalar.muli v1 c1024_i32_94
  let c0_i32_95 : BitVec 32 := 0#32
  let v161 : BitVec 32 := Scalar.addi v160 c0_i32_95
  v161
def k0_off6 (v1 : BitVec 32) : Fin 3 → Nat :=
  let c1_96 : Index := 1#32
  let c1024_i32_94 : BitVec 32 := 1024#32
  let v160 : BitVec 32 := Scalar.muli v1 c1024_i32_94
  let c0_i32_95 : BitVec 32 := 0#32
  let v161 : BitVec 32 := Scalar.addi v160 c0_i32_95
  let v162 : BitVec 32 := v161
  let v163 : Index := Scalar.indexCast v162
  let c0_97 : Index := 0#32
  ![1, v163.toNat, 0]
def k0_mult6 (v1 : BitVec 32) : BitVec 32 :=
  let c1024_i32_128 : BitVec 32 := 1024#32
  let v209 : BitVec 32 := Scalar.muli v1 c1024_i32_128
  let c512_i32_129 : BitVec 32 := 512#32
  let v210 : BitVec 32 := Scalar.addi v209 c512_i32_129
  v210
def k0_off7 (v1 : BitVec 32) : Fin 3 → Nat :=
  let c1_130 : Index := 1#32
  let c1024_i32_128 : BitVec 32 := 1024#32
  let v209 : BitVec 32 := Scalar.muli v1 c1024_i32_128
  let c512_i32_129 : BitVec 32 := 512#32
  let v210 : BitVec 32 := Scalar.addi v209 c512_i32_129
  let v211 : BitVec 32 := v210
  let v212 : Index := Scalar.indexCast v211
  let c0_131 : Index := 0#32
  ![1, v212.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x1024x128.size a ≤ S2x8192x128.size a) ∧
  (∀ (k0_h3 : k0_cond3 v1 v3 = 1#1), 512 ∣ (k0_mult2 v1).toNat) ∧
  (∀ (k0_h3 : k0_cond3 v1 v3 = 1#1), ∀ a, (k0_off3 v1) a + S1x1024x128.size a ≤ S2x8192x128.size a) ∧
  (∀ (k0_h4 : k0_cond4 v1 v3 = 1#1), 512 ∣ (k0_mult3 v1).toNat) ∧
  (∀ (k0_h4 : k0_cond4 v1 v3 = 1#1), ∀ a, (k0_off4 v1) a + S1x1024x128.size a ≤ S2x8192x128.size a) ∧
  (∀ (k0_h4 : k0_cond4 v1 v3 = 1#1), 512 ∣ (k0_mult4 v1).toNat) ∧
  (∀ (k0_h4 : k0_cond4 v1 v3 = 1#1), ∀ a, (k0_off5 v1) a + S1x512x128.size a ≤ S2x8192x128.size a) ∧
  (∀ (k0_h4 : k0_cond4 v1 v3 = 1#1), 512 ∣ (k0_mult5 v1).toNat) ∧
  (∀ (k0_h4 : k0_cond4 v1 v3 = 1#1), ∀ a, (k0_off6 v1) a + S1x1024x128.size a ≤ S2x8192x128.size a) ∧
  (∀ (k0_h4 : k0_cond4 v1 v3 = 1#1), 512 ∣ (k0_mult6 v1).toNat) ∧
  (∀ (k0_h4 : k0_cond4 v1 v3 = 1#1), ∀ a, (k0_off7 v1) a + S1x512x128.size a ≤ S2x8192x128.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x1024x128.size a ≤ S2x8192x128.size a := fun v1 v3 k0_hw1 k0_h3 => k0_hw1.2.1 k0_h3
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S1x1024x128.size a ≤ S2x8192x128.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.2.1 k0_h4
theorem k0_off4_inb : ∀ (v1 : BitVec 32) (v3 : BitVec 32) (k0_hw1 : k0_chk1 v1 v3), ∀ (k0_h4 : k0_cond4 v1 v3 = 1#1), ∀ a, (k0_off4 v1) a + S1x1024x128.size a ≤ S2x8192x128.size a := fun v1 v3 k0_hw1 k0_h4 => k0_hw1.2.2.2.2.2.1 k0_h4
theorem k0_mult4_dvd : ∀ (v1 : BitVec 32) (v3 : BitVec 32) (k0_hw1 : k0_chk1 v1 v3), ∀ (k0_h4 : k0_cond4 v1 v3 = 1#1), 512 ∣ (k0_mult4 v1).toNat := fun v1 v3 k0_hw1 k0_h4 => k0_hw1.2.2.2.2.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S1x512x128.size a ≤ S2x8192x128.size a := fun v1 v3 k0_hw1 k0_h4 => k0_hw1.2.2.2.2.2.2.2.1 k0_h4
theorem k0_mult5_dvd : ∀ (v1 : BitVec 32) (v3 : BitVec 32) (k0_hw1 : k0_chk1 v1 v3), ∀ (k0_h4 : k0_cond4 v1 v3 = 1#1), 512 ∣ (k0_mult5 v1).toNat := fun v1 v3 k0_hw1 k0_h4 => k0_hw1.2.2.2.2.2.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S1x1024x128.size a ≤ S2x8192x128.size a := fun v1 v3 k0_hw1 k0_h4 => k0_hw1.2.2.2.2.2.2.2.2.2.1 k0_h4
theorem k0_mult6_dvd : ∀ (v1 : BitVec 32) (v3 : BitVec 32) (k0_hw1 : k0_chk1 v1 v3), ∀ (k0_h4 : k0_cond4 v1 v3 = 1#1), 512 ∣ (k0_mult6 v1).toNat := fun v1 v3 k0_hw1 k0_h4 => k0_hw1.2.2.2.2.2.2.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S1x512x128.size a ≤ S2x8192x128.size a := fun v1 v3 k0_hw1 k0_h4 => k0_hw1.2.2.2.2.2.2.2.2.2.2.2 k0_h4

def k0_cond6 (i : grid0.Coords) : BitVec 1 :=
  let arg1 : BitVec 32 := BitVec.ofNat 32 (i 1).val
  let c35_i32 : BitVec 32 := 35#32
  let v22 : BitVec 1 := Scalar.cmpi .eq arg1 c35_i32
  let v23 : BitVec 32 := Scalar.extui v22
  let c0_i32_5 : BitVec 32 := 0#32
  let v24 : BitVec 1 := Scalar.cmpi .ne v23 c0_i32_5
  v24

def k0_cond5 (v1 : BitVec 32) : BitVec 1 :=
  let c7_i32 : BitVec 32 := 7#32
  let v19 : BitVec 1 := Scalar.cmpi .eq v1 c7_i32
  let v20 : BitVec 32 := Scalar.extui v19
  let c0_i32_4 : BitVec 32 := 0#32
  let v21 : BitVec 1 := Scalar.cmpi .ne v20 c0_i32_4
  v21

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x1024 : Shape := ⟨2, ![8192, 1024]⟩
abbrev S8192x16x64 : Shape := ⟨3, ![8192, 16, 64]⟩
abbrev S8192x16 : Shape := ⟨2, ![8192, 16]⟩
abbrev S8192x3072 : Shape := ⟨2, ![8192, 3072]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x64x8192 : Shape := ⟨3, ![16, 64, 8192]⟩
abbrev S16x8192x64 : Shape := ⟨3, ![16, 8192, 64]⟩
abbrev S8192x2048 : Shape := ⟨2, ![8192, 2048]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x1024, .f32⟩
  | .hbm, ⟨5, _⟩ => ⟨S8192x3072, .bf16⟩
  | .hbm, ⟨6, _⟩ => ⟨S8192x16x64, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S16x8192, .f32⟩
  | .hbm, ⟨12, _⟩ => ⟨S16x8192x1, .f32⟩
  | .hbm, ⟨13, _⟩ => ⟨S16x8192, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x8192x8192, .i1⟩
  | .hbm, ⟨27, _⟩ => ⟨S_, .f32⟩
  | .hbm, ⟨28, _⟩ => ⟨S_, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .i1⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S16x8192, .i1⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S16x8192, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S16x8192, .f32⟩
  | .hbm, ⟨65, _⟩ => ⟨S16x8192x1, .f32⟩
  | .hbm, ⟨66, _⟩ => ⟨S16x8192x8192, .f32⟩
  | .hbm, ⟨67, _⟩ => ⟨S16x8192x8192, .f32⟩
  | .hbm, ⟨68, _⟩ => ⟨S16x8192x1, .f32⟩
  | .hbm, ⟨69, _⟩ => ⟨S_, .f32⟩
  | .hbm, ⟨70, _⟩ => ⟨S16x8192x1, .f32⟩
  | .hbm, ⟨71, _⟩ => ⟨S16x8192x1, .f32⟩
  | .hbm, ⟨72, _⟩ => ⟨S16x64x8192, .f32⟩
  | .hbm, ⟨73, _⟩ => ⟨S8192x16x64, .f32⟩
  | .hbm, ⟨74, _⟩ => ⟨S8192x1024, .f32⟩
  | .hbm, ⟨75, _⟩ => ⟨S8192x16x64, .f32⟩
  | .hbm, ⟨76, _⟩ => ⟨S16x64x8192, .f32⟩
  | .hbm, ⟨77, _⟩ => ⟨S16x8192x8192, .f32⟩
  | .hbm, ⟨78, _⟩ => ⟨S16x64x8192, .f32⟩
  | .hbm, ⟨79, _⟩ => ⟨S8192x16x64, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x1, .f32⟩
  | .hbm, ⟨86, _⟩ => ⟨S16x8192x1, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192, .f32⟩
  | .hbm, ⟨91, _⟩ => ⟨S16x8192x8192, .f32⟩
  | .hbm, ⟨92, _⟩ => ⟨S16x8192x8192, .f32⟩
  | .hbm, ⟨93, _⟩ => ⟨S16x8192x8192, .f32⟩
  | .hbm, ⟨94, _⟩ => ⟨S_, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192, .f32⟩
  | .hbm, ⟨99, _⟩ => ⟨S16x8192x1, .f32⟩
  | .hbm, ⟨100, _⟩ => ⟨S16x8192x8192, .f32⟩
  | .hbm, ⟨101, _⟩ => ⟨S_, .f32⟩
  | .hbm, ⟨102, _⟩ => ⟨S16x8192, .f32⟩
  | .hbm, ⟨103, _⟩ => ⟨S16x1x8192, .f32⟩
  | .hbm, ⟨104, _⟩ => ⟨S_, .f32⟩
  | .hbm, ⟨105, _⟩ => ⟨S16x8192, .f32⟩
  | .hbm, ⟨106, _⟩ => ⟨S8192x16, .f32⟩
  | .hbm, ⟨107, _⟩ => ⟨S_, .f32⟩
  | .hbm, ⟨108, _⟩ => ⟨S16x8192, .f32⟩
  | .hbm, ⟨109, _⟩ => ⟨S8192x16, .f32⟩
  | .hbm, ⟨110, _⟩ => ⟨S8192x16, .f32⟩
  | .hbm, ⟨111, _⟩ => ⟨S_, .f32⟩
  | .hbm, ⟨112, _⟩ => ⟨S16x8192x8192, .f32⟩
  | .hbm, ⟨113, _⟩ => ⟨S16x8192x8192, .f32⟩
  | .hbm, ⟨114, _⟩ => ⟨S16x8192x64, .f32⟩
  | .hbm, ⟨115, _⟩ => ⟨S8192x16x64, .f32⟩
  | .hbm, ⟨116, _⟩ => ⟨S16x8192x64, .f32⟩
  | .hbm, ⟨117, _⟩ => ⟨S8192x16x64, .f32⟩
  | .hbm, ⟨118, _⟩ => ⟨S8192x1024, .f32⟩
  | .hbm, ⟨119, _⟩ => ⟨S8192x1024, .bf16⟩
  | .hbm, ⟨120, _⟩ => ⟨S8192x2048, .bf16⟩
  | .hbm, ⟨121, _⟩ => ⟨S8192x3072, .bf16⟩
  | .hbm, ⟨122, _⟩ => ⟨S8192x1024, .f32⟩
  | .hbm, ⟨123, _⟩ => ⟨S8192x1024, .bf16⟩
  | .hbm, ⟨124, _⟩ => ⟨S8192x1024, .f32⟩
  | .hbm, ⟨125, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== KernelGx.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGxIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x3072, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelDx.lean ====
abbrev S8192x3072 : Shape := ⟨2, ![8192, 3072]⟩
abbrev S1024x3072 : Shape := ⟨2, ![1024, 3072]⟩
abbrev S8192x1024 : Shape := ⟨2, ![8192, 1024]⟩
abbrev S8192x16 : Shape := ⟨2, ![8192, 16]⟩
abbrev S1024x2064 : Shape := ⟨2, ![1024, 2064]⟩
abbrev S_ : Shape := ⟨0, ![]⟩
abbrev S8192x128 : Shape := ⟨2, ![8192, 128]⟩
abbrev S1024x2176 : Shape := ⟨2, ![1024, 2176]⟩
abbrev S512x3072 : Shape := ⟨2, ![512, 3072]⟩
abbrev S512x1024 : Shape := ⟨2, ![512, 1024]⟩
abbrev S512x128 : Shape := ⟨2, ![512, 128]⟩
abbrev S1024x1024 : Shape := ⟨2, ![1024, 1024]⟩
abbrev S1024x128 : Shape := ⟨2, ![1024, 128]⟩

abbrev nBuf : Space → Nat
  | .hbm => 14
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .bf16⟩
  | .hbm, ⟨3, _⟩ => ⟨S8192x1024, .bf16⟩
  | .hbm, ⟨4, _⟩ => ⟨S8192x16, .bf16⟩
  | .hbm, ⟨5, _⟩ => ⟨S1024x2064, .bf16⟩
  | .hbm, ⟨6, _⟩ => ⟨S8192x1024, .f32⟩
  | .hbm, ⟨7, _⟩ => ⟨S_, .i32⟩
  | .hbm, ⟨8, _⟩ => ⟨S_, .bf16⟩
  | .hbm, ⟨9, _⟩ => ⟨S8192x128, .bf16⟩
  | .hbm, ⟨10, _⟩ => ⟨S_, .i32⟩
  | .hbm, ⟨11, _⟩ => ⟨S_, .bf16⟩
  | .hbm, ⟨12, _⟩ => ⟨S1024x2176, .bf16⟩
  | .hbm, ⟨13, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x128, .bf16⟩
  | .local _ .vmem, ⟨8, _⟩ => ⟨S512x128, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c16_i32 : BitVec 32 := 16#32
  let c0_i32_0 : BitVec 32 := 0#32
  ![c0_i32.toNat, c16_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDxIdeal.lean ====
abbrev S8192x3072 : Shape := ⟨2, ![8192, 3072]⟩
abbrev S1024x3072 : Shape := ⟨2, ![1024, 3072]⟩
abbrev S8192x1024 : Shape := ⟨2, ![8192, 1024]⟩
abbrev S8192x16 : Shape := ⟨2, ![8192, 16]⟩
abbrev S1024x2064 : Shape := ⟨2, ![1024, 2064]⟩
abbrev S_ : Shape := ⟨0, ![]⟩
abbrev S8192x2064 : Shape := ⟨2, ![8192, 2064]⟩

abbrev nBuf : Space → Nat
  | .hbm => 38
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .bf16⟩
  | .hbm, ⟨3, _⟩ => ⟨S8192x1024, .bf16⟩
  | .hbm, ⟨4, _⟩ => ⟨S8192x16, .bf16⟩
  | .hbm, ⟨5, _⟩ => ⟨S1024x2064, .bf16⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x16, .f32⟩
  | .hbm, ⟨11, _⟩ => ⟨S_, .f32⟩
  | .hbm, ⟨12, _⟩ => ⟨S8192x1024, .f32⟩
  | .hbm, ⟨13, _⟩ => ⟨S1024x2064, .f32⟩
  | .hbm, ⟨14, _⟩ => ⟨S8192x2064, .f32⟩
  | .hbm, ⟨15, _⟩ => ⟨S1024x3072, .f32⟩
  | .hbm, ⟨16, _⟩ => ⟨S8192x3072, .f32⟩
  | .hbm, ⟨17, _⟩ => ⟨S8192x1024, .f32⟩
  | .hbm, ⟨18, _⟩ => ⟨S8192x1024, .f32⟩
  | .hbm, ⟨19, _⟩ => ⟨S8192x16, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x2064, .f32⟩
  | .hbm, ⟨28, _⟩ => ⟨S_, .f32⟩
  | .hbm, ⟨29, _⟩ => ⟨S8192x2064, .f32⟩
  | .hbm, ⟨30, _⟩ => ⟨S8192x2064, .f32⟩
  | .hbm, ⟨31, _⟩ => ⟨S_, .f32⟩
  | .hbm, ⟨32, _⟩ => ⟨S8192x2064, .f32⟩
  | .hbm, ⟨33, _⟩ => ⟨S8192x2064, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelDwin.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024x8192, .f32⟩
  | .hbm, ⟨3, _⟩ => ⟨S1024x8192, .bf16⟩
  | .hbm, ⟨4, _⟩ => ⟨S1024x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S8192x3072, .f32⟩
  | .hbm, ⟨6, _⟩ => ⟨S3072x1024, .f32⟩
  | .hbm, ⟨7, _⟩ => ⟨S1024x3072, .f32⟩
  | .hbm, ⟨8, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwout.lean ====
abbrev S8192x1536 : Shape := ⟨2, ![8192, 1536]⟩
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | .local _ .vmem, ⟨3, _⟩ => ⟨S1024x1024, .f32⟩
  | .local _ .vmem, ⟨4, _⟩ => ⟨S1536x1024, .bf16⟩
  | .local _ .vmem, ⟨5, _⟩ => ⟨S1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwoutIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Spec.lean ====
/-
  What one grid point of the attention's backward call leaves in its three accumulators and its five output blocks, as plain functions
  of the blocks it reads, over any float values. A grid point of block pair (i, j) adds, for each of its two heads, the products of
  the block's scores' gradient to a window of each accumulator; on the diagonal (i = j) it does so for the two halves of the keys apart.
-/
module

public import proofs.«01_k».proof.Proof.Gen.KernelIdeal.Skeleton
public import Idealize.ShloMosaic.Lib.VecWindow

@[expose] public section

noncomputable section

namespace Cert.Fox

open Cert.KernelIdeal Cert.KernelIdeal.Gen
open Idealize.ShloMosaic

variable {F : FTy → Type} [FloatOps F] [Named F]

/-- Contents of a shape. -/
abbrev Vals (F : FTy → Type) (s : Shape) (e : EltTy) : Type := s.Idx → Elt F e

/-- `x` with the window at `off` replaced by `f` of that window. -/
def upd {s : Shape} {α : Type} (x : s.Idx → α) (off size : Fin s.rank → ℕ) (inb : ∀ a, off a + size a ≤ s.size a)
    (f : ((Rect.unit off size inb).shape.Idx → α) → (Rect.unit off size inb).shape.Idx → α) : s.Idx → α :=
  VecWindow.put x off size (f (VecWindow.window x off size inb))

theorem inbQ1024 (h r : ℕ) (hh : h + 1 ≤ 2) (hr : r + 1024 ≤ 8192) : ∀ a, (![h, r, 0] : Fin 3 → ℕ) a + S1x1024x128.size a ≤ S2x8192x128.size a := fun
  | 0 => hh
  | 1 => hr
  | 2 => Nat.le_refl 128
theorem inbQ512 (h r : ℕ) (hh : h + 1 ≤ 2) (hr : r + 512 ≤ 8192) : ∀ a, (![h, r, 0] : Fin 3 → ℕ) a + S1x512x128.size a ≤ S2x8192x128.size a := fun
  | 0 => hh
  | 1 => hr
  | 2 => Nat.le_refl 128

/-- The whole-block window of head `h`'s 128 lanes. -/
abbrev w0 (x : Vals F S1024x256 .bf16) : Vals F S1024x128 .bf16 := VecWindow.window x ![0, 0] S1024x128.size inb_S1024x256_S1024x128_0_0
abbrev w1 (x : Vals F S1024x256 .bf16) : Vals F S1024x128 .bf16 := VecWindow.window x ![0, 128] S1024x128.size inb_S1024x256_S1024x128_0_128
/-- The first and the second 512 rows of each head's lanes. -/
abbrev u0 (x : Vals F S1024x256 .bf16) : Vals F S512x128 .bf16 := VecWindow.window x ![0, 0] S512x128.size inb_S1024x256_S512x128_0_0
abbrev u1 (x : Vals F S1024x256 .bf16) : Vals F S512x128 .bf16 := VecWindow.window x ![0, 128] S512x128.size inb_S1024x256_S512x128_0_128
abbrev l0 (x : Vals F S1024x256 .bf16) : Vals F S512x128 .bf16 := VecWindow.window x ![512, 0] S512x128.size inb_S1024x256_S512x128_512_0
abbrev l1 (x : Vals F S1024x256 .bf16) : Vals F S512x128 .bf16 := VecWindow.window x ![512, 128] S512x128.size inb_S1024x256_S512x128_512_128

section
variable (q k v d : Vals F S1024x256 .bf16)

/-- The value accumulator after a point below the diagonal. -/
def offDV (X : Vals F S2x1024x128 .f32) : Vals F S2x1024x128 .f32 :=
  upd (upd X ![0, 0, 0] S1x1024x128.size inb_S2x1024x128_S1x1024x128_0_0_0 (k0_pay21 (w0 q) (w0 k) (w0 d)))
    ![1, 0, 0] S1x1024x128.size inb_S2x1024x128_S1x1024x128_1_0_0 (k0_pay29 (w1 q) (w1 k) (w1 d))

/-- The key accumulator after a point below the diagonal. -/
def offDK (X : Vals F S2x1024x128 .f32) : Vals F S2x1024x128 .f32 :=
  upd (upd X ![0, 0, 0] S1x1024x128.size inb_S2x1024x128_S1x1024x128_0_0_0 (k0_pay22 (w0 q) (w0 k) (w0 d) (w0 v)))
    ![1, 0, 0] S1x1024x128.size inb_S2x1024x128_S1x1024x128_1_0_0 (fun w => k0_pay5 (k0_pay30 w) (k0_pay31 (w1 q) (w1 k) (w1 d) (w1 v)))

/-- The query accumulator after a point below the diagonal whose query block starts at row `r`. -/
def offDQ (r : ℕ) (hr : r + 1024 ≤ 8192) (X : Vals F S2x8192x128 .f32) : Vals F S2x8192x128 .f32 :=
  upd (upd X ![0, r, 0] S1x1024x128.size (inbQ1024 _ _ (by decide) hr) (k0_pay23 (k0_pay17 (w0 k)) (k0_pay20 (w0 q) (w0 k) (w0 d) (w0 v))))
    ![1, r, 0] S1x1024x128.size (inbQ1024 _ _ (by decide) hr) (k0_pay6 (k0_pay25 (w1 k)) (k0_pay28 (w1 q) (w1 k) (w1 d) (w1 v)))

/-- The value accumulator after a point on the diagonal. -/
def diagDV (X : Vals F S2x1024x128 .f32) : Vals F S2x1024x128 .f32 :=
  upd (upd (upd (upd X ![0, 0, 0] S1x512x128.size inb_S2x1024x128_S1x512x128_0_0_0 (k0_pay37 (w0 q) (u0 k) (w0 d)))
    ![0, 512, 0] S1x512x128.size inb_S2x1024x128_S1x512x128_0_512_0 (k0_pay47 (k0_pay43 (l0 d)) (k0_pay44 (l0 q) (l0 k))))
    ![1, 0, 0] S1x512x128.size inb_S2x1024x128_S1x512x128_1_0_0 (k0_pay55 (k0_pay50 (w1 q)) (k0_pay51 (u1 k)) (w1 d)))
    ![1, 512, 0] S1x512x128.size inb_S2x1024x128_S1x512x128_1_512_0
      (fun w => k0_pay7 (k0_pay60 (l1 d)) (k0_pay63 w) (k0_pay64 (l1 q) (l1 k)) (constant S512x128 .f32 0x00000000#32))

/-- The key accumulator after a point on the diagonal. -/
def diagDK (X : Vals F S2x1024x128 .f32) : Vals F S2x1024x128 .f32 :=
  upd (upd (upd (upd X ![0, 0, 0] S1x512x128.size inb_S2x1024x128_S1x512x128_0_0_0 (fun w => k0_pay39 (k0_pay38 (w0 q) (u0 k) (w0 d) (u0 v) w)))
    ![0, 512, 0] S1x512x128.size inb_S2x1024x128_S1x512x128_0_512_0 (k0_pay48 (k0_pay41 (l0 q)) (k0_pay45 (l0 q) (l0 k) (l0 d) (l0 v))))
    ![1, 0, 0] S1x512x128.size inb_S2x1024x128_S1x512x128_1_0_0 (k0_pay56 (k0_pay50 (w1 q)) (k0_pay51 (u1 k)) (w1 d) (u1 v)))
    ![1, 512, 0] S1x512x128.size inb_S2x1024x128_S1x512x128_1_512_0 (k0_pay8 (k0_pay58 (l1 q)) (k0_pay62 (l1 q) (l1 k) (l1 d) (l1 v)))

/-- The query accumulator after a point on the diagonal whose query block starts at row `r`. -/
def diagDQ (r : ℕ) (hr : r + 1024 ≤ 8192) (X : Vals F S2x8192x128 .f32) : Vals F S2x8192x128 .f32 :=
  upd (upd (upd (upd X ![0, r, 0] S1x1024x128.size (inbQ1024 _ _ (by decide) hr) (k0_pay40 (k0_pay33 (u0 k)) (k0_pay36 (w0 q) (u0 k) (w0 d) (u0 v))))
    ![0, r + 512, 0] S1x512x128.size (inbQ512 _ _ (by decide) (by omega)) (k0_pay49 (k0_pay42 (l0 k)) (k0_pay45 (l0 q) (l0 k) (l0 d) (l0 v))))
    ![1, r, 0] S1x1024x128.size (inbQ1024 _ _ (by decide) hr) (k0_pay57 (k0_pay51 (u1 k)) (k0_pay54 (k0_pay50 (w1 q)) (k0_pay51 (u1 k)) (w1 d) (u1 v))))
    ![1, r + 512, 0] S1x512x128.size (inbQ512 _ _ (by decide) (by omega)) (k0_pay9 (k0_pay59 (l1 k)) (k0_pay62 (l1 q) (l1 k) (l1 d) (l1 v)))

end

/-- Head 0 and head 1 of an accumulator. -/
abbrev h0 (X : Vals F S2x1024x128 .f32) : Vals F S1x1024x128 .f32 := VecWindow.window X ![0, 0, 0] S1x1024x128.size inb_S2x1024x128_S1x1024x128_0_0_0
abbrev h1 (X : Vals F S2x1024x128 .f32) : Vals F S1x1024x128 .f32 := VecWindow.window X ![1, 0, 0] S1x1024x128.size inb_S2x1024x128_S1x1024x128_1_0_0
abbrev H0 (X : Vals F S2x8192x128 .f32) : Vals F S1x8192x128 .f32 := VecWindow.window X ![0, 0, 0] S1x8192x128.size inb_S2x8192x128_S1x8192x128_0_0_0
abbrev H1 (X : Vals F S2x8192x128 .f32) : Vals F S1x8192x128 .f32 := VecWindow.window X ![1, 0, 0] S1x8192x128.size inb_S2x8192x128_S1x8192x128_1_0_0

/-- The blocks written back: the gradients of k and of v, the sums over queries; the gradient of q, the sums over keys. -/
def outDK (X : Vals F S2x1024x128 .f32) : Vals F S1024x128 .bf16 := k0_pay10 (h0 X) (h1 X)
def outDV (X : Vals F S2x1024x128 .f32) : Vals F S1024x128 .bf16 := k0_pay11 (h0 X) (h1 X)
def outDN (X : Vals F S2x1024x128 .f32) : Vals F S1024x128 .f32 := k0_pay12 (h0 X) (h1 X)
def outDQ (X : Vals F S2x8192x128 .f32) : Vals F S8192x128 .bf16 := k0_pay14 (H0 X) (H1 X)
def outRow (X : Vals F S2x8192x128 .f32) : Vals F S8192x128 .f32 := k0_pay15 (H0 X) (H1 X)

end Cert.Fox

end
-- ==== Proof.Read.lean ====
/-
  Reading the call's buffers: what a load of a held buffer reads and what a list of stores leaves, in the two functions of Spec.lean
  (a window of an array, an array with a window replaced); the offsets of the query accumulator's windows as numbers; and when two
  arrays with the same windows replaced agree.
-/
module

public import proofs.«01_k».proof.Proof.Spec

@[expose] public section

noncomputable section

namespace Cert.Fox

open Cert.KernelIdeal Cert.KernelIdeal.Gen
open Idealize.ShloMosaic

section
variable {sig : RefSig} {κ : Kind} {sp : Space} {s : Shape} {e : EltTy} {Val : EltTy → Type}

theorem load_rep [∀ e, Nonempty (Val e)] (v : View sig κ sp s e) (x : s.Idx → Val e) {off size : Fin s.rank → ℕ} (inb : ∀ a, off a + size a ≤ s.size a) :
    v.readAt Val (Rect.unit off size inb).toLoadRect (v.rep x) = VecWindow.window x off size inb :=
  View.readAt_rep_unit v x inb rfl inb

theorem load_any (v : View sig κ sp s e) (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

theorem store_cons (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

theorem load_cov [∀ e, Nonempty (Val e)] (v : View sig κ sp s e) (L : List (View.Piece Val s e)) {off size : Fin s.rank → ℕ} (inb : ∀ a, off a + size a ≤ s.size a) :
    v.readCov L (Rect.unit off size inb).toLoadRect = VecWindow.window (v.read Val (v.writes Val v.junk L)) off size inb :=
  load_any v _ inb

theorem store_nil [∀ e, Nonempty (Val e)] (v : View sig κ sp s e) (x : s.Idx → Val e) : v.read Val (v.writes Val (v.rep x) []) = x := by
  rw [View.writes_nil, View.read_rep]
end

section
variable {α : Type}

/-- A put of the whole array. -/
theorem put_all {s : Shape} (off : Fin s.rank → ℕ) (h : ∀ a, off a = 0) (x w : s.Idx → α) : VecWindow.put x off s.size w = w := by
  funext y
  unfold VecWindow.put
  have hy : ∀ a, off a ≤ (y a).val ∧ (y a).val < off a + s.size a := fun a => by
    rw [h a]; exact ⟨Nat.zero_le _, by have := (y a).isLt; omega⟩
  rw [dif_pos hy]
  congr 1
  funext a
  exact Fin.ext (by show (y a).val - off a = (y a).val; rw [h a]; rfl)
theorem put_all_DQ (x : S2x8192x128.Idx → α) (w : ((a : Fin 3) → Fin ((![2, 8192, 128] : Fin 3 → ℕ) a)) → α) : VecWindow.put (s := S2x8192x128) x ![0, 0, 0] ![2, 8192, 128] w = w := put_all ![0, 0, 0] (by decide) x w
theorem put_all_DK (x : S2x1024x128.Idx → α) (w : ((a : Fin 3) → Fin ((![2, 1024, 128] : Fin 3 → ℕ) a)) → α) : VecWindow.put (s := S2x1024x128) x ![0, 0, 0] ![2, 1024, 128] w = w := put_all ![0, 0, 0] (by decide) x w
theorem put_all_k (x : S1024x128.Idx → α) (w : ((a : Fin 2) → Fin ((![1024, 128] : Fin 2 → ℕ) a)) → α) : VecWindow.put (s := S1024x128) x ![0, 0] ![1024, 128] w = w := put_all ![0, 0] (by decide) x w
theorem put_all_q (x : S8192x128.Idx → α) (w : ((a : Fin 2) → Fin ((![8192, 128] : Fin 2 → ℕ) a)) → α) : VecWindow.put (s := S8192x128) x ![0, 0] ![8192, 128] w = w := put_all ![0, 0] (by decide) x w

/-- Head 0's window does not see head 1's put, nor the other way round; each sees its own. -/
theorem win_put_01 (x : S2x1024x128.Idx → α) (w : ((a : Fin 3) → Fin ((![1, 1024, 128] : Fin 3 → ℕ) a)) → α) :
    VecWindow.window (VecWindow.put (s := S2x1024x128) x ![1, 0, 0] ![1, 1024, 128] w) ![0, 0, 0] ![1, 1024, 128] inb_S2x1024x128_S1x1024x128_0_0_0
      = VecWindow.window x ![0, 0, 0] ![1, 1024, 128] inb_S2x1024x128_S1x1024x128_0_0_0 :=
  VecWindow.window_put_of_disjoint _ _ _ _ _ _ _ 0 (by decide)
theorem win_put_10 (x : S2x1024x128.Idx → α) (w : ((a : Fin 3) → Fin ((![1, 1024, 128] : Fin 3 → ℕ) a)) → α) :
    VecWindow.window (VecWindow.put (s := S2x1024x128) x ![0, 0, 0] ![1, 1024, 128] w) ![1, 0, 0] ![1, 1024, 128] inb_S2x1024x128_S1x1024x128_1_0_0
      = VecWindow.window x ![1, 0, 0] ![1, 1024, 128] inb_S2x1024x128_S1x1024x128_1_0_0 :=
  VecWindow.window_put_of_disjoint _ _ _ _ _ _ _ 0 (by decide)
theorem win_put_00 (x : S2x1024x128.Idx → α) (w : ((a : Fin 3) → Fin ((![1, 1024, 128] : Fin 3 → ℕ) a)) → α) :
    VecWindow.window (VecWindow.put (s := S2x1024x128) x ![0, 0, 0] ![1, 1024, 128] w) ![0, 0, 0] ![1, 1024, 128] inb_S2x1024x128_S1x1024x128_0_0_0 = w :=
  VecWindow.window_put_same _ _ _ _ _
theorem win_put_11 (x : S2x1024x128.Idx → α) (w : ((a : Fin 3) → Fin ((![1, 1024, 128] : Fin 3 → ℕ) a)) → α) :
    VecWindow.window (VecWindow.put (s := S2x1024x128) x ![1, 0, 0] ![1, 1024, 128] w) ![1, 0, 0] ![1, 1024, 128] inb_S2x1024x128_S1x1024x128_1_0_0 = w :=
  VecWindow.window_put_same _ _ _ _ _

/-- A put under two puts that together hide it. -/
theorem put_cover2 (x x' : S2x1024x128.Idx → α) (w w' : ((a : Fin 3) → Fin (S1x1024x128.size a)) → α) :
    VecWindow.put (VecWindow.put x ![0, 0, 0] S1x1024x128.size w) ![1, 0, 0] S1x1024x128.size w'
      = VecWindow.put (VecWindow.put x' ![0, 0, 0] S1x1024x128.size w) ![1, 0, 0] S1x1024x128.size w' := by
  funext y
  unfold VecWindow.put
  by_cases h : ∀ a, (![1, 0, 0] : Fin 3 → ℕ) a ≤ (y a).val ∧ (y a).val < (![1, 0, 0] : Fin 3 → ℕ) a + S1x1024x128.size a
  · rw [dif_pos h, dif_pos h]
  · have h2 : ∀ a, (![0, 0, 0] : Fin 3 → ℕ) a ≤ (y a).val ∧ (y a).val < (![0, 0, 0] : Fin 3 → ℕ) a + S1x1024x128.size a := by
      have b0 : (y 0).val < 2 := (y 0).isLt
      have b1 : (y 1).val < 1024 := (y 1).isLt
      have b2 : (y 2).val < 128 := (y 2).isLt
      have : (y 0).val ≠ 1 := fun e => h fun
        | 0 => ⟨show 1 ≤ (y 0).val by omega, show (y 0).val < 1 + 1 by omega⟩
        | 1 => ⟨Nat.zero_le _, show (y 1).val < 0 + 1024 by omega⟩
        | 2 => ⟨Nat.zero_le _, show (y 2).val < 0 + 128 by omega⟩
      exact fun
        | 0 => ⟨Nat.zero_le _, show (y 0).val < 0 + 1 by omega⟩
        | 1 => ⟨Nat.zero_le _, show (y 1).val < 0 + 1024 by omega⟩
        | 2 => ⟨Nat.zero_le _, show (y 2).val < 0 + 128 by omega⟩
    rw [dif_neg h, dif_neg h, dif_pos h2, dif_pos h2]

end

/-- A word below 8 times 1024 is the number. -/
theorem rows_toNat (v1 : BitVec 32) (h : 1024 * v1.toNat + 1024 ≤ 8192) (e : ℕ) (he : e ≤ 512) :
    (Scalar.indexCast (Scalar.addi (Scalar.muli v1 1024#32) (BitVec.ofNat 32 e)) : Index).toNat = 1024 * v1.toNat + e := by
  show (v1 * 1024#32 + BitVec.ofNat 32 e).toNat = _
  rw [BitVec.toNat_add, BitVec.toNat_mul, BitVec.toNat_ofNat, BitVec.toNat_ofNat]
  omega

theorem off2_eq (v1 : BitVec 32) (h : 1024 * v1.toNat + 1024 ≤ 8192) : k0_off2 v1 = ![0, 1024 * v1.toNat, 0] := by
  show ![0, _, 0] = _; rw [rows_toNat v1 h 0 (by decide)]; rfl
theorem off3_eq (v1 : BitVec 32) (h : 1024 * v1.toNat + 1024 ≤ 8192) : k0_off3 v1 = ![1, 1024 * v1.toNat, 0] := by
  show ![1, _, 0] = _; rw [rows_toNat v1 h 0 (by decide)]; rfl
theorem off4_eq (v1 : BitVec 32) (h : 1024 * v1.toNat + 1024 ≤ 8192) : k0_off4 v1 = ![0, 1024 * v1.toNat, 0] := by
  show ![0, _, 0] = _; rw [rows_toNat v1 h 0 (by decide)]; rfl
theorem off5_eq (v1 : BitVec 32) (h : 1024 * v1.toNat + 1024 ≤ 8192) : k0_off5 v1 = ![0, 1024 * v1.toNat + 512, 0] := by
  show ![0, _, 0] = _; rw [rows_toNat v1 h 512 (by decide)]
theorem off6_eq (v1 : BitVec 32) (h : 1024 * v1.toNat + 1024 ≤ 8192) : k0_off6 v1 = ![1, 1024 * v1.toNat, 0] := by
  show ![1, _, 0] = _; rw [rows_toNat v1 h 0 (by decide)]; rfl
theorem off7_eq (v1 : BitVec 32) (h : 1024 * v1.toNat + 1024 ≤ 8192) : k0_off7 v1 = ![1, 1024 * v1.toNat + 512, 0] := by
  show ![1, _, 0] = _; rw [rows_toNat v1 h 512 (by decide)]

end Cert.Fox

end
-- ==== Proof.Body.lean ====
/-
  One grid point of the attention's backward call as a triple, for each of the five kinds of point: the buffers it reads are left as they
  are, the accumulators and the output blocks hold the functions of Spec.lean.
-/
module

public import proofs.«01_k».proof.Proof.Read
public import Idealize.ShloMosaic.Lib.Pipeline.Kit
public import Idealize.ShloMosaic.Lib.Tactic

@[expose] public section

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ
/-- The contents of a memref's buffer on a device. -/
abbrev Bf (c : Dev nD) {sp : Space} {S : Shape} {e : EltTy} (M : Memref sig .tc sp S e) : Type := Buf (Elt F) (M.view.loc (c : Thread nD τ))
/-- A memref held whole with contents `f`. -/
abbrev pt (c : Dev nD) {sp : Space} {S : Shape} {e : EltTy} (M : Memref sig .tc sp S e) (f : Bf (F := F) c M) : sProp 𝕄 :=
  M.view.loc (c : Thread nD τ) ↦[M.view.set]{fullShare} f
/-- A table held at the half share the pipeline leaves the body. -/
abbrev ptt (c : Dev nD) {sp : Space} {S : Shape} {e : EltTy} (M : Memref sig .tc sp S e) (f : Bf (F := F) c M) : sProp 𝕄 :=
  M.view.loc (c : Thread nD τ) ↦[M.view.set]{fullShare.right} f

section
variable (c : Dev nD) (i : grid0.Coords) (arg2 : Memref sig .tc .smem S36 .i32) (harg2 : arg2.IsWhole) (arg3 : Memref sig .tc .smem S36 .i32) (harg3 : arg3.IsWhole)
    (arg4 : Memref sig .tc .vmem S1024x256 .bf16) (harg4 : arg4.IsWhole) (arg5 : Memref sig .tc .vmem S1024x256 .bf16) (harg5 : arg5.IsWhole)
    (arg6 : Memref sig .tc .vmem S1024x256 .bf16) (harg6 : arg6.IsWhole) (arg7 : Memref sig .tc .vmem S1024x256 .bf16) (harg7 : arg7.IsWhole)
    (arg8 : Memref sig .tc .hbm S8192x3072 .bf16) (harg8 : arg8.IsWhole) (arg9 : Memref sig .tc .vmem S8192x128 .bf16) (harg9 : arg9.IsWhole)
    (arg10 : Memref sig .tc .vmem S1024x128 .bf16) (harg10 : arg10.IsWhole) (arg11 : Memref sig .tc .vmem S1024x128 .bf16) (harg11 : arg11.IsWhole)
    (arg12 : Memref sig .tc .vmem S1024x128 .f32) (harg12 : arg12.IsWhole) (arg13 : Memref sig .tc .vmem S8192x128 .f32) (harg13 : arg13.IsWhole)
    (arg14 : Memref sig .tc .vmem S2x8192x128 .f32) (harg14 : arg14.IsWhole) (arg15 : Memref sig .tc .vmem S2x1024x128 .f32) (harg15 : arg15.IsWhole)
    (arg16 : Memref sig .tc .vmem S2x1024x128 .f32) (harg16 : arg16.IsWhole)
    (f2 : Bf (F := F) c arg2) (f3 : Bf (F := F) c arg3) (v1 v3 : BitVec 32)
    (hv1 : arg2.view.readAt (Elt F) (Rect.unit (s := S36) (k0_off1 i) S1.size (k0_off1_inb i)).toLoadRect f2 = fun _ => v1)
    (hv3 : arg3.view.readAt (Elt F) (Rect.unit (s := S36) (k0_off1 i) S1.size (k0_off1_inb i)).toLoadRect f3 = fun _ => v3)
    (hchk : k0_chk1 v1 v3) (hr : 1024 * v1.toNat + 1024 ≤ 8192)
    (q k v d : Vals F S1024x256 .bf16)

set_option maxHeartbeats 1000000 in
include hv1 hv3 hchk in
/-- A point below the diagonal, not in the last block row: the accumulators take the block pair’s terms. -/
theorem offRun (hn : ¬ Scalar.cmpi .ne (Scalar.extui (Scalar.cmpi .eq (BitVec.ofNat 32 (i 1).val) 0#32) : BitVec 32) 0#32 = 1#1) (he : ¬ Scalar.cmpi .ne (Scalar.extui (Scalar.cmpi .eq v1 v3) : BitVec 32) 0#32 = 1#1)
    (hc3 : k0_cond3 v1 v3 = 1#1) (hc4 : ¬ k0_cond4 v1 v3 = 1#1) (hc5 : ¬ k0_cond5 v1 = 1#1) (hc6 : ¬ k0_cond6 i = 1#1)
    (DQ : Vals F S2x8192x128 .f32) (DK DV : Vals F S2x1024x128 .f32) (Q : PUnit → sProp 𝕄) :
    iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep DQ) ∗ pt c arg15 (arg15.view.rep DK) ∗ pt c arg16 (arg16.view.rep DV)
      ∗ (iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep (offDQ q k v d (1024 * v1.toNat) hr DQ)) ∗ pt c arg15 (arg15.view.rep (offDK q k v d DK)) ∗ pt c arg16 (arg16.view.rep (offDV q k d DV))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H14, H15, H16, Hk⟩
  rw [cc0_fox_bwd_eq_skeleton]
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H14]
  · iapply (pointsTo_rep_of_read _ _ _ _ _ ?_) $$ H14
    sl_unfold_run_names
    simp only [fun f inb => View.readAt_unit arg14.view (Val := Elt F) f inb (off2_eq v1 hr) (inbQ1024 _ _ (by decide) hr),
      fun f inb => View.readAt_unit arg14.view (Val := Elt F) f inb (off3_eq v1 hr) (inbQ1024 _ _ (by decide) hr)]
    simp only [load_any, load_cov, store_cons, store_nil, View.read_rep, put_all_DQ, put_all_DK, put_all_k, put_all_q, off2_eq v1 hr, off3_eq v1 hr]
    simp only [offDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H15]
  · iapply (pointsTo_rep_of_read _ _ _ _ _ ?_) $$ H15
    sl_unfold_run_names
    simp only [load_any, load_cov, store_cons, store_nil, View.read_rep, put_all_DQ, put_all_DK, put_all_k, put_all_q]
    simp only [offDK, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    exact put_cover2 _ _ _ _
  · iapply (pointsTo_rep_of_read _ _ _ _ _ ?_) $$ H16
    sl_unfold_run_names
    simp only [load_any, load_cov, store_cons, store_nil, View.read_rep, put_all_DQ, put_all_DK, put_all_k, put_all_q]
    simp only [offDV, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    exact put_cover2 _ _ _ _

set_option maxHeartbeats 1000000 in
include hv1 hv3 hchk in
/-- A point below the diagonal in the last block row: the key and value accumulators are written back too. -/
theorem offOut (hn : ¬ Scalar.cmpi .ne (Scalar.extui (Scalar.cmpi .eq (BitVec.ofNat 32 (i 1).val) 0#32) : BitVec 32) 0#32 = 1#1) (he : ¬ Scalar.cmpi .ne (Scalar.extui (Scalar.cmpi .eq v1 v3) : BitVec 32) 0#32 = 1#1)
    (hc3 : k0_cond3 v1 v3 = 1#1) (hc4 : ¬ k0_cond4 v1 v3 = 1#1) (hc5 : k0_cond5 v1 = 1#1) (hc6 : ¬ k0_cond6 i = 1#1)
    (DQ : Vals F S2x8192x128 .f32) (DK DV : Vals F S2x1024x128 .f32) (g10 : Bf (F := F) c arg10) (g11 : Bf (F := F) c arg11) (g12 : Bf (F := F) c arg12) (Q : PUnit → sProp 𝕄) :
    iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep DQ) ∗ pt c arg15 (arg15.view.rep DK) ∗ pt c arg16 (arg16.view.rep DV) ∗ pt c arg10 g10 ∗ pt c arg11 g11 ∗ pt c arg12 g12
      ∗ (iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep (offDQ q k v d (1024 * v1.toNat) hr DQ)) ∗ pt c arg15 (arg15.view.rep (offDK q k v d DK)) ∗ pt c arg16 (arg16.view.rep (offDV q k d DV)) ∗ pt c arg10 (arg10.view.rep (outDK (offDK q k v d DK))) ∗ pt c arg11 (arg11.view.rep (outDV (offDV q k d DV))) ∗ pt c arg12 (arg12.view.rep (outDN (offDK q k v d DK)))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H14, H15, H16, H10, H11, H12, Hk⟩
  rw [cc0_fox_bwd_eq_skeleton]
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H14]
  · iapply (pointsTo_rep_of_read _ _ _ _ _ ?_) $$ H14
    sl_unfold_run_names
    simp only [fun f inb => View.readAt_unit arg14.view (Val := Elt F) f inb (off2_eq v1 hr) (inbQ1024 _ _ (by decide) hr),
      fun f inb => View.readAt_unit arg14.view (Val := Elt F) f inb (off3_eq v1 hr) (inbQ1024 _ _ (by decide) hr)]
    simp only [load_any, load_cov, store_cons, store_nil, View.read_rep, put_all_DQ, put_all_DK, put_all_k, put_all_q, off2_eq v1 hr, off3_eq v1 hr]
    simp only [offDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H15]
  · iapply (pointsTo_rep_of_read _ _ _ _ _ ?_) $$ H15
    sl_unfold_run_names
    simp only [load_any, load_cov, store_cons, store_nil, View.read_rep, put_all_DQ, put_all_DK, put_all_k, put_all_q]
    simp only [offDK, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    exact put_cover2 _ _ _ _
  isplitl [H16]
  · iapply (pointsTo_rep_of_read _ _ _ _ _ ?_) $$ H16
    sl_unfold_run_names
    simp only [load_any, load_cov, store_cons, store_nil, View.read_rep, put_all_DQ, put_all_DK, put_all_k, put_all_q]
    simp only [offDV, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    exact put_cover2 _ _ _ _
  isplitl [H10]
  · iapply (pointsTo_rep_of_read _ _ _ _ _ ?_) $$ H10
    sl_unfold_run_names
    simp only [load_any, load_cov, store_cons, store_nil, View.read_rep, put_all_DQ, put_all_DK, put_all_k, put_all_q]
    simp only [offDK, outDK, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H11]
  · iapply (pointsTo_rep_of_read _ _ _ _ _ ?_) $$ H11
    sl_unfold_run_names
    simp only [load_any, load_cov, store_cons, store_nil, View.read_rep, put_all_DQ, put_all_DK, put_all_k, put_all_q]
    simp only [offDV, outDV, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  · iapply (pointsTo_rep_of_read _ _ _ _ _ ?_) $$ H12
    sl_unfold_run_names
    simp only [load_any, load_cov, store_cons, store_nil, View.read_rep, put_all_DQ, put_all_DK, put_all_k, put_all_q]
    simp only [offDK, outDN, upd, w0, w1, u0, u1, l0, l1, h0, h1, H0, H1, win_put_00, win_put_01, win_put_10, win_put_11, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

set_option maxHeartbeats 1000000 in
include hv1 hv3 hchk in
/-- A point on the diagonal, past the first and before the last: the key and value accumulators start from zero. -/
theorem diagRun (hn : ¬ Scalar.cmpi .ne (Scalar.extui (Scalar.cmpi .eq (BitVec.ofNat 32 (i 1).val) 0#32) : BitVec 32) 0#32 = 1#1) (he : Scalar.cmpi .ne (Scalar.extui (Scalar.cmpi .eq v1 v3) : BitVec 32) 0#32 = 1#1)
    (hc3 : ¬ k0_cond3 v1 v3 = 1#1) (hc4 : k0_cond4 v1 v3 = 1#1) (hc5 : ¬ k0_cond5 v1 = 1#1) (hc6 : ¬ k0_cond6 i = 1#1)
    (DQ : Vals F S2x8192x128 .f32) (g15 : Bf (F := F) c arg15) (g16 : Bf (F := F) c arg16) (Q : PUnit → sProp 𝕄) :
    iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep DQ) ∗ pt c arg15 g15 ∗ pt c arg16 g16
      ∗ (iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep (diagDQ q k v d (1024 * v1.toNat) hr DQ)) ∗ pt c arg15 (arg15.view.rep (diagDK q k v d (k0_pay3 (F := F)))) ∗ pt c arg16 (arg16.view.rep (diagDV q k d (k0_pay4 (F := F))))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H14, H15, H16, Hk⟩
  rw [cc0_fox_bwd_eq_skeleton]
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H14]
  · iapply (pointsTo_rep_of_read _ _ _ _ _ ?_) $$ H14
    sl_unfold_run_names
    simp only [fun f inb => View.readAt_unit arg14.view (Val := Elt F) f inb (off4_eq v1 hr) (inbQ1024 _ _ (by decide) hr),
      fun f inb => View.readAt_unit arg14.view (Val := Elt F) f inb (off5_eq v1 hr) (inbQ512 _ _ (by decide) (by omega)),
      fun f inb => View.readAt_unit arg14.view (Val := Elt F) f inb (off6_eq v1 hr) (inbQ1024 _ _ (by decide) hr),
      fun f inb => View.readAt_unit arg14.view (Val := Elt F) f inb (off7_eq v1 hr) (inbQ512 _ _ (by decide) (by omega))]
    simp only [load_any, load_cov, store_cons, store_nil, View.read_rep, put_all_DQ, put_all_DK, put_all_k, put_all_q, off4_eq v1 hr, off5_eq v1 hr, off6_eq v1 hr, off7_eq v1 hr]
    simp only [diagDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H15]
  · iapply (pointsTo_rep_of_read _ _ _ _ _ ?_) $$ H15
    sl_unfold_run_names
    simp only [load_any, load_cov, store_cons, store_nil, View.read_rep, put_all_DQ, put_all_DK, put_all_k, put_all_q]
    simp only [diagDK, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  · iapply (pointsTo_rep_of_read _ _ _ _ _ ?_) $$ H16
    sl_unfold_run_names
    simp only [load_any, load_cov, store_cons, store_nil, View.read_rep, put_all_DQ, put_all_DK, put_all_k, put_all_q]
    simp only [diagDV, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

set_option maxHeartbeats 1000000 in
include hv1 hv3 hchk in
/-- The first point of a group: all three accumulators start from zero. -/
theorem diagFirst (hn : Scalar.cmpi .ne (Scalar.extui (Scalar.cmpi .eq (BitVec.ofNat 32 (i 1).val) 0#32) : BitVec 32) 0#32 = 1#1) (he : Scalar.cmpi .ne (Scalar.extui (Scalar.cmpi .eq v1 v3) : BitVec 32) 0#32 = 1#1)
    (hc3 : ¬ k0_cond3 v1 v3 = 1#1) (hc4 : k0_cond4 v1 v3 = 1#1) (hc5 : ¬ k0_cond5 v1 = 1#1) (hc6 : ¬ k0_cond6 i = 1#1)
    (g14 : Bf (F := F) c arg14) (g15 : Bf (F := F) c arg15) (g16 : Bf (F := F) c arg16) (Q : PUnit → sProp 𝕄) :
    iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 g14 ∗ pt c arg15 g15 ∗ pt c arg16 g16
      ∗ (iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep (diagDQ q k v d (1024 * v1.toNat) hr (k0_pay2 (F := F)))) ∗ pt c arg15 (arg15.view.rep (diagDK q k v d (k0_pay3 (F := F)))) ∗ pt c arg16 (arg16.view.rep (diagDV q k d (k0_pay4 (F := F))))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H14, H15, H16, Hk⟩
  rw [cc0_fox_bwd_eq_skeleton]
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H14]
  · iapply (pointsTo_rep_of_read _ _ _ _ _ ?_) $$ H14
    sl_unfold_run_names
    simp only [fun f inb => View.readAt_unit arg14.view (Val := Elt F) f inb (off4_eq v1 hr) (inbQ1024 _ _ (by decide) hr),
      fun f inb => View.readAt_unit arg14.view (Val := Elt F) f inb (off5_eq v1 hr) (inbQ512 _ _ (by decide) (by omega)),
      fun f inb => View.readAt_unit arg14.view (Val := Elt F) f inb (off6_eq v1 hr) (inbQ1024 _ _ (by decide) hr),
      fun f inb => View.readAt_unit arg14.view (Val := Elt F) f inb (off7_eq v1 hr) (inbQ512 _ _ (by decide) (by omega))]
    simp only [load_any, load_cov, store_cons, store_nil, View.read_rep, put_all_DQ, put_all_DK, put_all_k, put_all_q, off4_eq v1 hr, off5_eq v1 hr, off6_eq v1 hr, off7_eq v1 hr]
    simp only [diagDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H15]
  · iapply (pointsTo_rep_of_read _ _ _ _ _ ?_) $$ H15
    sl_unfold_run_names
    simp only [load_any, load_cov, store_cons, store_nil, View.read_rep, put_all_DQ, put_all_DK, put_all_k, put_all_q]
    simp only [diagDK, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  · iapply (pointsTo_rep_of_read _ _ _ _ _ ?_) $$ H16
    sl_unfold_run_names
    simp only [load_any, load_cov, store_cons, store_nil, View.read_rep, put_all_DQ, put_all_DK, put_all_k, put_all_q]
    simp only [diagDV, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

set_option maxHeartbeats 1000000 in
include hv1 hv3 hchk in
/-- The last point of a group: all five results are written back. -/
theorem diagLast (hn : ¬ Scalar.cmpi .ne (Scalar.extui (Scalar.cmpi .eq (BitVec.ofNat 32 (i 1).val) 0#32) : BitVec 32) 0#32 = 1#1) (he : Scalar.cmpi .ne (Scalar.extui (Scalar.cmpi .eq v1 v3) : BitVec 32) 0#32 = 1#1)
    (hc3 : ¬ k0_cond3 v1 v3 = 1#1) (hc4 : k0_cond4 v1 v3 = 1#1) (hc5 : k0_cond5 v1 = 1#1) (hc6 : k0_cond6 i = 1#1)
    (DQ : Vals F S2x8192x128 .f32) (g15 : Bf (F := F) c arg15) (g16 : Bf (F := F) c arg16) (g10 : Bf (F := F) c arg10) (g11 : Bf (F := F) c arg11) (g12 : Bf (F := F) c arg12) (g9 : Bf (F := F) c arg9) (g13 : Bf (F := F) c arg13) (Q : PUnit → sProp 𝕄) :
    iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep DQ) ∗ pt c arg15 g15 ∗ pt c arg16 g16 ∗ pt c arg10 g10 ∗ pt c arg11 g11 ∗ pt c arg12 g12 ∗ pt c arg9 g9 ∗ pt c arg13 g13
      ∗ (iprop(ptt c arg2 f2 ∗ ptt c arg3 f3 ∗ pt c arg4 (arg4.view.rep q) ∗ pt c arg5 (arg5.view.rep k) ∗ pt c arg6 (arg6.view.rep v) ∗ pt c arg7 (arg7.view.rep d) ∗ pt c arg14 (arg14.view.rep (diagDQ q k v d (1024 * v1.toNat) hr DQ)) ∗ pt c arg15 (arg15.view.rep (diagDK q k v d (k0_pay3 (F := F)))) ∗ pt c arg16 (arg16.view.rep (diagDV q k d (k0_pay4 (F := F)))) ∗ pt c arg10 (arg10.view.rep (outDK (diagDK q k v d (k0_pay3 (F := F))))) ∗ pt c arg11 (arg11.view.rep (outDV (diagDV q k d (k0_pay4 (F := F))))) ∗ pt c arg12 (arg12.view.rep (outDN (diagDK q k v d (k0_pay3 (F := F))))) ∗ pt c arg9 (arg9.view.rep (outDQ (diagDQ q k v d (1024 * v1.toNat) hr DQ))) ∗ pt c arg13 (arg13.view.rep (outRow (diagDQ q k v d (1024 * v1.toNat) hr DQ)))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  iintro ⟨H2, H3, H4, H5, H6, H7, H14, H15, H16, H10, H11, H12, H9, H13, Hk⟩
  rw [cc0_fox_bwd_eq_skeleton]
  sl_exec!
  sl_step
  iapply Hk
  isplitl [H2]; · iexact H2
  isplitl [H3]; · iexact H3
  isplitl [H4]; · iexact H4
  isplitl [H5]; · iexact H5
  isplitl [H6]; · iexact H6
  isplitl [H7]; · iexact H7
  isplitl [H14]
  · iapply (pointsTo_rep_of_read _ _ _ _ _ ?_) $$ H14
    sl_unfold_run_names
    simp only [fun f inb => View.readAt_unit arg14.view (Val := Elt F) f inb (off4_eq v1 hr) (inbQ1024 _ _ (by decide) hr),
      fun f inb => View.readAt_unit arg14.view (Val := Elt F) f inb (off5_eq v1 hr) (inbQ512 _ _ (by decide) (by omega)),
      fun f inb => View.readAt_unit arg14.view (Val := Elt F) f inb (off6_eq v1 hr) (inbQ1024 _ _ (by decide) hr),
      fun f inb => View.readAt_unit arg14.view (Val := Elt F) f inb (off7_eq v1 hr) (inbQ512 _ _ (by decide) (by omega))]
    simp only [load_any, load_cov, store_cons, store_nil, View.read_rep, put_all_DQ, put_all_DK, put_all_k, put_all_q, off4_eq v1 hr, off5_eq v1 hr, off6_eq v1 hr, off7_eq v1 hr]
    simp only [diagDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H15]
  · iapply (pointsTo_rep_of_read _ _ _ _ _ ?_) $$ H15
    sl_unfold_run_names
    simp only [load_any, load_cov, store_cons, store_nil, View.read_rep, put_all_DQ, put_all_DK, put_all_k, put_all_q]
    simp only [diagDK, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H16]
  · iapply (pointsTo_rep_of_read _ _ _ _ _ ?_) $$ H16
    sl_unfold_run_names
    simp only [load_any, load_cov, store_cons, store_nil, View.read_rep, put_all_DQ, put_all_DK, put_all_k, put_all_q]
    simp only [diagDV, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H10]
  · iapply (pointsTo_rep_of_read _ _ _ _ _ ?_) $$ H10
    sl_unfold_run_names
    simp only [load_any, load_cov, store_cons, store_nil, View.read_rep, put_all_DQ, put_all_DK, put_all_k, put_all_q]
    simp only [diagDK, outDK, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H11]
  · iapply (pointsTo_rep_of_read _ _ _ _ _ ?_) $$ H11
    sl_unfold_run_names
    simp only [load_any, load_cov, store_cons, store_nil, View.read_rep, put_all_DQ, put_all_DK, put_all_k, put_all_q]
    simp only [diagDV, outDV, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H12]
  · iapply (pointsTo_rep_of_read _ _ _ _ _ ?_) $$ H12
    sl_unfold_run_names
    simp only [load_any, load_cov, store_cons, store_nil, View.read_rep, put_all_DQ, put_all_DK, put_all_k, put_all_q]
    simp only [diagDK, outDN, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  isplitl [H9]
  · iapply (pointsTo_rep_of_read _ _ _ _ _ ?_) $$ H9
    sl_unfold_run_names
    simp only [fun f inb => View.readAt_unit arg14.view (Val := Elt F) f inb (off4_eq v1 hr) (inbQ1024 _ _ (by decide) hr),
      fun f inb => View.readAt_unit arg14.view (Val := Elt F) f inb (off5_eq v1 hr) (inbQ512 _ _ (by decide) (by omega)),
      fun f inb => View.readAt_unit arg14.view (Val := Elt F) f inb (off6_eq v1 hr) (inbQ1024 _ _ (by decide) hr),
      fun f inb => View.readAt_unit arg14.view (Val := Elt F) f inb (off7_eq v1 hr) (inbQ512 _ _ (by decide) (by omega))]
    simp only [load_any, load_cov, store_cons, store_nil, View.read_rep, put_all_DQ, put_all_DK, put_all_k, put_all_q, off4_eq v1 hr, off5_eq v1 hr, off6_eq v1 hr, off7_eq v1 hr]
    simp only [outDQ, diagDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  · iapply (pointsTo_rep_of_read _ _ _ _ _ ?_) $$ H13
    sl_unfold_run_names
    simp only [fun f inb => View.readAt_unit arg14.view (Val := Elt F) f inb (off4_eq v1 hr) (inbQ1024 _ _ (by decide) hr),
      fun f inb => View.readAt_unit arg14.view (Val := Elt F) f inb (off5_eq v1 hr) (inbQ512 _ _ (by decide) (by omega)),
      fun f inb => View.readAt_unit arg14.view (Val := Elt F) f inb (off6_eq v1 hr) (inbQ1024 _ _ (by decide) hr),
      fun f inb => View.readAt_unit arg14.view (Val := Elt F) f inb (off7_eq v1 hr) (inbQ512 _ _ (by decide) (by omega))]
    simp only [load_any, load_cov, store_cons, store_nil, View.read_rep, put_all_DQ, put_all_DK, put_all_k, put_all_q, off4_eq v1 hr, off5_eq v1 hr, off6_eq v1 hr, off7_eq v1 hr]
    simp only [outRow, diagDQ, upd, w0, w1, u0, u1, l0, l1, h0, h1, H0, H1, k0_pay5, k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]

end

end Cert.Fox

end
-- ==== Proof.State.lean ====
/-
  The two tables of the grid's second axis, and the words read from them at each point.
-/
module

public import proofs.«01_k».proof.Proof.Spec
public import Idealize.ShloMosaic.Lib.Pipeline.Kit
public import proofs.«01_k».proof.Proof.Gen.KernelIdeal.Launch

@[expose] public section

noncomputable section

namespace Cert.Fox

open Cert.KernelIdeal Cert.KernelIdeal.Gen
open Idealize.ShloMosaic

variable {F : FTy → Type} [FloatOps F] [Named F]

/-- The tables: the query block and the key block of each of the 36 points. -/
def tabs : pre0.Contents (Elt F) := fun
  | 0 => fun i => lit0 (S36.rowMajor i)
  | 1 => fun i => lit1 (S36.rowMajor i)
  | ⟨_ + 2, h⟩ => absurd h (Nat.not_lt.2 (Nat.le_add_left _ _))

theorem ofNat_toNat (n : ℕ) (h : n < 2 ^ 32) : (BitVec.ofNat 32 n).toNat = n := by
  rw [BitVec.toNat_ofNat]; exact Nat.mod_eq_of_lt h

theorem off1_eq (i : grid0.Coords) : (k0_off1 i) 0 = (i 1).val := by
  have h : (i 1).val < 36 := (i 1).isLt
  show (BitVec.ofNat 32 (i 1).val).toNat = _
  exact ofNat_toNat _ (by omega)

/-- The word of the first (second) table at a point of the grid, -/
def itw (i : grid0.Coords) : BitVec 32 := lit0 ⟨(i 1).val, (i 1).isLt⟩
def jtw (i : grid0.Coords) : BitVec 32 := lit1 ⟨(i 1).val, (i 1).isLt⟩

theorem at0 (i : grid0.Coords) (h) (h1) : (tabs (F := F)).at 0 (Rect.unit (s := S36) (k0_off1 i) S1.size h) h1 = itw i := by
  show lit0 _ = lit0 _
  congr 1
  apply Fin.ext
  refine (Shape.rowMajor_val_one _).trans ?_
  show (k0_off1 i) 0 + _ = _
  rw [off1_eq]; exact Nat.add_zero _
theorem at1 (i : grid0.Coords) (h) (h1) : (tabs (F := F)).at 1 (Rect.unit (s := S36) (k0_off1 i) S1.size h) h1 = jtw i := by
  show lit1 _ = lit1 _
  congr 1
  apply Fin.ext
  refine (Shape.rowMajor_val_one _).trans ?_
  show (k0_off1 i) 0 + _ = _
  rw [off1_eq]; exact Nat.add_zero _
theorem atD0 (i : grid0.Coords) : (tabs (F := F)).atD 0 (k0_off1 i) = itw i := by
  refine (dif_pos (c := ∀ a, (k0_off1 i) a + 1 ≤ (pre0.ref 0).ty.shape.size a) (fun a => by
    obtain rfl : a = (0 : Fin 1) := Subsingleton.elim _ _
    exact k0_off1_inb i 0)).trans ?_
  show lit0 _ = lit0 _
  congr 1
  apply Fin.ext
  refine (Shape.rowMajor_val_one _).trans ?_
  exact off1_eq i

theorem itw_lt : ∀ i : grid0.Coords, (itw i).toNat < 8 := fun i => (by decide : ∀ n : Fin 36, (lit0 n).toNat < 8) ⟨(i 1).val, (i 1).isLt⟩
theorem jtw_lt : ∀ i : grid0.Coords, (jtw i).toNat < 8 := fun i => (by decide : ∀ n : Fin 36, (lit1 n).toNat < 8) ⟨(i 1).val, (i 1).isLt⟩

theorem arg0_eq (i : grid0.Coords) : (BitVec.ofNat 32 (i 0).val).toNat = (i 0).val := by
  have h : (i 0).val < 8 := (i 0).isLt
  exact ofNat_toNat _ (by omega)

theorem tr0_eq (i : grid0.Coords) : cc0_transform_0 (F := F) k0_off1_inb numel1_S1 tabs i = ![(itw i).toNat, (i 0).val] := by
  show ![BitVec.toNat ((tabs (F := F)).at 0 (Rect.unit (s := S36) (k0_off1 i) S1.size (k0_off1_inb i)) numel1_S1), _] = _
  rw [at0 i _ numel1_S1, arg0_eq]
theorem tr1_eq (i : grid0.Coords) : cc0_transform_1 (F := F) k0_off1_inb numel1_S1 tabs i = ![(jtw i).toNat, (i 0).val] := by
  show ![BitVec.toNat ((tabs (F := F)).at 1 (Rect.unit (s := S36) (k0_off1 i) S1.size (k0_off1_inb i)) numel1_S1), _] = _
  rw [at1 i _ numel1_S1, arg0_eq]
theorem tr2_eq (i : grid0.Coords) : cc0_transform_2 (F := F) k0_off1_inb numel1_S1 tabs i = ![(jtw i).toNat, (i 0).val] := tr1_eq i
theorem tr3_eq (i : grid0.Coords) : cc0_transform_3 (F := F) k0_off1_inb numel1_S1 tabs i = ![(itw i).toNat, (i 0).val] := tr0_eq i
theorem tr6_eq (i : grid0.Coords) : cc0_transform_6 (F := F) k0_off1_inb numel1_S1 tabs i = ![(jtw i).toNat, (i 0).val] := tr1_eq i
theorem tr7_eq (i : grid0.Coords) : cc0_transform_7 (F := F) k0_off1_inb numel1_S1 tabs i = ![(jtw i).toNat, (i 0).val] := tr1_eq i
theorem tr8_eq (i : grid0.Coords) : cc0_transform_8 (F := F) k0_off1_inb numel1_S1 tabs i = ![(jtw i).toNat, (i 0).val] := tr1_eq i

theorem okIn : ∀ n g : Fin 8, ∃ h : (∀ a, ((![n.val, g.val] : Fin 2 → ℕ) a + 1) * S1024x256.size a ≤ S8192x2048.size a),
    EltTy.bits .bf16 = 32 ∨ (Rect.block (s := S8192x2048) S1024x256.size ![n.val, g.val] h).WholeWords (EltTy.packing .bf16) := by
  decide +kernel
theorem okOut : ∀ n g : Fin 8, ∃ h : (∀ a, ((![n.val, g.val] : Fin 2 → ℕ) a + 1) * S1024x128.size a ≤ S8192x1024.size a),
    EltTy.bits .bf16 = 32 ∨ (Rect.block (s := S8192x1024) S1024x128.size ![n.val, g.val] h).WholeWords (EltTy.packing .bf16) := by
  decide +kernel
theorem okOut32 : ∀ n g : Fin 8, ∃ h : (∀ a, ((![n.val, g.val] : Fin 2 → ℕ) a + 1) * S1024x128.size a ≤ S8192x1024.size a),
    EltTy.bits .f32 = 32 ∨ (Rect.block (s := S8192x1024) S1024x128.size ![n.val, g.val] h).WholeWords (EltTy.packing .f32) := by
  decide +kernel

/-- The tables keep every block inside its array. -/
theorem ok_tabs : ok0 (F := F) tabs := by
  refine ⟨fun i => ?_, fun i => ?_, fun i => ?_, fun i => ?_, fun i => ?_, fun i => ?_, fun i => ?_⟩
  · rw [tr0_eq]; exact okIn ⟨_, itw_lt i⟩ (i 0)
  · rw [tr1_eq]; exact okIn ⟨_, jtw_lt i⟩ (i 0)
  · rw [tr2_eq]; exact okIn ⟨_, jtw_lt i⟩ (i 0)
  · rw [tr3_eq]; exact okIn ⟨_, itw_lt i⟩ (i 0)
  · rw [tr6_eq]; exact okOut ⟨_, jtw_lt i⟩ (i 0)
  · rw [tr7_eq]; exact okOut ⟨_, jtw_lt i⟩ (i 0)
  · rw [tr8_eq]; exact okOut32 ⟨_, jtw_lt i⟩ (i 0)

/-- The tables as the pipeline’s, and the pipeline at them. -/
def adm : (p : Fin 1) → (pcfgs (F := F) p).Adm := fun _ => ⟨tabs, ok_tabs⟩
abbrev cf : Pipeline.Cfg sig Λ₀ := Pipeline.pin (pcfgs (F := F)) adm 0

/-! ## The accumulators, point by point -/

theorem row_le (i : grid0.Coords) : 1024 * (itw i).toNat + 1024 ≤ 8192 := by
  have := itw_lt i; omega

/-- The three accumulators. -/
structure St (F : FTy → Type) where
  DQ : Vals F S2x8192x128 .f32
  DK : Vals F S2x1024x128 .f32
  DV : Vals F S2x1024x128 .f32

/-- One point: on the diagonal the key and value accumulators start anew, at a sweep’s first point the query accumulator too. -/
def step (q k v d : Vals F S1024x256 .bf16) (i : grid0.Coords) (s : St F) : St F :=
  if itw i = jtw i then
    ⟨diagDQ q k v d (1024 * (itw i).toNat) (row_le i) (if (i 1).val = 0 then k0_pay2 (F := F) else s.DQ),
      diagDK q k v d (k0_pay3 (F := F)), diagDV q k d (k0_pay4 (F := F))⟩
  else ⟨offDQ q k v d (1024 * (itw i).toNat) (row_le i) s.DQ, offDK q k v d s.DK, offDV q k d s.DV⟩

section
variable {c : Dev nD} (A : (w : Fin 9) → Buf (Elt F) (((cf (F := F)).win w).arr.view.loc (c.tc : Thread nD τ)))

/-- The block of each input at a point. -/
def bq (t : Fin (cf (F := F)).N) : Vals F S1024x256 .bf16 := (((cf (F := F)).win 0).blk t).view.read (Elt F) (A 0)
def bk (t : Fin (cf (F := F)).N) : Vals F S1024x256 .bf16 := (((cf (F := F)).win 1).blk t).view.read (Elt F) (A 1)
def bv (t : Fin (cf (F := F)).N) : Vals F S1024x256 .bf16 := (((cf (F := F)).win 2).blk t).view.read (Elt F) (A 2)
def bd (t : Fin (cf (F := F)).N) : Vals F S1024x256 .bf16 := (((cf (F := F)).win 3).blk t).view.read (Elt F) (A 3)

/-- The accumulators after the first `n` points. -/
def st : ℕ → St F
  | 0 => ⟨k0_pay2, k0_pay3, k0_pay4⟩
  | n + 1 => if h : n < (cf (F := F)).N then step (bq A ⟨n, h⟩) (bk A ⟨n, h⟩) (bv A ⟨n, h⟩) (bd A ⟨n, h⟩) (grid0.coords ⟨n, h⟩) (st n) else st n

theorem st_succ (t : Fin (cf (F := F)).N) : st A (t.val + 1) = step (bq A t) (bk A t) (bv A t) (bd A t) (grid0.coords t) (st A t.val) := by
  rw [st, dif_pos t.isLt]
end

/-! ## The points’ kinds -/

/-- What the two words of a point say: how the branches of the point go. -/
theorem kinds : ∀ n : Fin 36, k0_chk1 (lit0 n) (lit1 n)
    ∧ (n.val = 0 → lit0 n = lit1 n) ∧ (n.val = 35 → lit0 n = lit1 n ∧ lit0 n = 7#32)
    ∧ (lit0 n = lit1 n → n.val ≠ 35 → lit0 n ≠ 7#32)
    ∧ (lit0 n ≠ lit1 n → k0_cond3 (lit0 n) (lit1 n) = 1#1)
    ∧ (lit0 n ≠ 7#32 → n.val + 1 < 36 ∧ ∀ h : n.val + 1 < 36, lit1 ⟨n.val + 1, h⟩ = lit1 n) := by
  decide +kernel

theorem eqw {v w : BitVec 32} (h : v = w) : Scalar.cmpi .ne (Scalar.extui (Scalar.cmpi .eq v w) : BitVec 32) 0#32 = 1#1 := by
  subst h; show Scalar.cmpi .ne (Scalar.extui (BitVec.ofBool (v == v)) : BitVec 32) 0#32 = 1#1
  rw [beq_self_eq_true]; decide
theorem new {v w : BitVec 32} (h : v ≠ w) : ¬ Scalar.cmpi .ne (Scalar.extui (Scalar.cmpi .eq v w) : BitVec 32) 0#32 = 1#1 := by
  show ¬ Scalar.cmpi .ne (Scalar.extui (BitVec.ofBool (v == w)) : BitVec 32) 0#32 = 1#1
  rw [beq_false_of_ne h]; decide

end Cert.Fox

end
-- ==== Proof.Obl.lean ====
/-
  The obligation of the call’s body at every point of its grid: from the accumulators after the points before, to those after this one,
  the output blocks written where the point writes them.
-/
module

public import proofs.«01_k».proof.Proof.Body
public import proofs.«01_k».proof.Proof.State
public import Idealize.ShloMosaic.Lib.Pipeline.TableIdle
public import Idealize.ShloMosaic.Lib.Pipeline.FrameBody

@[expose] public section

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem pt_whole (c : Dev nD) (b : Ref sig .tc) (f : Buf (Elt F) ((c : Thread nD τ).loc b)) :
    (pt c (Memref.whole b) f : sProp 𝕄) = (((c : Thread nD τ).loc b) ↦{fullShare} f) := by
  exact congrArg (fun S => (pointsTo ((c : Thread nD τ).loc b) S fullShare f : sProp 𝕄)) (Memref.isWhole_whole b).set_eq_univ
theorem ptt_whole (c : Dev nD) (b : Ref sig .tc) (f : Buf (Elt F) ((c : Thread nD τ).loc b)) :
    (ptt c (Memref.whole b) f : sProp 𝕄) = (((c : Thread nD τ).loc b) ↦{fullShare.right} f) := by
  exact congrArg (fun S => (pointsTo ((c : Thread nD τ).loc b) S fullShare.right f : sProp 𝕄)) (Memref.isWhole_whole b).set_eq_univ

/-- The tables’ contents, each at its buffer. -/
abbrev tab0 (c : Dev nD) : Buf (Elt F) ((c : Thread nD τ).loc main_c) := (tabs (F := F)) 0
abbrev tab1 (c : Dev nD) : Buf (Elt F) ((c : Thread nD τ).loc main_c_0) := (tabs (F := F)) 1

/-- The two tables, one by one. -/
theorem tabs_eq (c : Dev nD) :
    (Pipeline.prefHeld (Ix := Unit) (Name := ℕ) (U := UR sig nD τ) (Lvl := ℕ) pre0 c (fun _ => fullShare.right) (tabs (F := F)) : sProp 𝕄)
      = iprop(ptt (F := F) c (Memref.whole main_c) (tab0 c) ∗ ptt (F := F) c (Memref.whole main_c_0) (tab1 c)) := by
  have h0 := ptt_whole c main_c (tab0 (F := F) c)
  have h1 := ptt_whole c main_c_0 (tab1 (F := F) c)
  rw [h0, h1]
  exact bigSep_univ_eq_bigSepL [(0 : Fin 2), (1 : Fin 2)] (by decide) (by decide) _

theorem word0 (c : Dev nD) (i : grid0.Coords) : (Memref.whole main_c).view.readAt (Elt F) (Rect.unit (s := S36) (k0_off1 i) S1.size (k0_off1_inb i)).toLoadRect (tab0 c) = fun _ => itw i := by
  funext j
  show lit0 _ = lit0 _
  congr 1
  apply Fin.ext
  refine (Shape.rowMajor_val_one _).trans ?_
  have hj : (j 0).val < 1 := (j 0).isLt
  show (k0_off1 i) 0 + 1 * (j 0).val = (i 1).val
  rw [off1_eq]; omega
theorem word1 (c : Dev nD) (i : grid0.Coords) : (Memref.whole main_c_0).view.readAt (Elt F) (Rect.unit (s := S36) (k0_off1 i) S1.size (k0_off1_inb i)).toLoadRect (tab1 c) = fun _ => jtw i := by
  funext j
  show lit1 _ = lit1 _
  congr 1
  apply Fin.ext
  refine (Shape.rowMajor_val_one _).trans ?_
  have hj : (j 0).val < 1 := (j 0).isLt
  show (k0_off1 i) 0 + 1 * (j 0).val = (i 1).val
  rw [off1_eq]; omega

section
variable {c : Dev nD} (A : (w : Fin 9) → Buf (Elt F) (((cf (F := F)).win w).arr.view.loc (c.tc : Thread nD τ)))

/-- The tables, the core’s random register, and the accumulators: before the first point at anything, then at the recursion’s. -/
def Phi (n : ℕ) : sProp 𝕄 :=
  iprop(Pipeline.prefHeld (Ix := Unit) (Name := ℕ) (U := UR sig nD τ) (Lvl := ℕ) pre0 c (fun _ => fullShare.right) (tabs (F := F)) ∗ (∃ r, prngReg c r)
    ∗ ∃ (f14 : Bf (F := F) c (Memref.whole cc0_scratch0)) (f15 : Bf (F := F) c (Memref.whole cc0_scratch1)) (f16 : Bf (F := F) c (Memref.whole cc0_scratch2)),
      ⌜n ≠ 0 → f14 = (Memref.whole cc0_scratch0).view.rep (st A n).DQ ∧ f15 = (Memref.whole cc0_scratch1).view.rep (st A n).DK
        ∧ f16 = (Memref.whole cc0_scratch2).view.rep (st A n).DV⌝
      ∗ pt c (Memref.whole cc0_scratch0) f14 ∗ pt c (Memref.whole cc0_scratch1) f15 ∗ pt c (Memref.whole cc0_scratch2) f16)

/-- The pipeline’s data: the inputs’ blocks stay as fetched, each output block as the accumulators give it. -/
def dat : Pipeline.Dat τ (Elt F) Unit ℕ (UR sig nD τ) ℕ (cf (F := F)) c where
  A := A
  after := fun
    | 0 => fun t => bq A t
    | 1 => fun t => bk A t
    | 2 => fun t => bv A t
    | 3 => fun t => bd A t
    | 4 => fun t => outDQ (st A (t.val + 1)).DQ
    | 5 => fun t => outDK (st A (t.val + 1)).DK
    | 6 => fun t => outDV (st A (t.val + 1)).DV
    | 7 => fun t => outDN (st A (t.val + 1)).DK
    | 8 => fun t => outRow (st A (t.val + 1)).DQ
    | ⟨_ + 9, h⟩ => absurd h (Nat.not_lt.2 (Nat.le_add_left _ _))
  Φ := fun t => Phi A t.val
  q := fun _ => fullShare
  owed := fun _ => 0

theorem before0 (t : Fin (cf (F := F)).N) (d) : (dat A).before 0 t d = bq A t :=
  (dat A).before_in_eq_fetched 0 rfl (fun _ => rfl) (fun _ _ _ => rfl) (fun _ => rfl) t d
theorem before1 (t : Fin (cf (F := F)).N) (d) : (dat A).before 1 t d = bk A t :=
  (dat A).before_in_eq_fetched 1 rfl (fun _ => rfl) (fun _ _ _ => rfl) (fun _ => rfl) t d
theorem before2 (t : Fin (cf (F := F)).N) (d) : (dat A).before 2 t d = bv A t :=
  (dat A).before_in_eq_fetched 2 rfl (fun _ => rfl) (fun _ _ _ => rfl) (fun _ => rfl) t d
theorem before3 (t : Fin (cf (F := F)).N) (d) : (dat A).before 3 t d = bd A t :=
  (dat A).before_in_eq_fetched 3 rfl (fun _ => rfl) (fun _ _ _ => rfl) (fun _ => rfl) t d

theorem coord1 (t : Fin (cf (F := F)).N) : ((grid0.coords t) 1).val = t.val % 36 := by
  have h := Pipeline.Grid.coords_val (G := grid0) t 1 (S := 1) (B := 36) (by decide) rfl
  rw [h, Nat.div_one]
theorem coord0 (t : Fin (cf (F := F)).N) : ((grid0.coords t) 0).val = t.val / 36 := by
  have h := Pipeline.Grid.coords_val (G := grid0) t 0 (S := 36) (B := 8) (by decide) rfl
  have ht : t.val < 288 := Nat.lt_of_lt_of_eq t.isLt N_0
  rw [h]; exact Nat.mod_eq_of_lt (by omega)

/-! ## The staging buffers and the body at a point -/

abbrev m4 (t : Fin (cf (F := F)).N) : Memref sig .tc .vmem S1024x256 .bf16 := spec0_0.stage ((cf (F := F)).slots t 0)
abbrev m5 (t : Fin (cf (F := F)).N) : Memref sig .tc .vmem S1024x256 .bf16 := spec0_1.stage ((cf (F := F)).slots t 1)
abbrev m6 (t : Fin (cf (F := F)).N) : Memref sig .tc .vmem S1024x256 .bf16 := spec0_2.stage ((cf (F := F)).slots t 2)
abbrev m7 (t : Fin (cf (F := F)).N) : Memref sig .tc .vmem S1024x256 .bf16 := spec0_3.stage ((cf (F := F)).slots t 3)
abbrev m9 (t : Fin (cf (F := F)).N) : Memref sig .tc .vmem S8192x128 .bf16 := spec0_4.stage ((cf (F := F)).slots t 4)
abbrev m10 (t : Fin (cf (F := F)).N) : Memref sig .tc .vmem S1024x128 .bf16 := spec0_5.stage ((cf (F := F)).slots t 5)
abbrev m11 (t : Fin (cf (F := F)).N) : Memref sig .tc .vmem S1024x128 .bf16 := spec0_6.stage ((cf (F := F)).slots t 6)
abbrev m12 (t : Fin (cf (F := F)).N) : Memref sig .tc .vmem S1024x128 .f32 := spec0_7.stage ((cf (F := F)).slots t 7)
abbrev m13 (t : Fin (cf (F := F)).N) : Memref sig .tc .vmem S8192x128 .f32 := spec0_8.stage ((cf (F := F)).slots t 8)

/-- The body at a point, on the staging buffers of that point. -/
abbrev bodyAt (t : Fin (cf (F := F)).N) : Prog (TpuEff nD τ sig (Elt F) Λ₀ .tc) PUnit :=
  cc0_fox_bwd (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _)

theorem body_eq (t : Fin (cf (F := F)).N) :
    (defs₀ (F := F)) .tc (cf (F := F)).body ((cf (F := F)).bodyArgs t ((cf (F := F)).slots t)) = bodyAt t := rfl

/-! ## Where an output’s block is written back -/

theorem noflush {G : Pipeline.Grid} (w : Pipeline.Window sig G) (t : Fin G.N) (h1 : t.val + 1 < G.N) (h2 : w.index ⟨t.val + 1, h1⟩ = w.index t) :
    w.flush t = false := by
  unfold Pipeline.Window.flush
  simp [h2, Nat.ne_of_lt h1]

theorem coord0_succ (t : Fin (cf (F := F)).N) (h : t.val % 36 ≠ 35) (h1 : t.val + 1 < (cf (F := F)).N) :
    (grid0.coords ⟨t.val + 1, h1⟩) 0 = (grid0.coords t) 0 := by
  apply Fin.ext
  rw [coord0 (F := F), coord0 (F := F)]; show (t.val + 1) / 36 = t.val / 36; omega
theorem succ_lt (t : Fin (cf (F := F)).N) (h : t.val % 36 ≠ 35) : t.val + 1 < (cf (F := F)).N := by
  have ht : t.val < 288 := Nat.lt_of_lt_of_eq t.isLt N_0
  exact Nat.lt_of_lt_of_eq (by omega : t.val + 1 < 288) N_0.symm

/-- The kind of a point, read off the tables. -/
theorem kind_at (i : grid0.Coords) : k0_chk1 (itw i) (jtw i)
    ∧ ((i 1).val = 0 → itw i = jtw i) ∧ ((i 1).val = 35 → itw i = jtw i ∧ itw i = 7#32)
    ∧ (itw i = jtw i → (i 1).val ≠ 35 → itw i ≠ 7#32)
    ∧ (itw i ≠ jtw i → k0_cond3 (itw i) (jtw i) = 1#1)
    ∧ (itw i ≠ 7#32 → (i 1).val + 1 < 36 ∧ ∀ h : (i 1).val + 1 < 36, lit1 ⟨(i 1).val + 1, h⟩ = jtw i) :=
  kinds ⟨(i 1).val, (i 1).isLt⟩

theorem jtw_succ (t : Fin (cf (F := F)).N) (h : itw (grid0.coords t) ≠ 7#32) :
    t.val % 36 ≠ 35 ∧ ∀ h1 : t.val + 1 < (cf (F := F)).N, jtw (grid0.coords ⟨t.val + 1, h1⟩) = jtw (grid0.coords t) := by
  obtain ⟨ha, hb⟩ := (kind_at (grid0.coords t)).2.2.2.2.2 h
  have h36 := coord1 (F := F) t
  simp only [h36] at ha
  refine ⟨by omega, fun h1 => ?_⟩
  refine Eq.trans ?_ (hb (by simp only [h36]; omega))
  show lit1 _ = lit1 _
  congr 1
  apply Fin.ext
  show ((grid0.coords ⟨t.val + 1, h1⟩) 1).val = ((grid0.coords t) 1).val + 1
  rw [coord1 (F := F), coord1 (F := F)]; show (t.val + 1) % 36 = t.val % 36 + 1; omega

theorem flush4 (t : Fin (cf (F := F)).N) (h : t.val % 36 ≠ 35) : ((cf (F := F)).win 4).flush t = false :=
  noflush _ t (succ_lt t h) (hreads0 (tabs (F := F)) 4 _ _ (fun a ha => by
    match a, ha with
    | 0, _ => exact coord0_succ (F := F) t h _
    | 1, ha => exact absurd ha (by decide)))

theorem flush8 (t : Fin (cf (F := F)).N) (h : t.val % 36 ≠ 35) : ((cf (F := F)).win 8).flush t = false :=
  noflush _ t (succ_lt t h) (hreads0 (tabs (F := F)) 8 _ _ (fun a ha => by
    match a, ha with
    | 0, _ => exact coord0_succ (F := F) t h _
    | 1, ha => exact absurd ha (by decide)))

theorem flush5 (t : Fin (cf (F := F)).N) (h : itw (grid0.coords t) ≠ 7#32) : ((cf (F := F)).win 5).flush t = false :=
  noflush _ t (succ_lt t (jtw_succ t h).1) (by
    show cc0_transform_6 (F := F) k0_off1_inb numel1_S1 tabs (grid0.coords ⟨t.val + 1, succ_lt t (jtw_succ t h).1⟩) = cc0_transform_6 (F := F) k0_off1_inb numel1_S1 tabs (grid0.coords t)
    rw [tr6_eq, tr6_eq, (jtw_succ t h).2, coord0_succ (F := F) t (jtw_succ t h).1])

theorem flush6 (t : Fin (cf (F := F)).N) (h : itw (grid0.coords t) ≠ 7#32) : ((cf (F := F)).win 6).flush t = false :=
  noflush _ t (succ_lt t (jtw_succ t h).1) (by
    show cc0_transform_7 (F := F) k0_off1_inb numel1_S1 tabs (grid0.coords ⟨t.val + 1, succ_lt t (jtw_succ t h).1⟩) = cc0_transform_7 (F := F) k0_off1_inb numel1_S1 tabs (grid0.coords t)
    rw [tr7_eq, tr7_eq, (jtw_succ t h).2, coord0_succ (F := F) t (jtw_succ t h).1])

theorem flush7 (t : Fin (cf (F := F)).N) (h : itw (grid0.coords t) ≠ 7#32) : ((cf (F := F)).win 7).flush t = false :=
  noflush _ t (succ_lt t (jtw_succ t h).1) (by
    show cc0_transform_8 (F := F) k0_off1_inb numel1_S1 tabs (grid0.coords ⟨t.val + 1, succ_lt t (jtw_succ t h).1⟩) = cc0_transform_8 (F := F) k0_off1_inb numel1_S1 tabs (grid0.coords t)
    rw [tr8_eq, tr8_eq, (jtw_succ t h).2, coord0_succ (F := F) t (jtw_succ t h).1])

theorem idle4 (t : Fin (cf (F := F)).N) : (cf (F := F)).idle 4 (grid0.coords t) = !(k0_cond6 (grid0.coords t) == 1#1) := rfl
theorem idle8 (t : Fin (cf (F := F)).N) : (cf (F := F)).idle 8 (grid0.coords t) = !(k0_cond6 (grid0.coords t) == 1#1) := rfl
theorem idle5 (t : Fin (cf (F := F)).N) : (cf (F := F)).idle 5 (grid0.coords t) = !(k0_cond5 (itw (grid0.coords t)) == 1#1) := by
  show (!(k0_cond5 ((tabs (F := F)).atD 0 (k0_off1 (grid0.coords t))) == 1#1)) = _
  rw [atD0]
theorem idle6 (t : Fin (cf (F := F)).N) : (cf (F := F)).idle 6 (grid0.coords t) = !(k0_cond5 (itw (grid0.coords t)) == 1#1) := by
  show (!(k0_cond5 ((tabs (F := F)).atD 0 (k0_off1 (grid0.coords t))) == 1#1)) = _
  rw [atD0]
theorem idle7 (t : Fin (cf (F := F)).N) : (cf (F := F)).idle 7 (grid0.coords t) = !(k0_cond5 (itw (grid0.coords t)) == 1#1) := by
  show (!(k0_cond5 ((tabs (F := F)).atD 0 (k0_off1 (grid0.coords t))) == 1#1)) = _
  rw [atD0]

/-! ## A window’s buffer, before the body and after it -/

/-- Window `w`’s buffer as the body is handed it. -/
abbrev inb (w : Fin 9) (t : Fin (cf (F := F)).N) : sProp 𝕄 :=
  iprop(∃ d, owns (c.tc : Thread nD τ) (((cf (F := F)).win w).stage ((cf (F := F)).slots t w)) fullShare ((dat A).before w t d))

/-- Window `w`’s buffer as the body leaves it. -/
abbrev outb (w : Fin 9) (t : Fin (cf (F := F)).N) : sProp 𝕄 := (dat A).leavesExact w t

theorem live (w : Fin 9) (t : Fin (cf (F := F)).N) (h : (cf (F := F)).idle w (grid0.coords t) = false) :
    (owns (c.tc : Thread nD τ) (((cf (F := F)).win w).stage ((cf (F := F)).slots t w)) fullShare ((dat A).after w t) : sProp 𝕄) ⊢ outb A w t := by
  unfold outb Pipeline.Dat.leavesExact
  rw [show (Pipeline.pin pcfgs adm 0).idle w ((Pipeline.pin pcfgs adm 0).grid.coords t) = false from h]
theorem asleep (w : Fin 9) (t : Fin (cf (F := F)).N) (h : (cf (F := F)).idle w (grid0.coords t) = true) (hf : ((cf (F := F)).win w).flush t = false) :
    (inb A w t : sProp 𝕄) ⊢ outb A w t := by
  unfold outb Pipeline.Dat.leavesExact
  rw [show (Pipeline.pin pcfgs adm 0).idle w ((Pipeline.pin pcfgs adm 0).grid.coords t) = true from h, show ((Pipeline.pin pcfgs adm 0).win w).flush t = false from hf]

theorem in0 (t : Fin (cf (F := F)).N) : (inb A 0 t : sProp 𝕄) ⊢ pt c (m4 t) ((m4 t).view.rep (bq A t)) := by
  iintro ⟨%d, H⟩
  rw [show (dat A).before ((0 : Fin 9)) t d = bq A t from before0 A t d]
  iapply (rep_of_owns (c.tc : Thread nD τ) (m4 t) fullShare (bq A t)) $$ H
theorem out0 (t : Fin (cf (F := F)).N) : (pt c (m4 t) ((m4 t).view.rep (bq A t)) : sProp 𝕄) ⊢ outb A 0 t :=
  (owns_of_rep (c.tc : Thread nD τ) (m4 t) fullShare (bq A t)).trans (live A 0 t rfl)
theorem in1 (t : Fin (cf (F := F)).N) : (inb A 1 t : sProp 𝕄) ⊢ pt c (m5 t) ((m5 t).view.rep (bk A t)) := by
  iintro ⟨%d, H⟩
  rw [show (dat A).before ((1 : Fin 9)) t d = bk A t from before1 A t d]
  iapply (rep_of_owns (c.tc : Thread nD τ) (m5 t) fullShare (bk A t)) $$ H
theorem out1 (t : Fin (cf (F := F)).N) : (pt c (m5 t) ((m5 t).view.rep (bk A t)) : sProp 𝕄) ⊢ outb A 1 t :=
  (owns_of_rep (c.tc : Thread nD τ) (m5 t) fullShare (bk A t)).trans (live A 1 t rfl)
theorem in2 (t : Fin (cf (F := F)).N) : (inb A 2 t : sProp 𝕄) ⊢ pt c (m6 t) ((m6 t).view.rep (bv A t)) := by
  iintro ⟨%d, H⟩
  rw [show (dat A).before ((2 : Fin 9)) t d = bv A t from before2 A t d]
  iapply (rep_of_owns (c.tc : Thread nD τ) (m6 t) fullShare (bv A t)) $$ H
theorem out2 (t : Fin (cf (F := F)).N) : (pt c (m6 t) ((m6 t).view.rep (bv A t)) : sProp 𝕄) ⊢ outb A 2 t :=
  (owns_of_rep (c.tc : Thread nD τ) (m6 t) fullShare (bv A t)).trans (live A 2 t rfl)
theorem in3 (t : Fin (cf (F := F)).N) : (inb A 3 t : sProp 𝕄) ⊢ pt c (m7 t) ((m7 t).view.rep (bd A t)) := by
  iintro ⟨%d, H⟩
  rw [show (dat A).before ((3 : Fin 9)) t d = bd A t from before3 A t d]
  iapply (rep_of_owns (c.tc : Thread nD τ) (m7 t) fullShare (bd A t)) $$ H
theorem out3 (t : Fin (cf (F := F)).N) : (pt c (m7 t) ((m7 t).view.rep (bd A t)) : sProp 𝕄) ⊢ outb A 3 t :=
  (owns_of_rep (c.tc : Thread nD τ) (m7 t) fullShare (bd A t)).trans (live A 3 t rfl)
theorem in4 (t : Fin (cf (F := F)).N) : (inb A 4 t : sProp 𝕄) ⊢ iprop(∃ g, pt c (m9 t) g) := by
  iintro ⟨%d, H⟩
  iexists _
  iapply (rep_of_owns (c.tc : Thread nD τ) (m9 t) fullShare ((dat A).before 4 t d)) $$ H
theorem out4 (t : Fin (cf (F := F)).N) (h : (cf (F := F)).idle 4 (grid0.coords t) = false) (X) (hX : X = (st A (t.val + 1)).DQ) :
    (pt c (m9 t) ((m9 t).view.rep (outDQ X)) : sProp 𝕄) ⊢ outb A 4 t := by
  subst hX
  exact (owns_of_rep (c.tc : Thread nD τ) (m9 t) fullShare (outDQ (st A (t.val + 1)).DQ)).trans (live A 4 t h)
theorem in5 (t : Fin (cf (F := F)).N) : (inb A 5 t : sProp 𝕄) ⊢ iprop(∃ g, pt c (m10 t) g) := by
  iintro ⟨%d, H⟩
  iexists _
  iapply (rep_of_owns (c.tc : Thread nD τ) (m10 t) fullShare ((dat A).before 5 t d)) $$ H
theorem out5 (t : Fin (cf (F := F)).N) (h : (cf (F := F)).idle 5 (grid0.coords t) = false) (X) (hX : X = (st A (t.val + 1)).DK) :
    (pt c (m10 t) ((m10 t).view.rep (outDK X)) : sProp 𝕄) ⊢ outb A 5 t := by
  subst hX
  exact (owns_of_rep (c.tc : Thread nD τ) (m10 t) fullShare (outDK (st A (t.val + 1)).DK)).trans (live A 5 t h)
theorem in6 (t : Fin (cf (F := F)).N) : (inb A 6 t : sProp 𝕄) ⊢ iprop(∃ g, pt c (m11 t) g) := by
  iintro ⟨%d, H⟩
  iexists _
  iapply (rep_of_owns (c.tc : Thread nD τ) (m11 t) fullShare ((dat A).before 6 t d)) $$ H
theorem out6 (t : Fin (cf (F := F)).N) (h : (cf (F := F)).idle 6 (grid0.coords t) = false) (X) (hX : X = (st A (t.val + 1)).DV) :
    (pt c (m11 t) ((m11 t).view.rep (outDV X)) : sProp 𝕄) ⊢ outb A 6 t := by
  subst hX
  exact (owns_of_rep (c.tc : Thread nD τ) (m11 t) fullShare (outDV (st A (t.val + 1)).DV)).trans (live A 6 t h)
theorem in7 (t : Fin (cf (F := F)).N) : (inb A 7 t : sProp 𝕄) ⊢ iprop(∃ g, pt c (m12 t) g) := by
  iintro ⟨%d, H⟩
  iexists _
  iapply (rep_of_owns (c.tc : Thread nD τ) (m12 t) fullShare ((dat A).before 7 t d)) $$ H
theorem out7 (t : Fin (cf (F := F)).N) (h : (cf (F := F)).idle 7 (grid0.coords t) = false) (X) (hX : X = (st A (t.val + 1)).DK) :
    (pt c (m12 t) ((m12 t).view.rep (outDN X)) : sProp 𝕄) ⊢ outb A 7 t := by
  subst hX
  exact (owns_of_rep (c.tc : Thread nD τ) (m12 t) fullShare (outDN (st A (t.val + 1)).DK)).trans (live A 7 t h)
theorem in8 (t : Fin (cf (F := F)).N) : (inb A 8 t : sProp 𝕄) ⊢ iprop(∃ g, pt c (m13 t) g) := by
  iintro ⟨%d, H⟩
  iexists _
  iapply (rep_of_owns (c.tc : Thread nD τ) (m13 t) fullShare ((dat A).before 8 t d)) $$ H
theorem out8 (t : Fin (cf (F := F)).N) (h : (cf (F := F)).idle 8 (grid0.coords t) = false) (X) (hX : X = (st A (t.val + 1)).DQ) :
    (pt c (m13 t) ((m13 t).view.rep (outRow X)) : sProp 𝕄) ⊢ outb A 8 t := by
  subst hX
  exact (owns_of_rep (c.tc : Thread nD τ) (m13 t) fullShare (outRow (st A (t.val + 1)).DQ)).trans (live A 8 t h)

theorem ofNat_ne (n : ℕ) (h : n ≠ 0) (hb : n < 36) : BitVec.ofNat 32 n ≠ 0#32 := by
  intro e; apply h
  have := congrArg BitVec.toNat e
  rw [ofNat_toNat _ (by omega)] at this; exact this
theorem ofNat_ne35 (n : ℕ) (h : n ≠ 35) (hb : n < 36) : BitVec.ofNat 32 n ≠ 35#32 := by
  intro e; apply h
  have := congrArg BitVec.toNat e
  rw [ofNat_toNat _ (by omega)] at this; exact this
theorem cond3_self (v : BitVec 32) : ¬ k0_cond3 v v = 1#1 := by
  show ¬ Scalar.cmpi .ne (Scalar.extui (BitVec.ofBool (v.slt v)) : BitVec 32) 0#32 = 1#1
  rw [show v.slt v = false by simp [BitVec.slt]]; decide

set_option maxHeartbeats 1000000 in
theorem at_offRun (t : Fin (cf (F := F)).N) (hn : t.val % 36 ≠ 0) (he : itw (grid0.coords t) ≠ jtw (grid0.coords t)) (h5 : itw (grid0.coords t) ≠ 7#32) (h6 : t.val % 36 ≠ 35) :
    iprop(Phi A t.val ∗ inb A 0 t ∗ inb A 1 t ∗ inb A 2 t ∗ inb A 3 t ∗ inb A 4 t ∗ inb A 5 t ∗ inb A 6 t ∗ inb A 7 t ∗ inb A 8 t)
      ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  have hs := (st_succ A t).trans (if_neg he)
  unfold Phi
  rw [tabs_eq]
  iintro ⟨⟨⟨T0, T1⟩, HR, %f14, %f15, %f16, %hf, A14, A15, A16⟩, W0, W1, W2, W3, W4, W5, W6, W7, W8⟩
  obtain ⟨rfl, rfl, rfl⟩ := hf (fun h => hn (by rw [h]))
  ihave W0 := (in0 A t) $$ W0
  ihave W1 := (in1 A t) $$ W1
  ihave W2 := (in2 A t) $$ W2
  ihave W3 := (in3 A t) $$ W3
  iapply (offRun c (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _) (tab0 c) (tab1 c) (itw (grid0.coords t)) (jtw (grid0.coords t)) (word0 c (grid0.coords t)) (word1 c (grid0.coords t)) (kind_at (grid0.coords t)).1 (row_le (grid0.coords t)) (bq A t) (bk A t) (bv A t) (bd A t)
    (new (by rw [coord1 (F := F)]; exact ofNat_ne _ hn (by omega)))
    (new he) ((kind_at (grid0.coords t)).2.2.2.2.1 he) (new he)
    (new h5) (new (by rw [coord1 (F := F)]; exact ofNat_ne35 _ h6 (by omega)))
    _ _ _ _)
  isplitl [T0]; · iexact T0
  isplitl [T1]; · iexact T1
  isplitl [W0]; · iexact W0
  isplitl [W1]; · iexact W1
  isplitl [W2]; · iexact W2
  isplitl [W3]; · iexact W3
  isplitl [A14]; · iexact A14
  isplitl [A15]; · iexact A15
  isplitl [A16]; · iexact A16
  iintro ⟨T0, T1, W0, W1, W2, W3, A14, A15, A16⟩
  isplitl [T0 T1 HR A14 A15 A16]
  · isplitl [T0 T1]
    · isplitl [T0]; · iexact T0
      iexact T1
    isplitl [HR]; · iexact HR
    iexists _, _, _
    isplitr
    · ipureintro
      intro _
      rw [hs]
      exact ⟨rfl, rfl, rfl⟩
    isplitl [A14]; · iexact A14
    isplitl [A15]; · iexact A15
    iexact A16
  isplitl [W0]; · iapply (out0 A t) $$ W0
  isplitl [W1]; · iapply (out1 A t) $$ W1
  isplitl [W2]; · iapply (out2 A t) $$ W2
  isplitl [W3]; · iapply (out3 A t) $$ W3
  isplitl [W4]; · iapply (asleep A 4 t (by rw [idle4, beq_false_of_ne (show k0_cond6 (grid0.coords t) ≠ 1#1 from new (by rw [coord1 (F := F)]; exact ofNat_ne35 _ h6 (by omega)))]; rfl) (flush4 t h6)) $$ W4
  isplitl [W5]; · iapply (asleep A 5 t (by rw [idle5, beq_false_of_ne (show k0_cond5 (itw (grid0.coords t)) ≠ 1#1 from new h5)]; rfl) (flush5 t h5)) $$ W5
  isplitl [W6]; · iapply (asleep A 6 t (by rw [idle6, beq_false_of_ne (show k0_cond5 (itw (grid0.coords t)) ≠ 1#1 from new h5)]; rfl) (flush6 t h5)) $$ W6
  isplitl [W7]; · iapply (asleep A 7 t (by rw [idle7, beq_false_of_ne (show k0_cond5 (itw (grid0.coords t)) ≠ 1#1 from new h5)]; rfl) (flush7 t h5)) $$ W7
  iapply (asleep A 8 t (by rw [idle8, beq_false_of_ne (show k0_cond6 (grid0.coords t) ≠ 1#1 from new (by rw [coord1 (F := F)]; exact ofNat_ne35 _ h6 (by omega)))]; rfl) (flush8 t h6)) $$ W8

set_option maxHeartbeats 1000000 in
theorem at_offOut (t : Fin (cf (F := F)).N) (hn : t.val % 36 ≠ 0) (he : itw (grid0.coords t) ≠ jtw (grid0.coords t)) (h5 : itw (grid0.coords t) = 7#32) (h6 : t.val % 36 ≠ 35) :
    iprop(Phi A t.val ∗ inb A 0 t ∗ inb A 1 t ∗ inb A 2 t ∗ inb A 3 t ∗ inb A 4 t ∗ inb A 5 t ∗ inb A 6 t ∗ inb A 7 t ∗ inb A 8 t)
      ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  have hs := (st_succ A t).trans (if_neg he)
  unfold Phi
  rw [tabs_eq]
  iintro ⟨⟨⟨T0, T1⟩, HR, %f14, %f15, %f16, %hf, A14, A15, A16⟩, W0, W1, W2, W3, W4, W5, W6, W7, W8⟩
  obtain ⟨rfl, rfl, rfl⟩ := hf (fun h => hn (by rw [h]))
  ihave W0 := (in0 A t) $$ W0
  ihave W1 := (in1 A t) $$ W1
  ihave W2 := (in2 A t) $$ W2
  ihave W3 := (in3 A t) $$ W3
  ihave W5 := (in5 A t) $$ W5
  icases W5 with ⟨%g10, W5⟩
  ihave W6 := (in6 A t) $$ W6
  icases W6 with ⟨%g11, W6⟩
  ihave W7 := (in7 A t) $$ W7
  icases W7 with ⟨%g12, W7⟩
  iapply (offOut c (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _) (tab0 c) (tab1 c) (itw (grid0.coords t)) (jtw (grid0.coords t)) (word0 c (grid0.coords t)) (word1 c (grid0.coords t)) (kind_at (grid0.coords t)).1 (row_le (grid0.coords t)) (bq A t) (bk A t) (bv A t) (bd A t)
    (new (by rw [coord1 (F := F)]; exact ofNat_ne _ hn (by omega)))
    (new he) ((kind_at (grid0.coords t)).2.2.2.2.1 he) (new he)
    (eqw h5) (new (by rw [coord1 (F := F)]; exact ofNat_ne35 _ h6 (by omega)))
    _ _ _ g10 g11 g12 _)
  isplitl [T0]; · iexact T0
  isplitl [T1]; · iexact T1
  isplitl [W0]; · iexact W0
  isplitl [W1]; · iexact W1
  isplitl [W2]; · iexact W2
  isplitl [W3]; · iexact W3
  isplitl [A14]; · iexact A14
  isplitl [A15]; · iexact A15
  isplitl [A16]; · iexact A16
  isplitl [W5]; · iexact W5
  isplitl [W6]; · iexact W6
  isplitl [W7]; · iexact W7
  iintro ⟨T0, T1, W0, W1, W2, W3, A14, A15, A16, W5, W6, W7⟩
  isplitl [T0 T1 HR A14 A15 A16]
  · isplitl [T0 T1]
    · isplitl [T0]; · iexact T0
      iexact T1
    isplitl [HR]; · iexact HR
    iexists _, _, _
    isplitr
    · ipureintro
      intro _
      rw [hs]
      exact ⟨rfl, rfl, rfl⟩
    isplitl [A14]; · iexact A14
    isplitl [A15]; · iexact A15
    iexact A16
  isplitl [W0]; · iapply (out0 A t) $$ W0
  isplitl [W1]; · iapply (out1 A t) $$ W1
  isplitl [W2]; · iapply (out2 A t) $$ W2
  isplitl [W3]; · iapply (out3 A t) $$ W3
  isplitl [W4]; · iapply (asleep A 4 t (by rw [idle4, beq_false_of_ne (show k0_cond6 (grid0.coords t) ≠ 1#1 from new (by rw [coord1 (F := F)]; exact ofNat_ne35 _ h6 (by omega)))]; rfl) (flush4 t h6)) $$ W4
  isplitl [W5]; · iapply (out5 A t (by rw [idle5, show k0_cond5 (itw (grid0.coords t)) = 1#1 from eqw h5]; rfl) _ (by rw [hs])) $$ W5
  isplitl [W6]; · iapply (out6 A t (by rw [idle6, show k0_cond5 (itw (grid0.coords t)) = 1#1 from eqw h5]; rfl) _ (by rw [hs])) $$ W6
  isplitl [W7]; · iapply (out7 A t (by rw [idle7, show k0_cond5 (itw (grid0.coords t)) = 1#1 from eqw h5]; rfl) _ (by rw [hs])) $$ W7
  iapply (asleep A 8 t (by rw [idle8, beq_false_of_ne (show k0_cond6 (grid0.coords t) ≠ 1#1 from new (by rw [coord1 (F := F)]; exact ofNat_ne35 _ h6 (by omega)))]; rfl) (flush8 t h6)) $$ W8

set_option maxHeartbeats 1000000 in
theorem at_diagRun (t : Fin (cf (F := F)).N) (hn : t.val % 36 ≠ 0) (he : itw (grid0.coords t) = jtw (grid0.coords t)) (h5 : itw (grid0.coords t) ≠ 7#32) (h6 : t.val % 36 ≠ 35) :
    iprop(Phi A t.val ∗ inb A 0 t ∗ inb A 1 t ∗ inb A 2 t ∗ inb A 3 t ∗ inb A 4 t ∗ inb A 5 t ∗ inb A 6 t ∗ inb A 7 t ∗ inb A 8 t)
      ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  have hs := (st_succ A t).trans (if_pos he)
  unfold Phi
  rw [tabs_eq]
  iintro ⟨⟨⟨T0, T1⟩, HR, %f14, %f15, %f16, %hf, A14, A15, A16⟩, W0, W1, W2, W3, W4, W5, W6, W7, W8⟩
  obtain ⟨rfl, rfl, rfl⟩ := hf (fun h => hn (by rw [h]))
  ihave W0 := (in0 A t) $$ W0
  ihave W1 := (in1 A t) $$ W1
  ihave W2 := (in2 A t) $$ W2
  ihave W3 := (in3 A t) $$ W3
  iapply (diagRun c (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _) (tab0 c) (tab1 c) (itw (grid0.coords t)) (jtw (grid0.coords t)) (word0 c (grid0.coords t)) (word1 c (grid0.coords t)) (kind_at (grid0.coords t)).1 (row_le (grid0.coords t)) (bq A t) (bk A t) (bv A t) (bd A t)
    (new (by rw [coord1 (F := F)]; exact ofNat_ne _ hn (by omega)))
    (eqw he) (by rw [← he]; exact cond3_self _) (eqw he)
    (new h5) (new (by rw [coord1 (F := F)]; exact ofNat_ne35 _ h6 (by omega)))
    _ _ _ _)
  isplitl [T0]; · iexact T0
  isplitl [T1]; · iexact T1
  isplitl [W0]; · iexact W0
  isplitl [W1]; · iexact W1
  isplitl [W2]; · iexact W2
  isplitl [W3]; · iexact W3
  isplitl [A14]; · iexact A14
  isplitl [A15]; · iexact A15
  isplitl [A16]; · iexact A16
  iintro ⟨T0, T1, W0, W1, W2, W3, A14, A15, A16⟩
  isplitl [T0 T1 HR A14 A15 A16]
  · isplitl [T0 T1]
    · isplitl [T0]; · iexact T0
      iexact T1
    isplitl [HR]; · iexact HR
    iexists _, _, _
    isplitr
    · ipureintro
      intro _
      rw [hs]
      exact ⟨by rw [if_neg (fun h => hn ((coord1 (F := F) t).symm.trans h))], rfl, rfl⟩
    isplitl [A14]; · iexact A14
    isplitl [A15]; · iexact A15
    iexact A16
  isplitl [W0]; · iapply (out0 A t) $$ W0
  isplitl [W1]; · iapply (out1 A t) $$ W1
  isplitl [W2]; · iapply (out2 A t) $$ W2
  isplitl [W3]; · iapply (out3 A t) $$ W3
  isplitl [W4]; · iapply (asleep A 4 t (by rw [idle4, beq_false_of_ne (show k0_cond6 (grid0.coords t) ≠ 1#1 from new (by rw [coord1 (F := F)]; exact ofNat_ne35 _ h6 (by omega)))]; rfl) (flush4 t h6)) $$ W4
  isplitl [W5]; · iapply (asleep A 5 t (by rw [idle5, beq_false_of_ne (show k0_cond5 (itw (grid0.coords t)) ≠ 1#1 from new h5)]; rfl) (flush5 t h5)) $$ W5
  isplitl [W6]; · iapply (asleep A 6 t (by rw [idle6, beq_false_of_ne (show k0_cond5 (itw (grid0.coords t)) ≠ 1#1 from new h5)]; rfl) (flush6 t h5)) $$ W6
  isplitl [W7]; · iapply (asleep A 7 t (by rw [idle7, beq_false_of_ne (show k0_cond5 (itw (grid0.coords t)) ≠ 1#1 from new h5)]; rfl) (flush7 t h5)) $$ W7
  iapply (asleep A 8 t (by rw [idle8, beq_false_of_ne (show k0_cond6 (grid0.coords t) ≠ 1#1 from new (by rw [coord1 (F := F)]; exact ofNat_ne35 _ h6 (by omega)))]; rfl) (flush8 t h6)) $$ W8

set_option maxHeartbeats 1000000 in
theorem at_diagFirst (t : Fin (cf (F := F)).N) (hn : t.val % 36 = 0) (he : itw (grid0.coords t) = jtw (grid0.coords t)) (h5 : itw (grid0.coords t) ≠ 7#32) (h6 : t.val % 36 ≠ 35) :
    iprop(Phi A t.val ∗ inb A 0 t ∗ inb A 1 t ∗ inb A 2 t ∗ inb A 3 t ∗ inb A 4 t ∗ inb A 5 t ∗ inb A 6 t ∗ inb A 7 t ∗ inb A 8 t)
      ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  have hs := (st_succ A t).trans (if_pos he)
  unfold Phi
  rw [tabs_eq]
  iintro ⟨⟨⟨T0, T1⟩, HR, %f14, %f15, %f16, %hf, A14, A15, A16⟩, W0, W1, W2, W3, W4, W5, W6, W7, W8⟩
  ihave W0 := (in0 A t) $$ W0
  ihave W1 := (in1 A t) $$ W1
  ihave W2 := (in2 A t) $$ W2
  ihave W3 := (in3 A t) $$ W3
  iapply (diagFirst c (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _) (tab0 c) (tab1 c) (itw (grid0.coords t)) (jtw (grid0.coords t)) (word0 c (grid0.coords t)) (word1 c (grid0.coords t)) (kind_at (grid0.coords t)).1 (row_le (grid0.coords t)) (bq A t) (bk A t) (bv A t) (bd A t)
    (eqw (by rw [coord1 (F := F)]; rw [hn]))
    (eqw he) (by rw [← he]; exact cond3_self _) (eqw he)
    (new h5) (new (by rw [coord1 (F := F)]; exact ofNat_ne35 _ h6 (by omega)))
    f14 f15 f16 _)
  isplitl [T0]; · iexact T0
  isplitl [T1]; · iexact T1
  isplitl [W0]; · iexact W0
  isplitl [W1]; · iexact W1
  isplitl [W2]; · iexact W2
  isplitl [W3]; · iexact W3
  isplitl [A14]; · iexact A14
  isplitl [A15]; · iexact A15
  isplitl [A16]; · iexact A16
  iintro ⟨T0, T1, W0, W1, W2, W3, A14, A15, A16⟩
  isplitl [T0 T1 HR A14 A15 A16]
  · isplitl [T0 T1]
    · isplitl [T0]; · iexact T0
      iexact T1
    isplitl [HR]; · iexact HR
    iexists _, _, _
    isplitr
    · ipureintro
      intro _
      rw [hs]
      exact ⟨by rw [if_pos ((coord1 (F := F) t).trans hn)], rfl, rfl⟩
    isplitl [A14]; · iexact A14
    isplitl [A15]; · iexact A15
    iexact A16
  isplitl [W0]; · iapply (out0 A t) $$ W0
  isplitl [W1]; · iapply (out1 A t) $$ W1
  isplitl [W2]; · iapply (out2 A t) $$ W2
  isplitl [W3]; · iapply (out3 A t) $$ W3
  isplitl [W4]; · iapply (asleep A 4 t (by rw [idle4, beq_false_of_ne (show k0_cond6 (grid0.coords t) ≠ 1#1 from new (by rw [coord1 (F := F)]; exact ofNat_ne35 _ h6 (by omega)))]; rfl) (flush4 t h6)) $$ W4
  isplitl [W5]; · iapply (asleep A 5 t (by rw [idle5, beq_false_of_ne (show k0_cond5 (itw (grid0.coords t)) ≠ 1#1 from new h5)]; rfl) (flush5 t h5)) $$ W5
  isplitl [W6]; · iapply (asleep A 6 t (by rw [idle6, beq_false_of_ne (show k0_cond5 (itw (grid0.coords t)) ≠ 1#1 from new h5)]; rfl) (flush6 t h5)) $$ W6
  isplitl [W7]; · iapply (asleep A 7 t (by rw [idle7, beq_false_of_ne (show k0_cond5 (itw (grid0.coords t)) ≠ 1#1 from new h5)]; rfl) (flush7 t h5)) $$ W7
  iapply (asleep A 8 t (by rw [idle8, beq_false_of_ne (show k0_cond6 (grid0.coords t) ≠ 1#1 from new (by rw [coord1 (F := F)]; exact ofNat_ne35 _ h6 (by omega)))]; rfl) (flush8 t h6)) $$ W8

set_option maxHeartbeats 1000000 in
theorem at_diagLast (t : Fin (cf (F := F)).N) (hn : t.val % 36 ≠ 0) (he : itw (grid0.coords t) = jtw (grid0.coords t)) (h5 : itw (grid0.coords t) = 7#32) (h6 : t.val % 36 = 35) :
    iprop(Phi A t.val ∗ inb A 0 t ∗ inb A 1 t ∗ inb A 2 t ∗ inb A 3 t ∗ inb A 4 t ∗ inb A 5 t ∗ inb A 6 t ∗ inb A 7 t ∗ inb A 8 t)
      ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  have hs := (st_succ A t).trans (if_pos he)
  unfold Phi
  rw [tabs_eq]
  iintro ⟨⟨⟨T0, T1⟩, HR, %f14, %f15, %f16, %hf, A14, A15, A16⟩, W0, W1, W2, W3, W4, W5, W6, W7, W8⟩
  obtain ⟨rfl, rfl, rfl⟩ := hf (fun h => hn (by rw [h]))
  ihave W0 := (in0 A t) $$ W0
  ihave W1 := (in1 A t) $$ W1
  ihave W2 := (in2 A t) $$ W2
  ihave W3 := (in3 A t) $$ W3
  ihave W5 := (in5 A t) $$ W5
  icases W5 with ⟨%g10, W5⟩
  ihave W6 := (in6 A t) $$ W6
  icases W6 with ⟨%g11, W6⟩
  ihave W7 := (in7 A t) $$ W7
  icases W7 with ⟨%g12, W7⟩
  ihave W4 := (in4 A t) $$ W4
  icases W4 with ⟨%g9, W4⟩
  ihave W8 := (in8 A t) $$ W8
  icases W8 with ⟨%g13, W8⟩
  iapply (diagLast c (grid0.coords t) (Memref.whole main_c) (Memref.isWhole_whole _) (Memref.whole main_c_0) (Memref.isWhole_whole _) (m4 t) (hstage0_0 (((cf (F := F)).slots t 0).cast nbuf0_0)) (m5 t) (hstage0_1 (((cf (F := F)).slots t 1).cast nbuf0_1)) (m6 t) (hstage0_2 (((cf (F := F)).slots t 2).cast nbuf0_2)) (m7 t) (hstage0_3 (((cf (F := F)).slots t 3).cast nbuf0_3)) (Memref.whole main_arg5) (Memref.isWhole_whole _) (m9 t) (hstage0_4 (((cf (F := F)).slots t 4).cast nbuf0_4)) (m10 t) (hstage0_5 (((cf (F := F)).slots t 5).cast nbuf0_5)) (m11 t) (hstage0_6 (((cf (F := F)).slots t 6).cast nbuf0_6)) (m12 t) (hstage0_7 (((cf (F := F)).slots t 7).cast nbuf0_7)) (m13 t) (hstage0_8 (((cf (F := F)).slots t 8).cast nbuf0_8)) (Memref.whole cc0_scratch0) (Memref.isWhole_whole _) (Memref.whole cc0_scratch1) (Memref.isWhole_whole _) (Memref.whole cc0_scratch2) (Memref.isWhole_whole _) (tab0 c) (tab1 c) (itw (grid0.coords t)) (jtw (grid0.coords t)) (word0 c (grid0.coords t)) (word1 c (grid0.coords t)) (kind_at (grid0.coords t)).1 (row_le (grid0.coords t)) (bq A t) (bk A t) (bv A t) (bd A t)
    (new (by rw [coord1 (F := F)]; exact ofNat_ne _ hn (by omega)))
    (eqw he) (by rw [← he]; exact cond3_self _) (eqw he)
    (eqw h5) (eqw (by rw [coord1 (F := F), h6]))
    _ _ _ g10 g11 g12 g9 g13 _)
  isplitl [T0]; · iexact T0
  isplitl [T1]; · iexact T1
  isplitl [W0]; · iexact W0
  isplitl [W1]; · iexact W1
  isplitl [W2]; · iexact W2
  isplitl [W3]; · iexact W3
  isplitl [A14]; · iexact A14
  isplitl [A15]; · iexact A15
  isplitl [A16]; · iexact A16
  isplitl [W5]; · iexact W5
  isplitl [W6]; · iexact W6
  isplitl [W7]; · iexact W7
  isplitl [W4]; · iexact W4
  isplitl [W8]; · iexact W8
  iintro ⟨T0, T1, W0, W1, W2, W3, A14, A15, A16, W5, W6, W7, W4, W8⟩
  isplitl [T0 T1 HR A14 A15 A16]
  · isplitl [T0 T1]
    · isplitl [T0]; · iexact T0
      iexact T1
    isplitl [HR]; · iexact HR
    iexists _, _, _
    isplitr
    · ipureintro
      intro _
      rw [hs]
      exact ⟨by rw [if_neg (fun h => hn ((coord1 (F := F) t).symm.trans h))], rfl, rfl⟩
    isplitl [A14]; · iexact A14
    isplitl [A15]; · iexact A15
    iexact A16
  isplitl [W0]; · iapply (out0 A t) $$ W0
  isplitl [W1]; · iapply (out1 A t) $$ W1
  isplitl [W2]; · iapply (out2 A t) $$ W2
  isplitl [W3]; · iapply (out3 A t) $$ W3
  isplitl [W4]; · iapply (out4 A t (by rw [idle4, show k0_cond6 (grid0.coords t) = 1#1 from eqw (by rw [coord1 (F := F), h6])]; rfl) _ (by rw [hs]; exact congrArg _ (if_neg (fun h => hn ((coord1 (F := F) t).symm.trans h))).symm)) $$ W4
  isplitl [W5]; · iapply (out5 A t (by rw [idle5, show k0_cond5 (itw (grid0.coords t)) = 1#1 from eqw h5]; rfl) _ (by rw [hs])) $$ W5
  isplitl [W6]; · iapply (out6 A t (by rw [idle6, show k0_cond5 (itw (grid0.coords t)) = 1#1 from eqw h5]; rfl) _ (by rw [hs])) $$ W6
  isplitl [W7]; · iapply (out7 A t (by rw [idle7, show k0_cond5 (itw (grid0.coords t)) = 1#1 from eqw h5]; rfl) _ (by rw [hs])) $$ W7
  iapply (out8 A t (by rw [idle8, show k0_cond6 (grid0.coords t) = 1#1 from eqw (by rw [coord1 (F := F), h6])]; rfl) _ (by rw [hs]; exact congrArg _ (if_neg (fun h => hn ((coord1 (F := F) t).symm.trans h))).symm)) $$ W8

theorem at_all (A : (w : Fin 9) → Buf (Elt F) (((cf (F := F)).win w).arr.view.loc (c.tc : Thread nD τ))) (t : Fin (cf (F := F)).N) :
    iprop(Phi A t.val ∗ inb A 0 t ∗ inb A 1 t ∗ inb A 2 t ∗ inb A 3 t ∗ inb A 4 t ∗ inb A 5 t ∗ inb A 6 t ∗ inb A 7 t ∗ inb A 8 t) ⊢ wp frame (wpE (defs₀ (F := F)) Variants.none c none) Set.univ (bodyAt (F := F) t) fun _ => iprop(Phi A (t.val + 1) ∗ outb A 0 t ∗ outb A 1 t ∗ outb A 2 t ∗ outb A 3 t ∗ outb A 4 t ∗ outb A 5 t ∗ outb A 6 t ∗ outb A 7 t ∗ outb A 8 t) := by
  by_cases hn : t.val % 36 = 0
  · have he := (kind_at (grid0.coords t)).2.1 ((coord1 (F := F) t).trans hn)
    exact at_diagFirst A t hn he ((kind_at (grid0.coords t)).2.2.2.1 he (by rw [coord1 (F := F)]; omega)) (by omega)
  by_cases h6 : t.val % 36 = 35
  · obtain ⟨he, h5⟩ := (kind_at (grid0.coords t)).2.2.1 ((coord1 (F := F) t).trans h6)
    exact at_diagLast A t hn he h5 h6
  by_cases he : itw (grid0.coords t) = jtw (grid0.coords t)
  · exact at_diagRun A t hn he ((kind_at (grid0.coords t)).2.2.2.1 he (by rw [coord1 (F := F)]; exact h6)) h6
  by_cases h5 : itw (grid0.coords t) = 7#32
  · exact at_offOut A t hn he h5 h6
  · exact at_offRun A t hn he h5 h6

theorem ins_eq (A : (w : Fin 9) → Buf (Elt F) (((cf (F := F)).win w).arr.view.loc (c.tc : Thread nD τ))) (t : Fin (cf (F := F)).N) :
    (bigSep Finset.univ fun w : Fin 9 => inb A w t) ⊢ iprop(inb A 0 t ∗ inb A 1 t ∗ inb A 2 t ∗ inb A 3 t ∗ inb A 4 t ∗ inb A 5 t ∗ inb A 6 t ∗ inb A 7 t ∗ inb A 8 t) := Entails.of_eq (bigSep_W0 fun w : Fin 9 => inb A w t)
theorem outs_eq (A : (w : Fin 9) → Buf (Elt F) (((cf (F := F)).win w).arr.view.loc (c.tc : Thread nD τ))) (t : Fin (cf (F := F)).N) :
    iprop(outb A 0 t ∗ outb A 1 t ∗ outb A 2 t ∗ outb A 3 t ∗ outb A 4 t ∗ outb A 5 t ∗ outb A 6 t ∗ outb A 7 t ∗ outb A 8 t) ⊢ (bigSep Finset.univ fun w : Fin 9 => outb A w t) := Entails.of_eq (bigSep_W0 fun w : Fin 9 => outb A w t).symm

theorem phi_eq (A : (w : Fin 9) → Buf (Elt F) (((cf (F := F)).win w).arr.view.loc (c.tc : Thread nD τ))) (n : Fin ((cf (F := F)).N + 1)) : (dat A).Φ n = Phi A n.val := rfl
theorem owed_eq (A : (w : Fin 9) → Buf (Elt F) (((cf (F := F)).win w).arr.view.loc (c.tc : Thread nD τ))) (n n' : Fin ((cf (F := F)).N + 1)) :
    (dat A).owesAt () n = (dat A).owesAt () n' := rfl

theorem at_owed (A : (w : Fin 9) → Buf (Elt F) (((cf (F := F)).win w).arr.view.loc (c.tc : Thread nD τ))) (t : Fin (cf (F := F)).N) :
    iprop((dat A).Φ t.castSucc ∗ (dat A).owesAt () t.castSucc ∗ bigSep Finset.univ fun w : Fin 9 => inb A w t)
      ⊢ wp frame (wpE (defs₀ (F := F)) Variants.none c none) Set.univ (bodyAt (F := F) t) fun _ =>
        iprop((dat A).Φ t.succ ∗ (dat A).owesAt () t.succ ∗ bigSep Finset.univ fun w : Fin 9 => outb A w t) := by
  have e1 : (dat A).Φ t.castSucc ⊢ Phi A t.val := Entails.of_eq ((phi_eq A t.castSucc).trans (congrArg (Phi A) (Fin.val_castSucc t)))
  have e2 : Phi A (t.val + 1) ⊢ (dat A).Φ t.succ := Entails.of_eq ((phi_eq A t.succ).trans (congrArg (Phi A) (Fin.val_succ t))).symm
  have e3 : (dat A).owesAt () t.castSucc ⊢ (dat A).owesAt () t.succ := Entails.of_eq (owed_eq A _ _)
  refine BIBase.Entails.trans (Q := iprop(iprop(Phi A t.val ∗ inb A 0 t ∗ inb A 1 t ∗ inb A 2 t ∗ inb A 3 t ∗ inb A 4 t ∗ inb A 5 t ∗ inb A 6 t ∗ inb A 7 t ∗ inb A 8 t) ∗ (dat A).owesAt () t.castSucc)) ?_ ?_
  · iintro ⟨HP, HO, HW⟩
    ihave HP := e1 $$ HP
    ihave HW := (ins_eq A t) $$ HW
    isplitr [HO]
    · isplitl [HP]; · iexact HP
      iexact HW
    iexact HO
  refine BIBase.Entails.trans (sep_mono (at_all A t) .rfl) ?_
  refine BIBase.Entails.trans (wp_frame_r _ _ _) ?_
  refine wp_mono _ _ _ fun _ => ?_
  iintro ⟨⟨HP, HW⟩, HO⟩
  isplitl [HP]; · iapply e2 $$ HP
  isplitl [HO]; · iapply e3 $$ HO
  iapply (outs_eq A t) $$ HW

/-- The obligation of the body. -/
theorem hbody (A : (w : Fin 9) → Buf (Elt F) (((cf (F := F)).win w).arr.view.loc (c.tc : Thread nD τ))) :
    Pipeline.BodyObligationLoose (dat A) (defs₀ (F := F)) Variants.none () Set.univ := by
  suffices h : Pipeline.BodyObligation (dat A) (defs₀ (F := F)) Variants.none () Set.univ from h.loose
  intro t
  exact at_owed A t

end
end Cert.Fox

end
-- ==== Proof.Run.lean ====
/-
  The run of the whole program over any float values: every output array at what its write-backs leave, every argument unchanged,
  every semaphore at zero.
-/
module

public import proofs.«01_k».proof.Proof.Obl
public import Idealize.ShloMosaic.Lib.Pipeline.FrameSuffix
public import Idealize.ShloMosaic.Lib.StableHlo.RunRead

@[expose] public section

noncomputable section

namespace Cert.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The lines before the region. -/
abbrev pres : List (List (HloOp τ sig (Elt F))) := [hostOps0, hostOps0_1, hostOps0_2]

/-- What a device's buffers hold at the region's entry. -/
def V (m : (ℓ : Loc nD τ sig) → Buf (Elt F) ℓ) (c : Dev nD) : Valuation τ sig (Elt F) :=
  StableHlo.after (pres (F := F)).flatten (fun b => m (c, b))

/-- The arrays at the region's entry. -/
def arrs (m : (ℓ : Loc nD τ sig) → Buf (Elt F) ℓ) (c : Dev nD) :
    (w : Fin 9) → Buf (Elt F) (((cf (F := F)).win w).arr.view.loc (c.tc : Thread nD τ)) :=
  fun w => V m c (Proc.devRef .tc (Pipeline.arrRef spec0 w))

/-- The region's data. -/
def dats (m : (ℓ : Loc nD τ sig) → Buf (Elt F) ℓ) :
    (p : Fin 1) → (c : Dev nD) → Pipeline.Dat τ (Elt F) Unit ℕ (UR sig nD τ) ℕ (Pipeline.pin (pcfgs (F := F)) adm p) c
  | 0 => fun c => dat (arrs m c)
  | ⟨_ + 1, h⟩ => absurd h (Nat.not_lt.2 (Nat.le_add_left _ _))

/-! ## What the lines leave alone -/

/-- One of the program's six arguments. -/
def IsArg (b : Ref sig .tc) : Prop := b.space = .hbm ∧ b.idx.val < 6

instance (b : Ref sig .tc) : Decidable (IsArg b) := inferInstanceAs (Decidable (_ ∧ _))

theorem IsArg.ne {b : Ref sig .tc} (h : IsArg b) (r : Ref sig .tc) (hr : ¬ IsArg r) : ¬ Proc.devRef (τ := τ) .tc b = Proc.devRef .tc r :=
  StableHlo.devRef_ne_of_ne fun e => hr (e ▸ h)

set_option maxRecDepth 20000 in
theorem V_arg (m : (ℓ : Loc nD τ sig) → Buf (Elt F) ℓ) (c : Dev nD) (b : Ref sig .tc) (hb : IsArg b) :
    V m c (Proc.devRef .tc b) = m (c, Proc.devRef .tc b) :=
  StableHlo.after_of_forall_not_mem (b := Proc.devRef .tc b) _ _ (List.forall_iff_forall_mem.mp (by
    simp only [pres, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes,
      StableHlo.nary_writes, StableHlo.binaryIndexed_writes, StableHlo.unaryIndexed_writes, StableHlo.quaternary_writes, Finset.mem_singleton]
    repeat' apply And.intro
    all_goals exact hb.ne _ (by decide)))

theorem tail_arg (W : Valuation τ sig (Elt F)) (b : Ref sig .tc) (hb : IsArg b) :
    StableHlo.after ([hostOps1 (F := F)].flatten) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.Forall, StableHlo.unary_writes,
      StableHlo.binary_writes, Finset.mem_singleton]
    repeat' apply And.intro
    all_goals exact hb.ne _ (by decide)))

set_option maxRecDepth 20000 in
theorem V_tab0 (m : (ℓ : Loc nD τ sig) → Buf (Elt F) ℓ) (c : Dev nD) : V m c (Proc.devRef .tc main_c) = tab0 c := by
  unfold V
  after_reads_simp
  rfl
set_option maxRecDepth 20000 in
theorem V_tab1 (m : (ℓ : Loc nD τ sig) → Buf (Elt F) ℓ) (c : Dev nD) : V m c (Proc.devRef .tc main_c_0) = tab1 c := by
  unfold V
  after_reads_simp
  rfl

theorem arr_not_arg : ∀ w : Fin 9, ¬ IsArg (Pipeline.arrRef spec0 w) := by decide

/-! ## The launch -/

theorem hin (m : (ℓ : Loc nD τ sig) → Buf (Elt F) ℓ) (c : Dev nD) :
    iprop(Pipeline.ΦA spec0 c ∗ Pipeline.ΦT pre0 (tabs (F := F)) c) ⊢ (Phi (arrs m c) 0 : sProp 𝕄) := by
  unfold Pipeline.ΦA Phi
  rw [scopedRest0_eq]
  iintro ⟨⟨⟨⟨%f14, H14⟩, ⟨%f15, H15⟩, ⟨%f16, H16⟩⟩, Hr⟩, HT⟩
  isplitl [HT]; · iexact HT
  isplitl [Hr]; · iexact Hr
  iexists f14, f15, f16
  isplitr
  · ipureintro
    intro h; exact absurd rfl h
  isplitl [H14]; · iapply (Entails.of_eq (pt_whole c cc0_scratch0 f14).symm) $$ H14
  isplitl [H15]; · iapply (Entails.of_eq (pt_whole c cc0_scratch1 f15).symm) $$ H15
  iapply (Entails.of_eq (pt_whole c cc0_scratch2 f16).symm) $$ H16

theorem hout (m : (ℓ : Loc nD τ sig) → Buf (Elt F) ℓ) (c : Dev nD) (n : ℕ) :
    (Phi (arrs m c) n : sProp 𝕄) ⊢ Pipeline.ΦA spec0 c := by
  unfold Pipeline.ΦA Phi
  rw [scopedRest0_eq]
  iintro ⟨-, Hr, %f14, %f15, %f16, -, H14, H15, H16⟩
  isplitr [Hr]
  · isplitl [H14]; · iexists f14; iapply (Entails.of_eq (pt_whole c cc0_scratch0 f14)) $$ H14
    isplitl [H15]; · iexists f15; iapply (Entails.of_eq (pt_whole c cc0_scratch1 f15)) $$ H15
    iexists f16; iapply (Entails.of_eq (pt_whole c cc0_scratch2 f16)) $$ H16
  iexact Hr

set_option maxRecDepth 20000 in
theorem fresh_pres : (pres (F := F)).Forall fun ops => ops.Forall fun op => op.fresh = ∅ := by
  simp only [List.Forall]
  refine ⟨?_, ?_, ?_⟩ <;> (repeat' apply And.intro) <;> rfl

theorem tail_ops (P : HloOp τ sig (Elt F) → Prop) (h : (hostOps1 (F := F)).Forall P) : ∀ ops ∈ [hostOps1 (F := F)], ∀ op ∈ ops, P op := by
  intro ops hops
  rw [List.mem_singleton.mp hops]
  exact List.forall_iff_forall_mem.mp h

theorem tab_ne (b : Ref sig .tc) (h : main_c ≠ b ∧ main_c_0 ≠ b) (k : Fin pre0.K) : pre0.ref k ≠ b :=
  match k with
  | 0 => h.1
  | 1 => h.2

theorem arr_ne (b : Ref sig .tc) (h : ∀ w : Fin 9, Pipeline.arrRef spec0 w ≠ b) (w : Fin 9) : Pipeline.arrRef spec0 w ≠ b := h w

/-- The run: every window's array at what its write-backs leave, the rest after the lines behind the region, the semaphores at zero. -/
theorem run_post (m : (ℓ : Loc nD τ sig) → Buf (Elt F) ℓ) (g : Dev nD → PrngReg) :
    θ_run (defs (F := F)) (onTc (τ := τ) (main (F := F))) ⟨m, fun _ => 0, g⟩ fun r =>
      Pipeline.FramePost (Pipeline.pin pcfgs adm) (dats m) 0 (Pipeline.afterTail pcfgs adm (dats m) 0 (V m) [hostOps1]) r ∧ r.2.sem = fun _ => 0 :=
  Pipeline.θ_run_frameP_around_track pcfgs adm (dats m) 0 launch0 defs₀ Variants.none m g main
    (fun c => hbody (arrs m c))
    (fun c w => by unfold Pipeline.Dat.share; split <;> rfl)
    (fun _ _ => rfl) (V m) [hostOps1]
    (tail_ops _ (by
      refine ⟨?_, ?_, ?_⟩
      · exact Pipeline.sub_tailRefs pre0 spec0 _ (StableHlo.unary_bufs_sub ..) (fun k h => by
          simp only [StableHlo.unary_bufs, Finset.mem_insert, Finset.mem_singleton] at h
          exact h.elim (StableHlo.devRef_ne_of_ne (tab_ne main_v101_4 (by decide) k)) (StableHlo.devRef_ne_of_ne (tab_ne main_v102 (by decide) k)))
      · exact Pipeline.sub_tailRefs pre0 spec0 _ (StableHlo.unary_bufs_sub ..) (fun k h => by
          simp only [StableHlo.unary_bufs, Finset.mem_insert, Finset.mem_singleton] at h
          exact h.elim (StableHlo.devRef_ne_of_ne (tab_ne main_v101_3 (by decide) k)) (StableHlo.devRef_ne_of_ne (tab_ne main_v103 (by decide) k)))
      · exact Pipeline.sub_tailRefs pre0 spec0 _ (StableHlo.binary_bufs_sub ..) (fun k h => by
          simp only [StableHlo.binary_bufs, Finset.mem_insert, Finset.mem_singleton] at h
          exact h.elim (StableHlo.devRef_ne_of_ne (tab_ne main_v102 (by decide) k)) fun h => h.elim
            (StableHlo.devRef_ne_of_ne (tab_ne main_v103 (by decide) k)) (StableHlo.devRef_ne_of_ne (tab_ne main_v104 (by decide) k)))))
    (tail_ops _ ⟨rfl, rfl, rfl⟩)
    (tail_ops _ (by
      refine ⟨fun w => ?_, fun w => ?_, fun w => ?_⟩ <;> simp only [StableHlo.unary_writes, StableHlo.binary_writes, Finset.mem_singleton]
      · exact StableHlo.devRef_ne_of_ne (arr_ne main_v102 (by decide) w)
      · exact StableHlo.devRef_ne_of_ne (arr_ne main_v103 (by decide) w)
      · exact StableHlo.devRef_ne_of_ne (arr_ne main_v104 (by decide) w)))
    (Pipeline.hmainP_around pcfgs 0 defs₀ Variants.none m main pres [hostOps1] ⟨hostOps0_sub, hostOps0_1_sub, hostOps0_2_sub⟩ fresh_pres main_chain)
    (fun _ _ => rfl)
    (fun c k => match k with
      | 0 => V_tab0 m c
      | 1 => V_tab1 m c)
    (fun c => hin m c) (fun c => hout m c _) _ (fun _ h => h)

/-! ## What the arguments and the results hold at the end -/

theorem arr_inj : Function.Injective (Pipeline.arrRef spec0) := by decide

/-- Every argument ends as launched. -/
theorem post_arg (m : (ℓ : Loc nD τ sig) → Buf (Elt F) ℓ) {r : PUnit × MemSt nD τ sig (Elt F)}
    (h : Pipeline.FramePost (Pipeline.pin pcfgs adm) (dats m) 0 (Pipeline.afterTail pcfgs adm (dats m) 0 (V m) [hostOps1]) r)
    (c : Dev nD) (b : Ref sig .tc) (hb : IsArg b) (hr : b ∈ Pipeline.restRefs sig spec0) :
    r.2.mem ((c.tc : Thread nD τ).loc b) = m ((c.tc : Thread nD τ).loc b) := by
  refine ((h c).2 b hr).trans ?_
  unfold Pipeline.afterTail
  rw [tail_arg _ b hb]
  refine (Pipeline.withArrays_of_ne _ c _ _ b fun w e => ?_).trans (V_arg m c b hb)
  exact arr_not_arg w (e ▸ hb)

/-- Every window's array ends at what its write-backs leave. -/
theorem post_arr (m : (ℓ : Loc nD τ sig) → Buf (Elt F) ℓ) {r : PUnit × MemSt nD τ sig (Elt F)}
    (h : Pipeline.FramePost (Pipeline.pin pcfgs adm) (dats m) 0 (Pipeline.afterTail pcfgs adm (dats m) 0 (V m) [hostOps1]) r)
    (c : Dev nD) (w : Fin 9) :
    r.2.mem ((c.tc : Thread nD τ).loc (Pipeline.arrRef spec0 w)) = (dat (arrs m c)).arrAt w (cf (F := F)).N :=
  (h c).1 w

/-- The last result from the last two arrays: a difference of two of their lanes. -/
def dcumOf (drow dn : (⟨S8192x1024, .f32⟩ : BufTy).Contents (Elt F)) : (⟨S8192x16, .f32⟩ : BufTy).Contents (Elt F) :=
  subf (Host.slice S8192x16 ![0, 3] ![1, 64] drow slicesBy_S8192x1024_S8192x16_0s1_3s64)
    (Host.slice S8192x16 ![0, 0] ![1, 64] dn slicesBy_S8192x1024_S8192x16_0s1_0s64)

theorem tail_dcum (W : Valuation τ sig (Elt F)) : StableHlo.after ([hostOps1 (F := F)].flatten) W (Proc.devRef .tc main_v104) =
    dcumOf (W (Proc.devRef .tc main_v101_4)) (W (Proc.devRef .tc main_v101_3)) := by
  unfold dcumOf
  after_reads_simp

theorem post_dcum (m : (ℓ : Loc nD τ sig) → Buf (Elt F) ℓ) {r : PUnit × MemSt nD τ sig (Elt F)}
    (h : Pipeline.FramePost (Pipeline.pin pcfgs adm) (dats m) 0 (Pipeline.afterTail pcfgs adm (dats m) 0 (V m) [hostOps1]) r)
    (c : Dev nD) :
    r.2.mem ((c.tc : Thread nD τ).loc main_v104) =
      dcumOf ((dat (arrs m c)).arrAt 8 (cf (F := F)).N) ((dat (arrs m c)).arrAt 7 (cf (F := F)).N) := by
  refine ((h c).2 main_v104 ((by decide : main_v104 ∈ Pipeline.restRefs sig spec0))).trans ?_
  unfold Pipeline.afterTail
  rw [tail_dcum]
  exact congrArg₂ dcumOf (Pipeline.withArrays_arr spec0 arr_inj c (V m c) (fun w => (dats m 0 c).arrAt w (cf (F := F)).N) 8)
    (Pipeline.withArrays_arr spec0 arr_inj c (V m c) (fun w => (dats m 0 c).arrAt w (cf (F := F)).N) 7)

end Cert.Fox

end
-- ==== Proof.Frame.lean ====
/-
  Every program terminates, leaves its arguments unchanged and every semaphore at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Fox

open Idealize.ShloMosaic Idealize.ShloMosaic.TcCoe Idealize.SL.Sem

/-- The run over any float values, read at the arguments and the counters. -/
theorem run_args {F : FTy → Type} [FloatOps F] [Named F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run _ _ _).mono (fun _ h => ⟨fun c => ⟨post_arg m h.1 c _ (by decide) (by decide), post_arg m h.1 c _ (by decide) (by decide),
    post_arg m h.1 c _ (by decide) (by decide), post_arg m h.1 c _ (by decide) (by decide), post_arg m h.1 c _ (by decide) (by decide),
    post_arg m h.1 c _ (by decide) (by decide)⟩, h.2⟩) (run_post m g)

theorem frame_kernelIdeal : Cert.quiescent_KernelIdeal (hKernelIdeal := Cert.KernelIdeal.Gen.facts) := fun m g _ => run_args (F := Ideal) m g

/-- At the bits a named constant is the literal that the program prints. -/
local instance : Named Bits := ⟨fun _ _ {φ} bits => Scalar.ofBits φ bits⟩

/-! ## The printed program at the bits is the ideal one with its constants' names read as their literals -/

section Same

set_option maxRecDepth 100000
set_option maxHeartbeats 1000000

theorem body_same (i a0 a1 a2 a3 a4 a5 a6 a7 a8 a9 a10 a11 a12 a13 a14 a15 a16 a17 a18 a19 a20 a21 a22 a23 a24 a25 a26 a27 a28 a29) :
    @Cert.Kernel.cc0_fox_bwd Bits _ _ i a0 a1 a2 a3 a4 a5 a6 a7 a8 a9 a10 a11 a12 a13 a14 a15 a16 a17 a18 a19 a20 a21 a22 a23 a24 a25 a26 a27 a28 a29 = @Cert.KernelIdeal.cc0_fox_bwd Bits _ _ _ i a0 a1 a2 a3 a4 a5 a6 a7 a8 a9 a10 a11 a12 a13 a14 a15 a16 a17 a18 a19 a20 a21 a22 a23 a24 a25 a26 a27 a28 a29 := by
  unfold Cert.Kernel.cc0_fox_bwd Cert.KernelIdeal.cc0_fox_bwd
  rfl

theorem pcfgs_same : Cert.Kernel.pcfgs (F := Bits) = Cert.KernelIdeal.pcfgs (F := Bits) := rfl

theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    refine (body_same ..).trans ?_
    rfl
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) defs₀_same

theorem part0_same : Cert.Kernel.main_part0 (F := Bits) = Cert.KernelIdeal.main_part0 (F := Bits) := by
  unfold Cert.Kernel.main_part0 Cert.KernelIdeal.main_part0
  rfl

theorem part1_same : Cert.Kernel.main_part1 (F := Bits) = Cert.KernelIdeal.main_part1 (F := Bits) := by
  unfold Cert.Kernel.main_part1 Cert.KernelIdeal.main_part1
  rfl

theorem part2_same : Cert.Kernel.main_part2 (F := Bits) = Cert.KernelIdeal.main_part2 (F := Bits) := by
  unfold Cert.Kernel.main_part2 Cert.KernelIdeal.main_part2
  rfl

theorem main_same : Cert.Kernel.main (F := Bits) = Cert.KernelIdeal.main (F := Bits) := by
  funext d
  refine (congrArg₂ Bind.bind (congrFun part0_same d) (funext fun _ => congrArg₂ Bind.bind (congrFun part1_same d) (funext fun _ => congrFun part2_same d)))

end Same

theorem frame_kernel : Cert.quiescent_Kernel (hKernel := Cert.Kernel.Gen.facts) := by
  intro m g _
  rw [defs_same, main_same]
  exact run_args (F := Bits) m g

theorem frame_reference : Cert.quiescent_ReferenceIdeal (hReferenceIdeal := Cert.ReferenceIdeal.Gen.facts) := fun m g _ =>
  (θ_run _ _ _).mono (fun _ h => ⟨fun c => (h c).2.2.2.2, sem_eq_zero_of_no_sems rfl _⟩) (Cert.ReferenceIdeal.Value.run (F := Ideal) m g)

end Cert.Fox

end
-- ==== Proof.Host.lean ====
/-
  What the lines before the call leave in its operands, as functions of the program's arguments.
-/
module
public import proofs.«01_k».proof.Proof.Run
@[expose] public section
noncomputable section
namespace Cert.Fox
open Cert.KernelIdeal Cert.KernelIdeal.Gen
open Idealize.ShloMosaic
open Idealize.ShloMosaic.TcCoe
variable {F : FTy → Type} [FloatOps F]

section
variable (q : FVec F S8192x1024 .f32) (k v : FVec F S8192x16x64 .f32) (g : FVec F S8192x16 .f32) (dy : FVec F S8192x1024 .f32)

/-- The rows cut into heads. -/
def heads : FVec F S8192x16x64 .f32 := shapeCast _ q shapeCasts_S8192x1024_S8192x16x64

/-- Whether a query may see a key. -/
def sees : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The masked scores, less the query's own gate sum. -/
def scores : FVec F S16x8192x8192 .f32 :=
  select (broadcastInDim S16x8192x8192 ![1, 2] bcast_S8192x8192_S16x8192x8192_1_2 sees)
    (subf (mulf (Host.dotGeneral dot_S8192x16x64_S8192x16x64_S16x8192x8192_2_2_0_0_1_1 none (heads q) k)
        (broadcastInDim S16x8192x8192 ![] bcast_S_S16x8192x8192 (constant S_ .f32 0x3E000000#32)))
      (broadcastInDim S16x8192x8192 ![0, 1, 2] bcast_S16x1x8192_S16x8192x8192_0_1_2 (broadcastInDim S16x1x8192 ![0, 2] bcast_S16x8192_S16x1x8192_0_2
        (transpose S16x8192 [1, 0] g transposes_S8192x16_S16x8192_1_0))))
    (broadcastInDim S16x8192x8192 ![] bcast_S_S16x8192x8192 (id (constant S_ .f32 0xFF800000#32)))

/-- Each row's greatest score, the powers of the differences from it, and their sum. -/
def rowMax : FVec F S16x8192 .f32 := Host.reduce FloatOps.maximumf (scores q k g) (constant S_ .f32 0xFF800000#32) reducesTo_S16x8192x8192_S16x8192_d2 h_S_
def spread (x : FVec F S16x8192 .f32) : FVec F S16x8192x8192 .f32 :=
  broadcastInDim S16x8192x8192 ![0, 1, 2] bcast_S16x8192x1_S16x8192x8192_0_1_2 (broadcastInDim S16x8192x1 ![0, 1] bcast_S16x8192_S16x8192x1_0_1 x)
def powers : FVec F S16x8192x8192 .f32 := Host.exp (subf (scores q k g) (spread (rowMax q k g)))
def rowSum : FVec F S16x8192 .f32 := Host.reduceAdd (powers q k g) (constant S_ .f32 0x00000000#32) reducesTo_S16x8192x8192_S16x8192_d2 h_S_

/-- The attention's result. -/
def attn : FVec F S8192x16x64 .f32 :=
  transpose S8192x16x64 [2, 0, 1] (Host.dotGeneral dot_S8192x16x64_S16x8192x8192_S16x64x8192_0_2_2_1_1_0 none v (Host.divf (powers q k g) (spread (rowSum q k g))))
    transposes_S16x64x8192_S8192x16x64_2_0_1

/-- One over the logarithm of two. -/
def log2e : FVec F S_ .f32 := Host.divf (constant S_ .f32 0x3F800000#32) (Host.log (constant S_ .f32 0x40000000#32))

/-- The saved log-sum-exp, and what the result's gradient gives of the result, both negated. -/
def nLse : FVec F S8192x16 .f32 :=
  Host.negf (transpose S8192x16 [1, 0] (mulf (addf (rowMax q k g) (Host.log (rowSum q k g))) (broadcastInDim S16x8192 ![] bcast_S_S16x8192 log2e))
    transposes_S16x8192_S8192x16_1_0)
def nDelta : FVec F S8192x16 .f32 :=
  Host.negf (Host.reduceAdd (mulf (heads dy) (attn q k v g)) (constant S_ .f32 0x00000000#32) reducesTo_S8192x16x64_S8192x16_d2 h_S_)

/-- A value in two bytes, what that leaves of it, and a value's three parts as columns. -/
def top (x : FVec F S8192x16 .f32) : FVec F S8192x16 .f32 := extf .f32 (truncf .bf16 x bitsLt_bf16_f32) bitsLt_bf16_f32
def rest (x : FVec F S8192x16 .f32) : FVec F S8192x16 .f32 := subf x (top x)
def col (x : FVec F S8192x16 .f32) : FVec F S8192x16x1 .f32 := broadcastInDim S8192x16x1 ![0, 1] bcast_S8192x16_S8192x16x1_0_1 x
def part1 (x : FVec F S8192x16 .f32) : FVec F S8192x16x1 .f32 := col (top x)
def part2 (x : FVec F S8192x16 .f32) : FVec F S8192x16x1 .f32 := col (top (rest x))
def part3 (x : FVec F S8192x16 .f32) : FVec F S8192x16x1 .f32 := col (top (rest (rest x)))
def oneCol : FVec F S8192x16x1 .f32 := col (broadcastInDim S8192x16 ![] bcast_S_S8192x16 (constant S_ .f32 0x3F800000#32))

/-- Each head's 64 lanes, six columns behind them, zeros up to 128 lanes. -/
def pack6 (x : FVec F S8192x16x64 .f32) (a b c d e f : FVec F S8192x16x1 .f32) : FVec F S8192x2048 .bf16 :=
  shapeCast _ (truncf .bf16 (concatenate S8192x16x128 2 [⟨S8192x16x64, x⟩, ⟨S8192x16x1, a⟩, ⟨S8192x16x1, b⟩, ⟨S8192x16x1, c⟩, ⟨S8192x16x1, d⟩,
    ⟨S8192x16x1, e⟩, ⟨S8192x16x1, f⟩, ⟨S8192x16x58, broadcastInDim S8192x16x58 ![] bcast_S_S8192x16x58 (constant S_ .f32 0x00000000#32)⟩]
    concatenates_S8192x16x64_S8192x16x1_S8192x16x1_S8192x16x1_S8192x16x1_S8192x16x1_S8192x16x1_S8192x16x58_S8192x16x128_d2) bitsLt_bf16_f32)
    shapeCasts_S8192x16x128_S8192x2048
def pack3 (x : FVec F S8192x16x64 .f32) (a b c : FVec F S8192x16x1 .f32) : FVec F S8192x2048 .bf16 :=
  shapeCast _ (truncf .bf16 (concatenate S8192x16x128 2 [⟨S8192x16x64, x⟩, ⟨S8192x16x1, a⟩, ⟨S8192x16x1, b⟩, ⟨S8192x16x1, c⟩,
    ⟨S8192x16x61, broadcastInDim S8192x16x61 ![] bcast_S_S8192x16x61 (constant S_ .f32 0x00000000#32)⟩]
    concatenates_S8192x16x64_S8192x16x1_S8192x16x1_S8192x16x1_S8192x16x61_S8192x16x128_d2) bitsLt_bf16_f32)
    shapeCasts_S8192x16x128_S8192x2048

/-- The call's four packed operands. -/
def packQ : FVec F S8192x2048 .bf16 :=
  pack6 (mulf (heads q) (broadcastInDim S8192x16x64 ![] bcast_S_S8192x16x64 (mulf (constant S_ .f32 0x3E000000#32) log2e)))
    oneCol oneCol oneCol (part1 (nLse q k g)) (part2 (nLse q k g)) (part3 (nLse q k g))
def gate : FVec F S8192x16 .f32 := mulf (Host.negf g) (broadcastInDim S8192x16 ![] bcast_S_S8192x16 log2e)
def packK : FVec F S8192x2048 .bf16 := pack6 k (part1 (gate g)) (part2 (gate g)) (part3 (gate g)) oneCol oneCol oneCol
def packV : FVec F S8192x2048 .bf16 :=
  shapeCast _ (truncf .bf16 (concatenate S8192x16x128 2 [⟨S8192x16x64, v⟩, ⟨S8192x16x64, broadcastInDim S8192x16x64 ![] bcast_S_S8192x16x64 (constant S_ .f32 0x3F800000#32)⟩]
    concatenates_S8192x16x64_S8192x16x64_S8192x16x128_d2) bitsLt_bf16_f32) shapeCasts_S8192x16x128_S8192x2048
def packD : FVec F S8192x2048 .bf16 := pack3 (heads dy) (part1 (nDelta q k v g dy)) (part2 (nDelta q k v g dy)) (part3 (nDelta q k v g dy))
end

set_option maxRecDepth 200000 in
theorem V_v (m : (ℓ : Loc nD τ sig) → Buf (Elt F) ℓ) (c : Dev nD) : V m c (Proc.devRef .tc main_v84) = packV (m ((c.tc : Thread nD τ).loc main_arg2)) := by
  unfold V
  after_reads_simp
  rfl
set_option maxRecDepth 200000 in
theorem V_k (m : (ℓ : Loc nD τ sig) → Buf (Elt F) ℓ) (c : Dev nD) : V m c (Proc.devRef .tc main_v80) = packK (m ((c.tc : Thread nD τ).loc main_arg1)) (m ((c.tc : Thread nD τ).loc main_arg3)) := by
  unfold V
  after_reads_simp
  rfl
theorem pack6_congr {x x' : FVec F S8192x16x64 .f32} {a a' b b' c c' d d' e e' f f' : FVec F S8192x16x1 .f32} (hx : x = x') (ha : a = a') (hb : b = b')
    (hc : c = c') (hd : d = d') (he : e = e') (hf : f = f') : pack6 x a b c d e f = pack6 x' a' b' c' d' e' f' := by
  rw [hx, ha, hb, hc, hd, he, hf]
theorem pack3_congr {x x' : FVec F S8192x16x64 .f32} {a a' b b' c c' : FVec F S8192x16x1 .f32} (hx : x = x') (ha : a = a') (hb : b = b')
    (hc : c = c') : pack3 x a b c = pack3 x' a' b' c' := by
  rw [hx, ha, hb, hc]
set_option maxRecDepth 20000 in
theorem V_q (m : (ℓ : Loc nD τ sig) → Buf (Elt F) ℓ) (c : Dev nD) : V m c (Proc.devRef .tc main_v59) = packQ (m ((c.tc : Thread nD τ).loc main_arg0)) (m ((c.tc : Thread nD τ).loc main_arg1)) (m ((c.tc : Thread nD τ).loc main_arg3)) := by
  unfold V
  after_reads_simp
  refine pack6_congr (F := F) ?_ ?_ ?_ ?_ ?_ ?_ ?_
  all_goals dsimp only [Matrix.cons_val]
  all_goals after_reads_simp
  all_goals rfl
set_option maxRecDepth 20000 in
theorem V_d (m : (ℓ : Loc nD τ sig) → Buf (Elt F) ℓ) (c : Dev nD) : V m c (Proc.devRef .tc main_v100) = packD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold V
  after_reads_simp
  refine pack3_congr (F := F) ?_ ?_ ?_ ?_
  all_goals dsimp only [Matrix.cons_val]
  all_goals after_reads_simp
  all_goals rfl
set_option maxRecDepth 20000 in
theorem V_dh (m : (ℓ : Loc nD τ sig) → Buf (Elt F) ℓ) (c : Dev nD) : V m c (Proc.devRef .tc main_v101_0) = m ((c.tc : Thread nD τ).loc main_arg5) := by
  unfold V
  after_reads_simp
  rfl
end Cert.Fox
end
-- ==== Proof.Pay.lean ====
/-
  The sums that one grid point of the backward call adds, over the extended reals, read at an index: per key and query the weight
  (zero above the diagonal) and the score's gradient.
-/
module
public import proofs.«01_k».proof.Proof.State
public import Idealize.ShloMosaic.Lib.Pointwise
@[expose] public section
noncomputable section
namespace Cert.Fox
open Cert.KernelIdeal Cert.KernelIdeal.Gen
open Idealize.ShloMosaic

/-- The product of two rows of 128 lanes. -/
def dot (k q : Fin 128 → EReal) : EReal := ∑ m : Fin 128, k m * q m

/-- A key's weight for a query: two to the power of their product, or zero where the query may not see the key. -/
def wt (le : Prop) [Decidable le] (k q : Fin 128 → EReal) : EReal := if le then Ideal.exp2 (dot k q) else 0

/-- The gradient of a key's score for a query. -/
def sg (le : Prop) [Decidable le] (k q v d : Fin 128 → EReal) : EReal := wt le k q * dot v d

/-- A row of a block. -/
def row {n : ℕ} (x : (⟨2, ![n, 128]⟩ : Shape).Idx → EReal) (a : Fin n) : Fin 128 → EReal := fun m => x (ix2 a m)

theorem wt_true (k q : Fin 128 → EReal) : wt True k q = Ideal.exp2 (∑ m, k m * q m) := if_pos trivial

theorem wt_mask (a b o : ℕ) (ha : a < 1024) (hb : b < 1024) (ho : o < 1024) (k q : Fin 128 → EReal) :
    (FloatOps.exp2 (Scalar.select
      (IntOp.cmpi CmpIPredicate.sle (IntOp.addi (BitVec.ofNat 32 a) (BitVec.ofNat 32 o)) (IntOp.addi (BitVec.ofNat 32 b) (BitVec.ofNat 32 o)))
      (∑ m, k m * q m) (Named.named (F := Ideal) κ "mask" (φ := .f32) 0xF149F2CA#32)) : EReal) = wt (a ≤ b) k q := by
  have hc : IntOp.cmpi CmpIPredicate.sle (IntOp.addi (BitVec.ofNat 32 a) (BitVec.ofNat 32 o)) (IntOp.addi (BitVec.ofNat 32 b) (BitVec.ofNat 32 o))
      = BitVec.ofBool (decide (a ≤ b)) := by
    show BitVec.ofBool ((BitVec.ofNat 32 a + BitVec.ofNat 32 o).sle (BitVec.ofNat 32 b + BitVec.ofNat 32 o)) = _
    congr 1
    rw [BitVec.sle_eq_decide, BitVec.toInt_eq_toNat_of_lt, BitVec.toInt_eq_toNat_of_lt]
    · simp only [BitVec.toNat_add, BitVec.toNat_ofNat]
      apply decide_eq_decide.mpr
      omega
    · simp only [BitVec.toNat_add, BitVec.toNat_ofNat]; omega
    · simp only [BitVec.toNat_add, BitVec.toNat_ofNat]; omega
  rw [hc]
  unfold wt
  by_cases h : a ≤ b
  · rw [if_pos h, decide_eq_true h]; rfl
  · rw [if_neg h, decide_eq_false h]
    show Ideal.exp2 (Named.named (F := Ideal) κ "mask" (φ := .f32) 0xF149F2CA#32) = 0
    have : (Named.named (F := Ideal) κ "mask" (φ := .f32) 0xF149F2CA#32 : EReal) = ⊥ := by
      rfl
    rw [this]; rfl

section
variable (q k v d : Vals Ideal S1024x128 .bf16) (w : Vals Ideal S1x1024x128 .f32) (a : Fin 1024) (l : Fin 128)

theorem pay21_at : k0_pay21 q k d w (ix3 0 a l) = w (ix3 0 a l) + ∑ b : Fin 1024, wt True (row k a) (row q b) * row d b l := by
  pointwise [k0_pay21, k0_pay19, k0_pay16, k0_pay17, k0_pay18]; simp only [wt_true]; rfl
theorem pay29_at : k0_pay29 q k d w (ix3 0 a l) = w (ix3 0 a l) + ∑ b : Fin 1024, wt True (row k a) (row q b) * row d b l := by
  pointwise [k0_pay29, k0_pay27, k0_pay24, k0_pay25, k0_pay26]; simp only [wt_true]; rfl
theorem pay22_at : k0_pay22 q k d v w (ix3 0 a l) = w (ix3 0 a l) + ∑ b : Fin 1024, sg True (row k a) (row q b) (row v a) (row d b) * row q b l := by
  pointwise [k0_pay22, k0_pay20, k0_pay19, k0_pay16, k0_pay17, k0_pay18]; simp only [sg, wt_true]; rfl
theorem pay31_at : k0_pay5 (k0_pay30 w) (k0_pay31 q k d v) (ix3 0 a l) = w (ix3 0 a l) + ∑ b : Fin 1024, sg True (row k a) (row q b) (row v a) (row d b) * row q b l := by
  pointwise [k0_pay5, k0_pay30, k0_pay31, k0_pay28, k0_pay27, k0_pay24, k0_pay25, k0_pay26]; simp only [sg, wt_true]; rfl
theorem pay23_at : k0_pay23 (k0_pay17 k) (k0_pay20 q k d v) w (ix3 0 a l) = w (ix3 0 a l) + ∑ b : Fin 1024, sg True (row k b) (row q a) (row v b) (row d a) * row k b l := by
  pointwise [k0_pay23, k0_pay20, k0_pay19, k0_pay16, k0_pay17, k0_pay18]; simp only [sg, wt_true]; rfl
theorem pay6_at : k0_pay6 (k0_pay25 k) (k0_pay28 q k d v) w (ix3 0 a l) = w (ix3 0 a l) + ∑ b : Fin 1024, sg True (row k b) (row q a) (row v b) (row d a) * row k b l := by
  pointwise [k0_pay6, k0_pay28, k0_pay27, k0_pay24, k0_pay25, k0_pay26]; simp only [sg, wt_true]; rfl
end

section
variable (q d : Vals Ideal S1024x128 .bf16) (k v : Vals Ideal S512x128 .bf16) (w : Vals Ideal S1x512x128 .f32) (W : Vals Ideal S1x1024x128 .f32)
  (a : Fin 512) (A : Fin 1024) (l : Fin 128)

theorem pay37_at : k0_pay37 q k d w (ix3 0 a l) = w (ix3 0 a l) + ∑ b : Fin 1024, wt (a.val ≤ b.val) (row k a) (row q b) * row d b l := by
  pointwise [k0_pay37, k0_pay35, k0_pay32, k0_pay33, k0_pay34]
  refine congrArg _ (Finset.sum_congr rfl fun b _ => congrArg (· * _) ?_)
  exact wt_mask a b 0 (by omega) (by omega) (by omega) (row k a) (row q b)
theorem pay55_at : k0_pay55 (k0_pay50 q) (k0_pay51 k) d w (ix3 0 a l) = w (ix3 0 a l) + ∑ b : Fin 1024, wt (a.val ≤ b.val) (row k a) (row q b) * row d b l := by
  pointwise [k0_pay55, k0_pay53, k0_pay52, k0_pay50, k0_pay51]
  refine congrArg _ (Finset.sum_congr rfl fun b _ => congrArg (· * _) ?_)
  exact wt_mask a b 0 (by omega) (by omega) (by omega) (row k a) (row q b)
theorem pay38_at : k0_pay39 (k0_pay38 q k d v w) (ix3 0 a l) = w (ix3 0 a l) + ∑ b : Fin 1024, sg (a.val ≤ b.val) (row k a) (row q b) (row v a) (row d b) * row q b l := by
  pointwise [k0_pay39, k0_pay38, k0_pay36, k0_pay35, k0_pay32, k0_pay33, k0_pay34]
  refine congrArg _ (Finset.sum_congr rfl fun b _ => congrArg (· * _) (congrArg (· * _) ?_))
  exact wt_mask a b 0 (by omega) (by omega) (by omega) (row k a) (row q b)
theorem pay56_at : k0_pay56 (k0_pay50 q) (k0_pay51 k) d v w (ix3 0 a l) = w (ix3 0 a l) + ∑ b : Fin 1024, sg (a.val ≤ b.val) (row k a) (row q b) (row v a) (row d b) * row q b l := by
  pointwise [k0_pay56, k0_pay54, k0_pay53, k0_pay52, k0_pay50, k0_pay51]
  refine congrArg _ (Finset.sum_congr rfl fun b _ => congrArg (· * _) (congrArg (· * _) ?_))
  exact wt_mask a b 0 (by omega) (by omega) (by omega) (row k a) (row q b)
theorem pay40_at : k0_pay40 (k0_pay33 k) (k0_pay36 q k d v) W (ix3 0 A l) = W (ix3 0 A l) + ∑ b : Fin 512, sg (b.val ≤ A.val) (row k b) (row q A) (row v b) (row d A) * row k b l := by
  pointwise [k0_pay40, k0_pay36, k0_pay35, k0_pay32, k0_pay33, k0_pay34]
  refine congrArg _ (Finset.sum_congr rfl fun b _ => congrArg (· * _) (congrArg (· * _) ?_))
  exact wt_mask b A 0 (by omega) (by omega) (by omega) (row k b) (row q A)
theorem pay57_at : k0_pay57 (k0_pay51 k) (k0_pay54 (k0_pay50 q) (k0_pay51 k) d v) W (ix3 0 A l) = W (ix3 0 A l) + ∑ b : Fin 512, sg (b.val ≤ A.val) (row k b) (row q A) (row v b) (row d A) * row k b l := by
  pointwise [k0_pay57, k0_pay54, k0_pay53, k0_pay52, k0_pay50, k0_pay51]
  refine congrArg _ (Finset.sum_congr rfl fun b _ => congrArg (· * _) (congrArg (· * _) ?_))
  exact wt_mask b A 0 (by omega) (by omega) (by omega) (row k b) (row q A)
end

section
set_option maxRecDepth 4000
variable (q d k v : Vals Ideal S512x128 .bf16) (w : Vals Ideal S1x512x128 .f32) (a : Fin 512) (l : Fin 128)

theorem pay47_at : k0_pay47 (k0_pay43 d) (k0_pay44 q k) w (ix3 0 a l) = w (ix3 0 a l) + ∑ b : Fin 512, wt (a.val ≤ b.val) (row k a) (row q b) * row d b l := by
  pointwise [k0_pay47, k0_pay44, k0_pay41, k0_pay42, k0_pay43]
  refine congrArg _ (Finset.sum_congr rfl fun b _ => congrArg (· * _) ?_)
  exact wt_mask a b 512 (by omega) (by omega) (by omega) (row k a) (row q b)
theorem pay7_at : k0_pay7 (k0_pay60 d) (k0_pay63 w) (k0_pay64 q k) (constant S512x128 .f32 0x00000000#32) (ix3 0 a l) = w (ix3 0 a l) + ∑ b : Fin 512, wt (a.val ≤ b.val) (row k a) (row q b) * row d b l := by
  pointwise [k0_pay7, k0_pay60, k0_pay63, k0_pay64, k0_pay61, k0_pay58, k0_pay59]
  refine congrArg _ (Finset.sum_congr rfl fun b _ => congrArg (· * _) ?_)
  exact wt_mask a b 512 (by omega) (by omega) (by omega) (row k a) (row q b)
theorem pay48_at : k0_pay48 (k0_pay41 q) (k0_pay45 q k d v) w (ix3 0 a l) = w (ix3 0 a l) + ∑ b : Fin 512, sg (a.val ≤ b.val) (row k a) (row q b) (row v a) (row d b) * row q b l := by
  pointwise [k0_pay48, k0_pay46, k0_pay45, k0_pay44, k0_pay41, k0_pay42, k0_pay43]
  refine congrArg _ (Finset.sum_congr rfl fun b _ => congrArg (· * _) (congrArg (· * _) ?_))
  exact wt_mask a b 512 (by omega) (by omega) (by omega) (row k a) (row q b)
theorem pay8_at : k0_pay8 (k0_pay58 q) (k0_pay62 q k d v) w (ix3 0 a l) = w (ix3 0 a l) + ∑ b : Fin 512, sg (a.val ≤ b.val) (row k a) (row q b) (row v a) (row d b) * row q b l := by
  pointwise [k0_pay8, k0_pay62, k0_pay61, k0_pay58, k0_pay59, k0_pay60]
  refine congrArg _ (Finset.sum_congr rfl fun b _ => congrArg (· * _) (congrArg (· * _) ?_))
  exact wt_mask a b 512 (by omega) (by omega) (by omega) (row k a) (row q b)
theorem pay49_at : k0_pay49 (k0_pay42 k) (k0_pay45 q k d v) w (ix3 0 a l) = w (ix3 0 a l) + ∑ b : Fin 512, sg (b.val ≤ a.val) (row k b) (row q a) (row v b) (row d a) * row k b l := by
  pointwise [k0_pay49, k0_pay46, k0_pay45, k0_pay44, k0_pay41, k0_pay42, k0_pay43]
  refine congrArg _ (Finset.sum_congr rfl fun b _ => congrArg (· * _) (congrArg (· * _) ?_))
  exact wt_mask b a 512 (by omega) (by omega) (by omega) (row k b) (row q a)
theorem pay9_at : k0_pay9 (k0_pay59 k) (k0_pay62 q k d v) w (ix3 0 a l) = w (ix3 0 a l) + ∑ b : Fin 512, sg (b.val ≤ a.val) (row k b) (row q a) (row v b) (row d a) * row k b l := by
  pointwise [k0_pay9, k0_pay62, k0_pay61, k0_pay58, k0_pay59, k0_pay60]
  refine congrArg _ (Finset.sum_congr rfl fun b _ => congrArg (· * _) (congrArg (· * _) ?_))
  exact wt_mask b a 512 (by omega) (by omega) (by omega) (row k b) (row q a)
end

end Cert.Fox
end
-- ==== Proof.Steps.lean ====
/-
  One grid point's effect on the three accumulators over the extended reals, at an index: below the diagonal and on it alike, each
  head's accumulator gains the sum over the block's queries (or keys) of the weights and gradients that Pay.lean names.
-/
module
public import proofs.«01_k».proof.Proof.Pay
@[expose] public section
noncomputable section
namespace Cert.Fox
open Cert.KernelIdeal Cert.KernelIdeal.Gen
open Idealize.ShloMosaic

section
variable {α : Type} {n0 n1 n2 m1 : ℕ}

/-- A window of one head's rows, at an index. -/
theorem win3 (x : (⟨3, ![n0, n1, n2]⟩ : Shape).Idx → α) (h r : ℕ) (inb : ∀ a, (![h, r, 0] : Fin 3 → ℕ) a + (⟨3, ![1, m1, n2]⟩ : Shape).size a ≤ (⟨3, ![n0, n1, n2]⟩ : Shape).size a)
    (a : Fin m1) (l : Fin n2) (b : Fin n0) (c : Fin n1) (hb : b.val = h) (hc : c.val = r + a.val) :
    VecWindow.window (s := ⟨3, ![n0, n1, n2]⟩) x ![h, r, 0] (⟨3, ![1, m1, n2]⟩ : Shape).size inb (ix3 0 a l) = x (ix3 b c l) := by
  unfold VecWindow.window
  congr 1
  funext i
  apply Fin.ext
  match i with
  | 0 => exact hb.symm
  | 1 => show r + 1 * a.val = c.val; omega
  | 2 => show 0 + 1 * l.val = l.val; omega

/-- An array whose window of one head's rows is replaced, at an index inside it, -/
theorem upd3_in (x : (⟨3, ![n0, n1, n2]⟩ : Shape).Idx → α) (h r : ℕ) (inb : ∀ a, (![h, r, 0] : Fin 3 → ℕ) a + (⟨3, ![1, m1, n2]⟩ : Shape).size a ≤ (⟨3, ![n0, n1, n2]⟩ : Shape).size a)
    (f) (b : Fin n0) (c : Fin n1) (l : Fin n2) (a : Fin m1) (hb : b.val = h) (hc : c.val = r + a.val) :
    upd (s := ⟨3, ![n0, n1, n2]⟩) x ![h, r, 0] (⟨3, ![1, m1, n2]⟩ : Shape).size inb f (ix3 b c l)
      = f (VecWindow.window (s := ⟨3, ![n0, n1, n2]⟩) x ![h, r, 0] (⟨3, ![1, m1, n2]⟩ : Shape).size inb) (ix3 0 a l) := by
  unfold upd VecWindow.put
  rw [dif_pos]
  · congr 1
    funext i
    apply Fin.ext
    match i with
    | 0 => show b.val - h = 0; omega
    | 1 => show c.val - r = a.val; omega
    | 2 => show l.val - 0 = l.val; omega
  · intro i
    match i with
    | 0 => show h ≤ b.val ∧ b.val < h + 1; omega
    | 1 => show r ≤ c.val ∧ c.val < r + m1; have := a.isLt; omega
    | 2 => show 0 ≤ l.val ∧ l.val < 0 + n2; have := l.isLt; omega

/-- and outside it. -/
theorem upd3_out (x : (⟨3, ![n0, n1, n2]⟩ : Shape).Idx → α) (h r : ℕ) (inb : ∀ a, (![h, r, 0] : Fin 3 → ℕ) a + (⟨3, ![1, m1, n2]⟩ : Shape).size a ≤ (⟨3, ![n0, n1, n2]⟩ : Shape).size a)
    (f) (b : Fin n0) (c : Fin n1) (l : Fin n2) (hb : b.val ≠ h ∨ c.val < r ∨ r + m1 ≤ c.val) :
    upd (s := ⟨3, ![n0, n1, n2]⟩) x ![h, r, 0] (⟨3, ![1, m1, n2]⟩ : Shape).size inb f (ix3 b c l) = x (ix3 b c l) := by
  unfold upd VecWindow.put
  rw [dif_neg]
  intro H
  have h0 : h ≤ b.val ∧ b.val < h + 1 := H 0
  have h1 : r ≤ c.val ∧ c.val < r + m1 := H 1
  omega

/-- A window of rows and lanes, at an index. -/
theorem win2 {k0 k1 m0 : ℕ} (x : (⟨2, ![k0, k1]⟩ : Shape).Idx → α) (r o : ℕ) (inb : ∀ a, (![r, o] : Fin 2 → ℕ) a + (⟨2, ![m0, m1]⟩ : Shape).size a ≤ (⟨2, ![k0, k1]⟩ : Shape).size a)
    (a : Fin m0) (l : Fin m1) (c : Fin k0) (b : Fin k1) (hr : c.val = r + a.val) (ho : b.val = o + l.val) :
    VecWindow.window (s := ⟨2, ![k0, k1]⟩) x ![r, o] (⟨2, ![m0, m1]⟩ : Shape).size inb (ix2 a l) = x (ix2 c b) := by
  unfold VecWindow.window
  congr 1
  funext i
  apply Fin.ext
  match i with
  | 0 => show r + 1 * a.val = c.val; omega
  | 1 => show o + 1 * l.val = b.val; omega
end

/-- Head `h`'s lanes of a row of a block. -/
def hrow (x : Vals Ideal S1024x256 .bf16) (h : Fin 2) (a : Fin 1024) : Fin 128 → EReal := fun m => x (ix2 a ⟨128 * h.val + m.val, by omega⟩)

section
variable (x : Vals Ideal S1024x256 .bf16)
theorem row_w0 (a : Fin 1024) : row (w0 x) a = hrow x 0 a := funext fun m => win2 x 0 0 _ a m a _ (Nat.zero_add _).symm rfl
theorem row_w1 (a : Fin 1024) : row (w1 x) a = hrow x 1 a := funext fun m => win2 x 0 128 _ a m a _ (Nat.zero_add _).symm rfl
theorem row_u0 (a : Fin 512) : row (u0 x) a = hrow x 0 ⟨a.val, by omega⟩ := funext fun m => win2 x 0 0 _ a m ⟨a.val, by omega⟩ _ (Nat.zero_add _).symm rfl
theorem row_u1 (a : Fin 512) : row (u1 x) a = hrow x 1 ⟨a.val, by omega⟩ := funext fun m => win2 x 0 128 _ a m ⟨a.val, by omega⟩ _ (Nat.zero_add _).symm rfl
theorem row_l0 (a : Fin 512) : row (l0 x) a = hrow x 0 ⟨512 + a.val, by omega⟩ := funext fun m => win2 x 512 0 _ a m ⟨512 + a.val, by omega⟩ _ rfl rfl
theorem row_l1 (a : Fin 512) : row (l1 x) a = hrow x 1 ⟨512 + a.val, by omega⟩ := funext fun m => win2 x 512 128 _ a m ⟨512 + a.val, by omega⟩ _ rfl rfl
end

/-- A sum over 1024 rows by its halves. -/
theorem sum_halves (f : Fin 1024 → EReal) : ∑ b, f b = (∑ b : Fin 512, f ⟨b.val, by omega⟩) + ∑ b : Fin 512, f ⟨512 + b.val, by omega⟩ :=
  Fin.sum_univ_add (a := 512) (b := 512) (f : Fin (512 + 512) → EReal)

theorem sum_upper (f : Fin 1024 → EReal) (h : ∀ b : Fin 1024, b.val < 512 → f b = 0) : ∑ b, f b = ∑ b : Fin 512, f ⟨512 + b.val, by omega⟩ := by
  rw [sum_halves, Finset.sum_eq_zero (fun b _ => h _ b.isLt), zero_add]
theorem sum_lower (f : Fin 1024 → EReal) (h : ∀ b : Fin 1024, 512 ≤ b.val → f b = 0) : ∑ b, f b = ∑ b : Fin 512, f ⟨b.val, by omega⟩ := by
  rw [sum_halves, Finset.sum_eq_zero (s := Finset.univ) (f := fun b : Fin 512 => f ⟨512 + b.val, _⟩) (fun b _ => h _ (Nat.le_add_right _ _)), add_zero]

theorem wt_false {p : Prop} [Decidable p] (h : ¬p) (k q : Fin 128 → EReal) : wt p k q = 0 := if_neg h
theorem sg_false {p : Prop} [Decidable p] (h : ¬p) (k q v d : Fin 128 → EReal) : sg p k q v d = 0 := by rw [sg, wt_false h, zero_mul]
theorem wt_congr {p p' : Prop} [Decidable p] [Decidable p'] (h : p ↔ p') (k q : Fin 128 → EReal) : wt p k q = wt p' k q := by
  unfold wt; exact if_congr h rfl rfl
theorem sg_congr {p p' : Prop} [Decidable p] [Decidable p'] (h : p ↔ p') (k q v d : Fin 128 → EReal) : sg p k q v d = sg p' k q v d := by
  rw [sg, sg, wt_congr h]

section
variable (q k v d : Vals Ideal S1024x256 .bf16)

/-! ## Below the diagonal -/

theorem offDV_at (X : Vals Ideal S2x1024x128 .f32) (h : Fin 2) (a : Fin 1024) (l : Fin 128) :
    offDV q k d X (ix3 h a l) = X (ix3 h a l) + ∑ b, wt True (hrow k h a) (hrow q h b) * hrow d h b l := by
  unfold offDV
  match h with
  | 0 =>
    rw [upd3_out _ _ _ _ _ _ _ _ (Or.inl (by decide)), upd3_in _ _ _ _ _ _ _ _ a (by rfl) (by exact (Nat.zero_add _).symm), pay21_at, win3 _ _ _ _ _ _ 0 a (by rfl) (by exact (Nat.zero_add _).symm)]
    refine congrArg _ (Finset.sum_congr rfl fun b _ => ?_)
    repeat first | rw [row_w0]
  | 1 =>
    rw [upd3_in _ _ _ _ _ _ _ _ a (by rfl) (by exact (Nat.zero_add _).symm), pay29_at, win3 _ _ _ _ _ _ 1 a (by rfl) (by exact (Nat.zero_add _).symm), upd3_out _ _ _ _ _ _ _ _ (Or.inl (by decide))]
    refine congrArg _ (Finset.sum_congr rfl fun b _ => ?_)
    repeat first | rw [row_w1]

theorem offDK_at (X : Vals Ideal S2x1024x128 .f32) (h : Fin 2) (a : Fin 1024) (l : Fin 128) :
    offDK q k v d X (ix3 h a l) = X (ix3 h a l) + ∑ b, sg True (hrow k h a) (hrow q h b) (hrow v h a) (hrow d h b) * hrow q h b l := by
  unfold offDK
  match h with
  | 0 =>
    rw [upd3_out _ _ _ _ _ _ _ _ (Or.inl (by decide)), upd3_in _ _ _ _ _ _ _ _ a (by rfl) (by exact (Nat.zero_add _).symm), pay22_at, win3 _ _ _ _ _ _ 0 a (by rfl) (by exact (Nat.zero_add _).symm)]
    refine congrArg _ (Finset.sum_congr rfl fun b _ => ?_)
    repeat first | rw [row_w0]
  | 1 =>
    rw [upd3_in _ _ _ _ _ _ _ _ a (by rfl) (by exact (Nat.zero_add _).symm), pay31_at, win3 _ _ _ _ _ _ 1 a (by rfl) (by exact (Nat.zero_add _).symm), upd3_out _ _ _ _ _ _ _ _ (Or.inl (by decide))]
    refine congrArg _ (Finset.sum_congr rfl fun b _ => ?_)
    repeat first | rw [row_w1]

theorem offDQ_in (r : ℕ) (hr : r + 1024 ≤ 8192) (X : Vals Ideal S2x8192x128 .f32) (h : Fin 2) (a : Fin 1024) (l : Fin 128) :
    offDQ q k v d r hr X (ix3 h ⟨r + a.val, by omega⟩ l) = X (ix3 h ⟨r + a.val, by omega⟩ l)
      + ∑ b, sg True (hrow k h b) (hrow q h a) (hrow v h b) (hrow d h a) * hrow k h b l := by
  unfold offDQ
  match h with
  | 0 =>
    rw [upd3_out _ _ _ _ _ _ _ _ (Or.inl (by decide)), upd3_in _ _ _ _ _ _ _ _ a (by rfl) (by rfl), pay23_at, win3 _ _ _ _ _ _ 0 ⟨r + a.val, by omega⟩ (by rfl) (by rfl)]
    refine congrArg _ (Finset.sum_congr rfl fun b _ => ?_)
    repeat first | rw [row_w0]
  | 1 =>
    rw [upd3_in _ _ _ _ _ _ _ _ a (by rfl) (by rfl), pay6_at, win3 _ _ _ _ _ _ 1 ⟨r + a.val, by omega⟩ (by rfl) (by rfl), upd3_out _ _ _ _ _ _ _ _ (Or.inl (by decide))]
    refine congrArg _ (Finset.sum_congr rfl fun b _ => ?_)
    repeat first | rw [row_w1]

theorem offDQ_out (r : ℕ) (hr : r + 1024 ≤ 8192) (X : Vals Ideal S2x8192x128 .f32) (h : Fin 2) (c : Fin 8192) (l : Fin 128) (hc : c.val < r ∨ r + 1024 ≤ c.val) :
    offDQ q k v d r hr X (ix3 h c l) = X (ix3 h c l) := by
  unfold offDQ
  rw [upd3_out _ _ _ _ _ _ _ _ (Or.inr hc), upd3_out _ _ _ _ _ _ _ _ (Or.inr hc)]

/-! ## On the diagonal -/

theorem diagDV_at (X : Vals Ideal S2x1024x128 .f32) (h : Fin 2) (a : Fin 1024) (l : Fin 128) :
    diagDV q k d X (ix3 h a l) = X (ix3 h a l) + ∑ b : Fin 1024, wt (a.val ≤ b.val) (hrow k h a) (hrow q h b) * hrow d h b l := by
  unfold diagDV
  by_cases ha : a.val < 512
  · match h with
    | 0 =>
      rw [upd3_out _ _ _ _ _ _ _ _ (Or.inl (by decide)), upd3_out _ _ _ _ _ _ _ _ (Or.inl (by decide)), upd3_out _ _ _ _ _ _ _ _ (Or.inr (Or.inl ha)),
        upd3_in _ _ _ _ _ _ _ _ (⟨a.val, ha⟩ : Fin 512) (by rfl) (by exact (Nat.zero_add _).symm), pay37_at, win3 _ _ _ _ _ _ 0 a (by rfl) (by exact (Nat.zero_add _).symm)]
      refine congrArg _ (Finset.sum_congr rfl fun b _ => ?_)
      repeat first | rw [row_w0] | rw [row_u0]
    | 1 =>
      rw [upd3_out _ _ _ _ _ _ _ _ (Or.inr (Or.inl ha)),
        upd3_in _ _ _ _ _ _ _ _ (⟨a.val, ha⟩ : Fin 512) (by rfl) (by exact (Nat.zero_add _).symm), pay55_at, win3 _ _ _ _ _ _ 1 a (by rfl) (by exact (Nat.zero_add _).symm),
        upd3_out _ _ _ _ _ _ _ _ (Or.inl (by decide)), upd3_out _ _ _ _ _ _ _ _ (Or.inl (by decide))]
      refine congrArg _ (Finset.sum_congr rfl fun b _ => ?_)
      repeat first | rw [row_w1] | rw [row_u1]
  · obtain ⟨a', ha'⟩ : ∃ a' : Fin 512, a.val = 512 + a'.val := ⟨⟨a.val - 512, by omega⟩, by show a.val = 512 + (a.val - 512); omega⟩
    obtain rfl : a = ⟨512 + a'.val, Nat.add_lt_add_left a'.isLt 512⟩ := Fin.ext ha'
    rw [sum_upper _ (fun b hb => by rw [wt_false (by show ¬ (512 + a'.val ≤ b.val); omega), zero_mul])]
    simp only [Nat.add_le_add_iff_left]
    match h with
    | 0 =>
      rw [upd3_out _ _ _ _ _ _ _ _ (Or.inl (by decide)), upd3_out _ _ _ _ _ _ _ _ (Or.inl (by decide)),
        upd3_in _ _ _ _ _ _ _ _ a' (by rfl) (by rfl), pay47_at, win3 _ _ _ _ _ _ 0 ⟨512 + a'.val, by omega⟩ (by rfl) (by rfl), upd3_out _ _ _ _ _ _ _ _ (Or.inr (Or.inr (by show 0 + 512 ≤ 512 + a'.val; omega)))]
      refine congrArg _ (Finset.sum_congr rfl fun b _ => ?_)
      repeat first | rw [row_l0]
    | 1 =>
      rw [upd3_in _ _ _ _ _ _ _ _ a' (by rfl) (by rfl), pay7_at, win3 _ _ _ _ _ _ 1 ⟨512 + a'.val, by omega⟩ (by rfl) (by rfl), upd3_out _ _ _ _ _ _ _ _ (Or.inr (Or.inr (by show 0 + 512 ≤ 512 + a'.val; omega))),
        upd3_out _ _ _ _ _ _ _ _ (Or.inl (by decide)), upd3_out _ _ _ _ _ _ _ _ (Or.inl (by decide))]
      refine congrArg _ (Finset.sum_congr rfl fun b _ => ?_)
      repeat first | rw [row_l1]

theorem diagDK_at (X : Vals Ideal S2x1024x128 .f32) (h : Fin 2) (a : Fin 1024) (l : Fin 128) :
    diagDK q k v d X (ix3 h a l) = X (ix3 h a l)
      + ∑ b : Fin 1024, sg (a.val ≤ b.val) (hrow k h a) (hrow q h b) (hrow v h a) (hrow d h b) * hrow q h b l := by
  unfold diagDK
  by_cases ha : a.val < 512
  · match h with
    | 0 =>
      rw [upd3_out _ _ _ _ _ _ _ _ (Or.inl (by decide)), upd3_out _ _ _ _ _ _ _ _ (Or.inl (by decide)), upd3_out _ _ _ _ _ _ _ _ (Or.inr (Or.inl ha)),
        upd3_in _ _ _ _ _ _ _ _ (⟨a.val, ha⟩ : Fin 512) (by rfl) (by exact (Nat.zero_add _).symm), pay38_at, win3 _ _ _ _ _ _ 0 a (by rfl) (by exact (Nat.zero_add _).symm)]
      refine congrArg _ (Finset.sum_congr rfl fun b _ => ?_)
      repeat first | rw [row_w0] | rw [row_u0]
    | 1 =>
      rw [upd3_out _ _ _ _ _ _ _ _ (Or.inr (Or.inl ha)),
        upd3_in _ _ _ _ _ _ _ _ (⟨a.val, ha⟩ : Fin 512) (by rfl) (by exact (Nat.zero_add _).symm), pay56_at, win3 _ _ _ _ _ _ 1 a (by rfl) (by exact (Nat.zero_add _).symm),
        upd3_out _ _ _ _ _ _ _ _ (Or.inl (by decide)), upd3_out _ _ _ _ _ _ _ _ (Or.inl (by decide))]
      refine congrArg _ (Finset.sum_congr rfl fun b _ => ?_)
      repeat first | rw [row_w1] | rw [row_u1]
  · obtain ⟨a', ha'⟩ : ∃ a' : Fin 512, a.val = 512 + a'.val := ⟨⟨a.val - 512, by omega⟩, by show a.val = 512 + (a.val - 512); omega⟩
    obtain rfl : a = ⟨512 + a'.val, Nat.add_lt_add_left a'.isLt 512⟩ := Fin.ext ha'
    rw [sum_upper _ (fun b hb => by rw [sg_false (by show ¬ (512 + a'.val ≤ b.val); omega), zero_mul])]
    simp only [Nat.add_le_add_iff_left]
    match h with
    | 0 =>
      rw [upd3_out _ _ _ _ _ _ _ _ (Or.inl (by decide)), upd3_out _ _ _ _ _ _ _ _ (Or.inl (by decide)),
        upd3_in _ _ _ _ _ _ _ _ a' (by rfl) (by rfl), pay48_at, win3 _ _ _ _ _ _ 0 ⟨512 + a'.val, by omega⟩ (by rfl) (by rfl), upd3_out _ _ _ _ _ _ _ _ (Or.inr (Or.inr (by show 0 + 512 ≤ 512 + a'.val; omega)))]
      refine congrArg _ (Finset.sum_congr rfl fun b _ => ?_)
      repeat first | rw [row_l0]
    | 1 =>
      rw [upd3_in _ _ _ _ _ _ _ _ a' (by rfl) (by rfl), pay8_at, win3 _ _ _ _ _ _ 1 ⟨512 + a'.val, by omega⟩ (by rfl) (by rfl), upd3_out _ _ _ _ _ _ _ _ (Or.inr (Or.inr (by show 0 + 512 ≤ 512 + a'.val; omega))),
        upd3_out _ _ _ _ _ _ _ _ (Or.inl (by decide)), upd3_out _ _ _ _ _ _ _ _ (Or.inl (by decide))]
      refine congrArg _ (Finset.sum_congr rfl fun b _ => ?_)
      repeat first | rw [row_l1]

theorem diagDQ_in (r : ℕ) (hr : r + 1024 ≤ 8192) (X : Vals Ideal S2x8192x128 .f32) (h : Fin 2) (a : Fin 1024) (l : Fin 128) :
    diagDQ q k v d r hr X (ix3 h ⟨r + a.val, by omega⟩ l) = X (ix3 h ⟨r + a.val, by omega⟩ l)
      + ∑ b : Fin 1024, sg (b.val ≤ a.val) (hrow k h b) (hrow q h a) (hrow v h b) (hrow d h a) * hrow k h b l := by
  unfold diagDQ
  by_cases ha : a.val < 512
  · rw [sum_lower _ (fun b hb => by rw [sg_false (by omega), zero_mul])]
    match h with
    | 0 =>
      rw [upd3_out _ _ _ _ _ _ _ _ (Or.inl (by decide)), upd3_out _ _ _ _ _ _ _ _ (Or.inl (by decide)),
        upd3_out _ _ _ _ _ _ _ _ (Or.inr (Or.inl (by show r + a.val < r + 512; omega))),
        upd3_in _ _ _ _ _ _ _ _ a (by rfl) (by rfl), pay40_at, win3 _ _ _ _ _ _ 0 ⟨r + a.val, by omega⟩ (by rfl) (by rfl)]
      refine congrArg _ (Finset.sum_congr rfl fun b _ => ?_)
      repeat first | rw [row_w0] | rw [row_u0]
    | 1 =>
      rw [upd3_out _ _ _ _ _ _ _ _ (Or.inr (Or.inl (by show r + a.val < r + 512; omega))),
        upd3_in _ _ _ _ _ _ _ _ a (by rfl) (by rfl), pay57_at, win3 _ _ _ _ _ _ 1 ⟨r + a.val, by omega⟩ (by rfl) (by rfl),
        upd3_out _ _ _ _ _ _ _ _ (Or.inl (by decide)), upd3_out _ _ _ _ _ _ _ _ (Or.inl (by decide))]
      refine congrArg _ (Finset.sum_congr rfl fun b _ => ?_)
      repeat first | rw [row_w1] | rw [row_u1]
  · obtain ⟨a', ha'⟩ : ∃ a' : Fin 512, a.val = 512 + a'.val := ⟨⟨a.val - 512, by omega⟩, by show a.val = 512 + (a.val - 512); omega⟩
    obtain rfl : a = ⟨512 + a'.val, Nat.add_lt_add_left a'.isLt 512⟩ := Fin.ext ha'
    rw [sum_halves]
    simp only [Nat.add_le_add_iff_left]
    match h with
    | 0 =>
      rw [upd3_out _ _ _ _ _ _ _ _ (Or.inl (by decide)), upd3_out _ _ _ _ _ _ _ _ (Or.inl (by decide)),
        upd3_in _ _ _ _ _ _ _ _ a' (by rfl) (by exact (Nat.add_assoc _ _ _).symm), pay49_at, win3 _ _ _ _ _ _ 0 ⟨r + (512 + a'.val), by omega⟩ (by rfl) (by exact (Nat.add_assoc _ _ _).symm),
        upd3_in _ _ _ _ _ _ _ _ (⟨512 + a'.val, by omega⟩ : Fin 1024) (by rfl) (by rfl), pay40_at, win3 _ _ _ _ _ _ 0 ⟨r + (512 + a'.val), by omega⟩ (by rfl) (by rfl)]
      rw [add_assoc]
      refine congrArg _ (congrArg₂ _ (Finset.sum_congr rfl fun b _ => ?_) (Finset.sum_congr rfl fun b _ => ?_)) <;>
        repeat first | rw [row_w0] | rw [row_u0] | rw [row_l0]
    | 1 =>
      rw [upd3_in _ _ _ _ _ _ _ _ a' (by rfl) (by exact (Nat.add_assoc _ _ _).symm), pay9_at, win3 _ _ _ _ _ _ 1 ⟨r + (512 + a'.val), by omega⟩ (by rfl) (by exact (Nat.add_assoc _ _ _).symm),
        upd3_in _ _ _ _ _ _ _ _ (⟨512 + a'.val, by omega⟩ : Fin 1024) (by rfl) (by rfl), pay57_at, win3 _ _ _ _ _ _ 1 ⟨r + (512 + a'.val), by omega⟩ (by rfl) (by rfl),
        upd3_out _ _ _ _ _ _ _ _ (Or.inl (by decide)), upd3_out _ _ _ _ _ _ _ _ (Or.inl (by decide))]
      rw [add_assoc]
      refine congrArg _ (congrArg₂ _ (Finset.sum_congr rfl fun b _ => ?_) (Finset.sum_congr rfl fun b _ => ?_)) <;>
        repeat first | rw [row_w1] | rw [row_u1] | rw [row_l1]

theorem diagDQ_out (r : ℕ) (hr : r + 1024 ≤ 8192) (X : Vals Ideal S2x8192x128 .f32) (h : Fin 2) (c : Fin 8192) (l : Fin 128) (hc : c.val < r ∨ r + 1024 ≤ c.val) :
    diagDQ q k v d r hr X (ix3 h c l) = X (ix3 h c l) := by
  unfold diagDQ
  rw [upd3_out _ _ _ _ _ _ _ _ (Or.inr (by omega)), upd3_out _ _ _ _ _ _ _ _ (Or.inr (by omega)), upd3_out _ _ _ _ _ _ _ _ (Or.inr (by omega)), upd3_out _ _ _ _ _ _ _ _ (Or.inr (by omega))]

end
end Cert.Fox
end
-- ==== Proof.Sweep.lean ====
/-
  The accumulators after each point of the sweep, over the extended reals, in closed form.
-/
module
public import proofs.«01_k».proof.Proof.Steps
public import proofs.«01_k».proof.Proof.Obl
@[expose] public section
noncomputable section
namespace Cert.Fox
open Cert.KernelIdeal Cert.KernelIdeal.Gen
open Idealize.ShloMosaic

/-- Head `H`'s lanes of a row of a packed array. -/
def hr (A : Vals Ideal S8192x2048 .bf16) (H : Fin 16) (r : Fin 8192) : Fin 128 → EReal := fun m => A (ix2 r ⟨128 * H.val + m.val, by omega⟩)

/-- The part of a sum over 8192 rows that block `i` holds. -/
def bs (f : Fin 8192 → EReal) (i : ℕ) : EReal := if h : i < 8 then ∑ b : Fin 1024, f ⟨1024 * i + b.val, by omega⟩ else 0

theorem bs_lt (f : Fin 8192 → EReal) (i : ℕ) (h : i < 8) : bs f i = ∑ b : Fin 1024, f ⟨1024 * i + b.val, by omega⟩ := dif_pos h

theorem bs_zero (f : Fin 8192 → EReal) (i : ℕ) (h : ∀ r : Fin 8192, r.val / 1024 = i → f r = 0) : bs f i = 0 := by
  unfold bs
  split
  · exact Finset.sum_eq_zero fun b _ => h _ (by show (1024 * i + b.val) / 1024 = i; omega)
  · rfl

theorem sum_bs (f : Fin 8192 → EReal) : ∑ r, f r = ∑ i ∈ Finset.range 8, bs f i := by
  rw [Finset.sum_range, ← (finProdFinEquiv (m := 8) (n := 1024)).sum_comp, Fintype.sum_prod_type]
  refine Finset.sum_congr rfl fun i _ => ?_
  rw [bs_lt _ _ i.isLt]
  refine Finset.sum_congr rfl fun b _ => congrArg f (Fin.ext ?_)
  show b.val + 1024 * i.val = 1024 * i.val + b.val
  omega

/-- The pair of heads and the blocks of queries and keys at a point. -/
def gp (t : Fin (cf (F := Ideal)).N) : ℕ := t.val / 36
def qi (t : Fin (cf (F := Ideal)).N) : ℕ := (itw (grid0.coords t)).toNat
def kj (t : Fin (cf (F := Ideal)).N) : ℕ := (jtw (grid0.coords t)).toNat

theorem Nt (t : Fin (cf (F := Ideal)).N) : t.val < 288 := Nat.lt_of_lt_of_eq t.isLt N_0
theorem gp_lt (t : Fin (cf (F := Ideal)).N) : gp t < 8 := by have := Nt t; unfold gp; omega
theorem qi_lt (t : Fin (cf (F := Ideal)).N) : qi t < 8 := itw_lt _
theorem kj_lt (t : Fin (cf (F := Ideal)).N) : kj t < 8 := jtw_lt _

/-- Head `h` of a point's pair. -/
def hd (t : Fin (cf (F := Ideal)).N) (h : Fin 2) : Fin 16 := ⟨2 * gp t + h.val, by have := gp_lt t; omega⟩

section
variable {c : Dev nD} (A : (w : Fin 9) → Buf (Elt Ideal) (((cf (F := Ideal)).win w).arr.view.loc (c.tc : Thread nD τ)))

theorem hrow_bq (t : Fin (cf (F := Ideal)).N) (h : Fin 2) (a : Fin 1024) (r : Fin 8192) (hr' : r.val = 1024 * qi t + a.val) :
    hrow (bq A t) h a = hr (A 0) (hd t h) r := by
  funext m
  unfold hrow hr bq
  rw [View.read_apply]
  refine congrArg (A 0) (funext fun b => Fin.ext ?_)
  have e : ((cf (F := Ideal)).win 0).index t = ![qi t, gp t] := by
    refine (tr0_eq (F := Ideal) (grid0.coords t)).trans ?_
    rw [coord0]; rfl
  match b with
  | 0 =>
    refine (Pipeline.Window.rect_emb_val ((cf (F := Ideal)).win 0) t _ (0 : Fin 2)).trans ?_
    rw [e]; show qi t * 1024 + a.val = r.val; omega
  | 1 =>
    refine (Pipeline.Window.rect_emb_val ((cf (F := Ideal)).win 0) t _ (1 : Fin 2)).trans ?_
    rw [e]; show gp t * 256 + (128 * h.val + m.val) = 128 * (2 * gp t + h.val) + m.val; omega

theorem hrow_bk (t : Fin (cf (F := Ideal)).N) (h : Fin 2) (a : Fin 1024) (r : Fin 8192) (hr' : r.val = 1024 * kj t + a.val) :
    hrow (bk A t) h a = hr (A 1) (hd t h) r := by
  funext m
  unfold hrow hr bk
  rw [View.read_apply]
  refine congrArg (A 1) (funext fun b => Fin.ext ?_)
  have e : ((cf (F := Ideal)).win 1).index t = ![kj t, gp t] := by
    refine (tr1_eq (F := Ideal) (grid0.coords t)).trans ?_
    rw [coord0]; rfl
  match b with
  | 0 =>
    refine (Pipeline.Window.rect_emb_val ((cf (F := Ideal)).win 1) t _ (0 : Fin 2)).trans ?_
    rw [e]; show kj t * 1024 + a.val = r.val; omega
  | 1 =>
    refine (Pipeline.Window.rect_emb_val ((cf (F := Ideal)).win 1) t _ (1 : Fin 2)).trans ?_
    rw [e]; show gp t * 256 + (128 * h.val + m.val) = 128 * (2 * gp t + h.val) + m.val; omega

theorem hrow_bv (t : Fin (cf (F := Ideal)).N) (h : Fin 2) (a : Fin 1024) (r : Fin 8192) (hr' : r.val = 1024 * kj t + a.val) :
    hrow (bv A t) h a = hr (A 2) (hd t h) r := by
  funext m
  unfold hrow hr bv
  rw [View.read_apply]
  refine congrArg (A 2) (funext fun b => Fin.ext ?_)
  have e : ((cf (F := Ideal)).win 2).index t = ![kj t, gp t] := by
    refine (tr2_eq (F := Ideal) (grid0.coords t)).trans ?_
    rw [coord0]; rfl
  match b with
  | 0 =>
    refine (Pipeline.Window.rect_emb_val ((cf (F := Ideal)).win 2) t _ (0 : Fin 2)).trans ?_
    rw [e]; show kj t * 1024 + a.val = r.val; omega
  | 1 =>
    refine (Pipeline.Window.rect_emb_val ((cf (F := Ideal)).win 2) t _ (1 : Fin 2)).trans ?_
    rw [e]; show gp t * 256 + (128 * h.val + m.val) = 128 * (2 * gp t + h.val) + m.val; omega

theorem hrow_bd (t : Fin (cf (F := Ideal)).N) (h : Fin 2) (a : Fin 1024) (r : Fin 8192) (hr' : r.val = 1024 * qi t + a.val) :
    hrow (bd A t) h a = hr (A 3) (hd t h) r := by
  funext m
  unfold hrow hr bd
  rw [View.read_apply]
  refine congrArg (A 3) (funext fun b => Fin.ext ?_)
  have e : ((cf (F := Ideal)).win 3).index t = ![qi t, gp t] := by
    refine (tr3_eq (F := Ideal) (grid0.coords t)).trans ?_
    rw [coord0]; rfl
  match b with
  | 0 =>
    refine (Pipeline.Window.rect_emb_val ((cf (F := Ideal)).win 3) t _ (0 : Fin 2)).trans ?_
    rw [e]; show qi t * 1024 + a.val = r.val; omega
  | 1 =>
    refine (Pipeline.Window.rect_emb_val ((cf (F := Ideal)).win 3) t _ (1 : Fin 2)).trans ?_
    rw [e]; show gp t * 256 + (128 * h.val + m.val) = 128 * (2 * gp t + h.val) + m.val; omega

/-- A key's weight for a query, the gradient of its score, over the whole arrays. -/
def gW (H : Fin 16) (k r : Fin 8192) : EReal := wt (k.val ≤ r.val) (hr (A 1) H k) (hr (A 0) H r)
def gS (H : Fin 16) (k r : Fin 8192) : EReal := sg (k.val ≤ r.val) (hr (A 1) H k) (hr (A 0) H r) (hr (A 2) H k) (hr (A 3) H r)

theorem gW_zero (H : Fin 16) (k r : Fin 8192) (h : r.val < k.val) : gW A H k r = 0 := wt_false (by omega) _ _
theorem gS_zero (H : Fin 16) (k r : Fin 8192) (h : r.val < k.val) : gS A H k r = 0 := sg_false (by omega) _ _ _ _

theorem zero2 (h : Fin 2) (a : Fin 8192) (l : Fin 128) : (k0_pay2 (F := Ideal)) (ix3 h a l) = 0 := by
  pointwise [k0_pay2]
theorem zero3 (h : Fin 2) (a : Fin 1024) (l : Fin 128) : (k0_pay3 (F := Ideal)) (ix3 h a l) = 0 := by
  pointwise [k0_pay3]
theorem zero4 (h : Fin 2) (a : Fin 1024) (l : Fin 128) : (k0_pay4 (F := Ideal)) (ix3 h a l) = 0 := by
  pointwise [k0_pay4]

/-- What a point does to the key and value accumulators: the diagonal starts them anew. -/
theorem DV_step (t : Fin (cf (F := Ideal)).N) (h : Fin 2) (a : Fin 1024) (l : Fin 128) (k : Fin 8192) (hk : k.val = 1024 * kj t + a.val) (hle : kj t ≤ qi t) :
    (st A (t.val + 1)).DV (ix3 h a l) = (if qi t = kj t then 0 else (st A t.val).DV (ix3 h a l))
      + bs (fun r => gW A (hd t h) k r * hr (A 3) (hd t h) r l) (qi t) := by
  rw [st_succ, bs_lt _ _ (qi_lt t)]
  unfold step
  by_cases he : itw (grid0.coords t) = jtw (grid0.coords t)
  · rw [if_pos he, if_pos (show qi t = kj t from congrArg BitVec.toNat he)]
    show diagDV _ _ _ _ _ = _
    rw [diagDV_at]
    refine congrArg₂ _ (zero4 h a l)  (Finset.sum_congr rfl fun b _ => ?_)
    rw [hrow_bk A t h a k hk, hrow_bq A t h b ⟨1024 * qi t + b.val, by have := qi_lt t; omega⟩ rfl, hrow_bd A t h b ⟨1024 * qi t + b.val, by have := qi_lt t; omega⟩ rfl]
    refine congrArg (· * _) (wt_congr ?_ _ _)
    have : qi t = kj t := congrArg BitVec.toNat he
    show a.val ≤ b.val ↔ k.val ≤ 1024 * qi t + b.val
    omega
  · have hne : qi t ≠ kj t := fun e => he (BitVec.eq_of_toNat_eq e)
    rw [if_neg he, if_neg hne]
    show offDV _ _ _ _ _ = _
    rw [offDV_at]
    refine congrArg₂ _ rfl (Finset.sum_congr rfl fun b _ => ?_)
    rw [hrow_bk A t h a k hk, hrow_bq A t h b ⟨1024 * qi t + b.val, by have := qi_lt t; omega⟩ rfl, hrow_bd A t h b ⟨1024 * qi t + b.val, by have := qi_lt t; omega⟩ rfl]
    refine congrArg (· * _) (wt_congr ?_ _ _)
    refine iff_of_true trivial ?_
    show k.val ≤ 1024 * qi t + b.val
    omega

theorem DK_step (t : Fin (cf (F := Ideal)).N) (h : Fin 2) (a : Fin 1024) (l : Fin 128) (k : Fin 8192) (hk : k.val = 1024 * kj t + a.val) (hle : kj t ≤ qi t) :
    (st A (t.val + 1)).DK (ix3 h a l) = (if qi t = kj t then 0 else (st A t.val).DK (ix3 h a l))
      + bs (fun r => gS A (hd t h) k r * hr (A 0) (hd t h) r l) (qi t) := by
  rw [st_succ, bs_lt _ _ (qi_lt t)]
  unfold step
  by_cases he : itw (grid0.coords t) = jtw (grid0.coords t)
  · rw [if_pos he, if_pos (show qi t = kj t from congrArg BitVec.toNat he)]
    show diagDK _ _ _ _ _ _ = _
    rw [diagDK_at]
    refine congrArg₂ _ (zero3 h a l)  (Finset.sum_congr rfl fun b _ => ?_)
    rw [hrow_bk A t h a k hk, hrow_bv A t h a k hk, hrow_bq A t h b ⟨1024 * qi t + b.val, by have := qi_lt t; omega⟩ rfl, hrow_bd A t h b ⟨1024 * qi t + b.val, by have := qi_lt t; omega⟩ rfl]
    refine congrArg (· * _) (sg_congr ?_ _ _ _ _)
    have : qi t = kj t := congrArg BitVec.toNat he
    show a.val ≤ b.val ↔ k.val ≤ 1024 * qi t + b.val
    omega
  · have hne : qi t ≠ kj t := fun e => he (BitVec.eq_of_toNat_eq e)
    rw [if_neg he, if_neg hne]
    show offDK _ _ _ _ _ _ = _
    rw [offDK_at]
    refine congrArg₂ _ rfl (Finset.sum_congr rfl fun b _ => ?_)
    rw [hrow_bk A t h a k hk, hrow_bv A t h a k hk, hrow_bq A t h b ⟨1024 * qi t + b.val, by have := qi_lt t; omega⟩ rfl, hrow_bd A t h b ⟨1024 * qi t + b.val, by have := qi_lt t; omega⟩ rfl]
    refine congrArg (· * _) (sg_congr ?_ _ _ _ _)
    refine iff_of_true trivial ?_
    show k.val ≤ 1024 * qi t + b.val
    omega

/-- The two rows of the query accumulator's update, the row named by itself. -/
theorem offDQ_row (q k v d : Vals Ideal S1024x256 .bf16) (r : ℕ) (hr : r + 1024 ≤ 8192) (X : Vals Ideal S2x8192x128 .f32) (h : Fin 2) (a : Fin 1024) (l : Fin 128) (x : Fin 8192) (hx : x.val = r + a.val) :
    offDQ q k v d r hr X (ix3 h x l) = X (ix3 h x l) + ∑ b, sg True (hrow k h b) (hrow q h a) (hrow v h b) (hrow d h a) * hrow k h b l := by
  obtain rfl : x = ⟨r + a.val, Nat.lt_of_lt_of_le (Nat.add_lt_add_left a.isLt r) hr⟩ := Fin.ext hx
  exact offDQ_in q k v d r hr X h a l
theorem diagDQ_row (q k v d : Vals Ideal S1024x256 .bf16) (r : ℕ) (hr : r + 1024 ≤ 8192) (X : Vals Ideal S2x8192x128 .f32) (h : Fin 2) (a : Fin 1024) (l : Fin 128) (x : Fin 8192) (hx : x.val = r + a.val) :
    diagDQ q k v d r hr X (ix3 h x l) = X (ix3 h x l) + ∑ b : Fin 1024, sg (b.val ≤ a.val) (hrow k h b) (hrow q h a) (hrow v h b) (hrow d h a) * hrow k h b l := by
  obtain rfl : x = ⟨r + a.val, Nat.lt_of_lt_of_le (Nat.add_lt_add_left a.isLt r) hr⟩ := Fin.ext hx
  exact diagDQ_in q k v d r hr X h a l

/-- What a point does to the query accumulator: its block of rows gains the block of keys; a sweep's first point starts it anew. -/
theorem DQ_step (t : Fin (cf (F := Ideal)).N) (h : Fin 2) (r : Fin 8192) (l : Fin 128) (hle : kj t ≤ qi t) (h0 : t.val % 36 = 0 → qi t = kj t) :
    (st A (t.val + 1)).DQ (ix3 h r l) = (if t.val % 36 = 0 then 0 else (st A t.val).DQ (ix3 h r l))
      + if qi t = r.val / 1024 then bs (fun k => gS A (hd t h) k r * hr (A 1) (hd t h) k l) (kj t) else 0 := by
  rw [st_succ]
  unfold step
  by_cases hi : qi t = r.val / 1024
  · obtain ⟨a, ha⟩ : ∃ a : Fin 1024, r.val = 1024 * qi t + a.val := ⟨⟨r.val % 1024, by omega⟩, by show r.val = 1024 * qi t + r.val % 1024; omega⟩
    rw [if_pos hi, bs_lt _ _ (kj_lt t)]
    by_cases he : itw (grid0.coords t) = jtw (grid0.coords t)
    · rw [if_pos he]
      show diagDQ _ _ _ _ (1024 * qi t) (by have := qi_lt t; omega) _ _ = _
      rw [diagDQ_row _ _ _ _ (1024 * qi t) (by have := qi_lt t; omega) _ h a l r ha, coord1]
      refine congrArg₂ _ ?_ (Finset.sum_congr rfl fun b _ => ?_)
      · split; exacts [zero2 h r l, rfl]
      rw [hrow_bk A t h b ⟨1024 * kj t + b.val, by have := kj_lt t; omega⟩ rfl, hrow_bv A t h b ⟨1024 * kj t + b.val, by have := kj_lt t; omega⟩ rfl,
        hrow_bq A t h a r ha, hrow_bd A t h a r ha]
      refine congrArg (· * _) (sg_congr ?_ _ _ _ _)
      have : qi t = kj t := congrArg BitVec.toNat he
      show b.val ≤ a.val ↔ 1024 * kj t + b.val ≤ r.val
      omega
    · have hne : qi t ≠ kj t := fun e => he (BitVec.eq_of_toNat_eq e)
      rw [if_neg he, if_neg (fun e => hne (h0 e))]
      show offDQ _ _ _ _ (1024 * qi t) (by have := qi_lt t; omega) _ _ = _
      rw [offDQ_row _ _ _ _ (1024 * qi t) (by have := qi_lt t; omega) _ h a l r ha]
      refine congrArg₂ _ rfl (Finset.sum_congr rfl fun b _ => ?_)
      rw [hrow_bk A t h b ⟨1024 * kj t + b.val, by have := kj_lt t; omega⟩ rfl, hrow_bv A t h b ⟨1024 * kj t + b.val, by have := kj_lt t; omega⟩ rfl,
        hrow_bq A t h a r ha, hrow_bd A t h a r ha]
      refine congrArg (· * _) (sg_congr ?_ _ _ _ _)
      refine iff_of_true trivial ?_
      show 1024 * kj t + b.val ≤ r.val
      omega
  · have hout : r.val < 1024 * qi t ∨ 1024 * qi t + 1024 ≤ r.val := by omega
    rw [if_neg hi, add_zero]
    by_cases he : itw (grid0.coords t) = jtw (grid0.coords t)
    · rw [if_pos he]
      show diagDQ _ _ _ _ (1024 * qi t) (by have := qi_lt t; omega) _ _ = _
      rw [diagDQ_out _ _ _ _ _ _ _ _ _ _ hout, coord1]
      split; exacts [zero2 h r l, rfl]
    · have hne : qi t ≠ kj t := fun e => he (BitVec.eq_of_toNat_eq e)
      rw [if_neg he, if_neg (fun e => hne (h0 e))]
      show offDQ _ _ _ _ (1024 * qi t) (by have := qi_lt t; omega) _ _ = _
      rw [offDQ_out _ _ _ _ _ _ _ _ _ _ hout]

/-! ## The sweep -/

theorem tab_facts : ∀ n : Fin 36, (lit1 n).toNat ≤ (lit0 n).toNat ∧ (n.val = 0 → (lit0 n).toNat = (lit1 n).toNat)
    ∧ ((lit0 n).toNat ≠ (lit1 n).toNat → ∃ h : n.val - 1 < 36, 0 < n.val ∧ (lit1 ⟨n.val - 1, h⟩).toNat = (lit1 n).toNat ∧ (lit0 n).toNat = (lit0 ⟨n.val - 1, h⟩).toNat + 1) := by
  decide +kernel

theorem qi_lit (t : Fin (cf (F := Ideal)).N) : qi t = (lit0 ⟨t.val % 36, Nat.mod_lt _ (by decide)⟩).toNat := by
  unfold qi itw; congr 2; exact Fin.ext (coord1 t)
theorem kj_lit (t : Fin (cf (F := Ideal)).N) : kj t = (lit1 ⟨t.val % 36, Nat.mod_lt _ (by decide)⟩).toNat := by
  unfold kj jtw; congr 2; exact Fin.ext (coord1 t)

theorem kj_le (t : Fin (cf (F := Ideal)).N) : kj t ≤ qi t := by rw [qi_lit, kj_lit]; exact (tab_facts _).1
theorem qk_first (t : Fin (cf (F := Ideal)).N) (h : t.val % 36 = 0) : qi t = kj t := by rw [qi_lit, kj_lit]; exact (tab_facts _).2.1 h

/-- The point before one below the diagonal: the same keys, the block of queries before. -/
theorem before_off (t : Fin (cf (F := Ideal)).N) (h : qi t ≠ kj t) :
    ∃ s : Fin (cf (F := Ideal)).N, t.val = s.val + 1 ∧ kj s = kj t ∧ qi t = qi s + 1 ∧ gp s = gp t := by
  have hN := Nt t
  obtain ⟨h1, h2, h3, h4⟩ := (tab_facts ⟨t.val % 36, Nat.mod_lt _ (by decide)⟩).2.2 (by rw [qi_lit, kj_lit] at h; exact h)
  have h2' : 0 < t.val % 36 := h2
  refine ⟨⟨t.val - 1, by have := t.isLt; omega⟩, by show t.val = t.val - 1 + 1; omega, ?_, ?_, ?_⟩
  · rw [kj_lit, kj_lit, ← h3]; congr 2; exact Fin.ext (by show (t.val - 1) % 36 = t.val % 36 - 1; omega)
  · rw [qi_lit, qi_lit, h4]; congr 3; exact Fin.ext (by show t.val % 36 - 1 = (t.val - 1) % 36; omega)
  · show (t.val - 1) / 36 = t.val / 36; omega

/-- The value accumulator after a point: the blocks of queries from the diagonal to this one. -/
theorem DV_after (n : ℕ) : ∀ (t : Fin (cf (F := Ideal)).N), t.val = n → ∀ (h : Fin 2) (a : Fin 1024) (l : Fin 128) (k : Fin 8192), k.val = 1024 * kj t + a.val →
    (st A (t.val + 1)).DV (ix3 h a l) = ∑ i ∈ Finset.Ico (kj t) (qi t + 1), bs (fun r => gW A (hd t h) k r * hr (A 3) (hd t h) r l) i := by
  induction n with
  | zero =>
    intro t ht h a l k hk
    rw [DV_step A t h a l k hk (kj_le t), if_pos (qk_first t (by rw [ht])), zero_add, qk_first t (by rw [ht]), Nat.Ico_succ_singleton, Finset.sum_singleton]
  | succ n ih =>
    intro t ht h a l k hk
    rw [DV_step A t h a l k hk (kj_le t)]
    by_cases he : qi t = kj t
    · rw [if_pos he, zero_add, he, Nat.Ico_succ_singleton, Finset.sum_singleton]
    · obtain ⟨s, hs, h1, h2, h3⟩ := before_off t he
      have hh : hd s h = hd t h := Fin.ext (by show 2 * gp s + _ = 2 * gp t + _; rw [h3])
      rw [if_neg he, hs, ih s (by omega) h a l k (by rw [h1]; exact hk), hh, h1, h2]
      exact (Finset.sum_Ico_succ_top (by have := kj_le t; omega) _).symm

theorem DK_after (n : ℕ) : ∀ (t : Fin (cf (F := Ideal)).N), t.val = n → ∀ (h : Fin 2) (a : Fin 1024) (l : Fin 128) (k : Fin 8192), k.val = 1024 * kj t + a.val →
    (st A (t.val + 1)).DK (ix3 h a l) = ∑ i ∈ Finset.Ico (kj t) (qi t + 1), bs (fun r => gS A (hd t h) k r * hr (A 0) (hd t h) r l) i := by
  induction n with
  | zero =>
    intro t ht h a l k hk
    rw [DK_step A t h a l k hk (kj_le t), if_pos (qk_first t (by rw [ht])), zero_add, qk_first t (by rw [ht]), Nat.Ico_succ_singleton, Finset.sum_singleton]
  | succ n ih =>
    intro t ht h a l k hk
    rw [DK_step A t h a l k hk (kj_le t)]
    by_cases he : qi t = kj t
    · rw [if_pos he, zero_add, he, Nat.Ico_succ_singleton, Finset.sum_singleton]
    · obtain ⟨s, hs, h1, h2, h3⟩ := before_off t he
      have hh : hd s h = hd t h := Fin.ext (by show 2 * gp s + _ = 2 * gp t + _; rw [h3])
      rw [if_neg he, hs, ih s (by omega) h a l k (by rw [h1]; exact hk), hh, h1, h2]
      exact (Finset.sum_Ico_succ_top (by have := kj_le t; omega) _).symm

/-- A sum over the blocks of queries from the diagonal on is the whole sum. -/
theorem sum_from (f : Fin 8192 → EReal) (j : ℕ) (hj : j < 8) (h : ∀ r : Fin 8192, r.val < 1024 * j → f r = 0) : ∑ i ∈ Finset.Ico j 8, bs f i = ∑ r, f r := by
  rw [sum_bs, Finset.range_eq_Ico, ← Finset.sum_Ico_consecutive _ (Nat.zero_le j) (by omega : j ≤ 8), Finset.sum_eq_zero (s := Finset.Ico 0 j), zero_add]
  intro i hi
  have := (Finset.mem_Ico.mp hi).2
  exact bs_zero f i fun r hr => h r (by omega)

/-- At a column's last point the key and value accumulators hold the whole sums. -/
theorem DV_end (t : Fin (cf (F := Ideal)).N) (h7 : qi t = 7) (h : Fin 2) (a : Fin 1024) (l : Fin 128) (k : Fin 8192) (hk : k.val = 1024 * kj t + a.val) :
    (st A (t.val + 1)).DV (ix3 h a l) = ∑ r, gW A (hd t h) k r * hr (A 3) (hd t h) r l := by
  rw [DV_after A _ t rfl h a l k hk, h7]
  exact sum_from _ _ (kj_lt t) fun r hr' => by rw [gW_zero A _ _ _ (by omega), zero_mul]
theorem DK_end (t : Fin (cf (F := Ideal)).N) (h7 : qi t = 7) (h : Fin 2) (a : Fin 1024) (l : Fin 128) (k : Fin 8192) (hk : k.val = 1024 * kj t + a.val) :
    (st A (t.val + 1)).DK (ix3 h a l) = ∑ r, gS A (hd t h) k r * hr (A 0) (hd t h) r l := by
  rw [DK_after A _ t rfl h a l k hk, h7]
  exact sum_from _ _ (kj_lt t) fun r hr' => by rw [gS_zero A _ _ _ (by omega), zero_mul]

/-- The query accumulator within a sweep: the points so far that had its rows. -/
theorem DQ_after (g : ℕ) (hg : g < 8) (h : Fin 2) (r : Fin 8192) (l : Fin 128) (n : ℕ) (hn : n < 36) :
    (st A (36 * g + n + 1)).DQ (ix3 h r l) = ∑ p ∈ Finset.range (n + 1), if hp : p < 36 then
      (if (lit0 ⟨p, hp⟩).toNat = r.val / 1024 then bs (fun k => gS A ⟨2 * g + h.val, by omega⟩ k r * hr (A 1) ⟨2 * g + h.val, by omega⟩ k l) (lit1 ⟨p, hp⟩).toNat else 0) else 0 := by
  induction n with
  | zero =>
    have hN : 36 * g + 0 < (cf (F := Ideal)).N := Nat.lt_of_lt_of_eq (by omega : 36 * g + 0 < 288) N_0.symm
    have hm : (36 * g + 0) % 36 = 0 := by omega
    have e := DQ_step A ⟨36 * g + 0, hN⟩ h r l (kj_le _) (qk_first _)
    have hh : hd ⟨36 * g + 0, hN⟩ h = ⟨2 * g + h.val, by omega⟩ := Fin.ext (by show 2 * ((36 * g + 0) / 36) + h.val = 2 * g + h.val; omega)
    rw [hh, qi_lit, kj_lit] at e
    simp only [hm] at e
    rw [Finset.sum_range_one, dif_pos (by decide)]
    rw [e, if_pos trivial, zero_add]
    rfl
  | succ n ih =>
    have hN : 36 * g + (n + 1) < (cf (F := Ideal)).N := Nat.lt_of_lt_of_eq (by omega : 36 * g + (n + 1) < 288) N_0.symm
    have hm : (36 * g + (n + 1)) % 36 = n + 1 := by omega
    have e := DQ_step A ⟨36 * g + (n + 1), hN⟩ h r l (kj_le _) (qk_first _)
    have hh : hd ⟨36 * g + (n + 1), hN⟩ h = ⟨2 * g + h.val, by omega⟩ := Fin.ext (by show 2 * ((36 * g + (n + 1)) / 36) + h.val = 2 * g + h.val; omega)
    rw [hh, qi_lit, kj_lit] at e
    simp only [hm] at e
    rw [Finset.sum_range_succ, dif_pos hn, ← ih (by omega)]
    rw [e, if_neg (Nat.succ_ne_zero n)]
    rfl

/-- Each pair on or below the diagonal is one point of the sweep, no other pair is. -/
theorem tab_count : ∀ i j : Fin 8, (Finset.univ.filter fun p : Fin 36 => (lit0 p).toNat = i.val ∧ (lit1 p).toNat = j.val).card = if j.val ≤ i.val then 1 else 0 := by
  decide +kernel
theorem tab_lt : ∀ p : Fin 36, (lit1 p).toNat < 8 := by decide +kernel

theorem tab_sum (f : ℕ → EReal) (i : ℕ) (hi : i < 8) :
    (∑ p ∈ Finset.range 36, if hp : p < 36 then (if (lit0 ⟨p, hp⟩).toNat = i then f (lit1 ⟨p, hp⟩).toNat else 0) else 0) = ∑ j ∈ Finset.range (i + 1), f j := by
  rw [Finset.sum_range]
  have e : ∀ p : Fin 36, (if hp : p.val < 36 then (if (lit0 ⟨p.val, hp⟩).toNat = i then f (lit1 ⟨p.val, hp⟩).toNat else 0) else 0)
      = ∑ j : Fin 8, if (lit0 p).toNat = i ∧ (lit1 p).toNat = j.val then f j.val else 0 := by
    intro p
    rw [dif_pos p.isLt]
    by_cases h : (lit0 p).toNat = i
    · rw [if_pos h, Finset.sum_eq_single ⟨(lit1 p).toNat, tab_lt p⟩ (fun j _ hj => if_neg fun e => hj (Fin.ext e.2.symm)) (fun h => absurd (Finset.mem_univ _) h), if_pos ⟨h, rfl⟩]
    · rw [if_neg h, Finset.sum_eq_zero fun j _ => if_neg fun e => h e.1]
  rw [Finset.sum_congr rfl fun p _ => e p, Finset.sum_comm]
  have e2 : ∀ j : Fin 8, (∑ p : Fin 36, if (lit0 p).toNat = i ∧ (lit1 p).toNat = j.val then f j.val else 0) = if j.val < i + 1 then f j.val else 0 := by
    intro j
    rw [← Finset.sum_filter, Finset.sum_const, tab_count ⟨i, hi⟩ j]
    show (if j.val ≤ i then 1 else 0) • f j.val = _
    by_cases h : j.val ≤ i
    · rw [if_pos h, if_pos (by omega), one_smul]
    · rw [if_neg h, if_neg (by omega), zero_smul]
  rw [Finset.sum_congr rfl fun j _ => e2 j, ← Finset.sum_range (fun j => if j < i + 1 then f j else 0), ← Finset.sum_filter]
  refine Finset.sum_congr (Finset.ext fun j => ?_) fun _ _ => rfl
  rw [Finset.mem_filter, Finset.mem_range, Finset.mem_range]; omega

/-- At a sweep's last point the query accumulator holds the whole sums. -/
theorem DQ_end (g : ℕ) (hg : g < 8) (h : Fin 2) (r : Fin 8192) (l : Fin 128) :
    (st A (36 * g + 36)).DQ (ix3 h r l) = ∑ k, gS A ⟨2 * g + h.val, by omega⟩ k r * hr (A 1) ⟨2 * g + h.val, by omega⟩ k l := by
  rw [show 36 * g + 36 = 36 * g + 35 + 1 from rfl, DQ_after A g hg h r l 35 (by decide)]
  refine (tab_sum (fun j => bs (fun k => gS A ⟨2 * g + h.val, by omega⟩ k r * hr (A 1) ⟨2 * g + h.val, by omega⟩ k l) j) (r.val / 1024) (by omega)).trans ?_
  rw [sum_bs]
  rw [Finset.range_eq_Ico, Finset.range_eq_Ico, ← Finset.sum_Ico_consecutive _ (Nat.zero_le (r.val / 1024 + 1)) (by omega : r.val / 1024 + 1 ≤ 8),
    Finset.sum_eq_zero (s := Finset.Ico (r.val / 1024 + 1) 8), add_zero]
  intro i hi
  have := (Finset.mem_Ico.mp hi).1
  exact bs_zero _ i fun k hk => by rw [gS_zero A _ _ _ (by omega), zero_mul]

end
end Cert.Fox
end
-- ==== Proof.Arr.lean ====
/-
  The five output arrays at the end, over the extended reals, in closed form.
-/
module
public import proofs.«01_k».proof.Proof.Sweep
public import Idealize.ShloMosaic.Lib.Pipeline.ValueKit.Partial
@[expose] public section
noncomputable section
namespace Cert.Fox
open Cert.KernelIdeal Cert.KernelIdeal.Gen
open Idealize.ShloMosaic
open Idealize.ShloMosaic.TcCoe

/-- The head within its pair and the lane within the head of a lane of 128. -/
def lh (l : Fin 128) : Fin 2 := ⟨l.val / 64, by omega⟩
def lo (l : Fin 128) : Fin 128 := ⟨l.val % 64, by omega⟩
def up (l : Fin 128) : Fin 128 := ⟨64 + l.val % 64, by omega⟩

theorem lh_lo (l : Fin 128) (h : l.val < 64) : lh l = 0 ∧ lo l = l ∧ (up l).val = 64 + l.val := by
  refine ⟨Fin.ext ?_, Fin.ext ?_, ?_⟩
  · show l.val / 64 = 0; omega
  · show l.val % 64 = l.val; omega
  · show 64 + l.val % 64 = 64 + l.val; omega
theorem lh_up (l : Fin 128) (h : ¬ l.val < 64) : lh l = 1 ∧ (lo l).val = l.val - 64 ∧ up l = l := by
  refine ⟨Fin.ext ?_, ?_, Fin.ext ?_⟩
  · show l.val / 64 = 1; omega
  · show l.val % 64 = l.val - 64; omega
  · show 64 + l.val % 64 = l.val; omega

theorem lane_bit : ∀ l : Fin 128, IntOp.cmpi .slt (BitVec.ofNat 32 l.val) 64#32 = if l.val < 64 then 1#1 else 0#1 := by decide +kernel

/-- The lanes below 64 from head 0, the rest from head 1 turned by 64. -/
theorem pick_lo {n : ℕ} (X : (⟨3, ![2, n, 128]⟩ : Shape).Idx → EReal) (Y Z : (⟨3, ![1, n, 128]⟩ : Shape).Idx → EReal)
    (hY : ∀ a l, Y (ix3 0 a l) = X (ix3 0 a l)) (hZ : ∀ a l, Z (ix3 0 a l) = X (ix3 1 a l)) (a : Fin n) (l : Fin 128) (p) :
    Scalar.select (IntOp.cmpi .slt (BitVec.ofNat 32 l.val) 64#32) (Y (ix3 0 a l)) (Z (ix3 0 a ⟨(l.val + 128 - 64) % 128, p⟩)) = X (ix3 (lh l) a (lo l)) := by
  rw [lane_bit, hY, hZ]
  by_cases h : l.val < 64
  · rw [if_pos h, (lh_lo l h).1, (lh_lo l h).2.1]; rfl
  · rw [if_neg h, (lh_up l h).1]
    exact congrArg (fun m => X (ix3 1 a m)) (Fin.ext (by rw [(lh_up l h).2.1]; show (l.val + 128 - 64) % 128 = _; omega))

/-- The upper lanes: head 0's turned by 64, then head 1's. -/
theorem pick_up {n : ℕ} (X : (⟨3, ![2, n, 128]⟩ : Shape).Idx → EReal) (Y Z : (⟨3, ![1, n, 128]⟩ : Shape).Idx → EReal)
    (hY : ∀ a l, Y (ix3 0 a l) = X (ix3 0 a l)) (hZ : ∀ a l, Z (ix3 0 a l) = X (ix3 1 a l)) (a : Fin n) (l : Fin 128) (p) :
    Scalar.select (IntOp.cmpi .slt (BitVec.ofNat 32 l.val) 64#32) (Y (ix3 0 a ⟨(l.val + 128 - 64) % 128, p⟩)) (Z (ix3 0 a l)) = X (ix3 (lh l) a (up l)) := by
  rw [lane_bit, hY, hZ]
  by_cases h : l.val < 64
  · rw [if_pos h, (lh_lo l h).1]
    exact congrArg (fun m => X (ix3 0 a m)) (Fin.ext (by rw [(lh_lo l h).2.2]; show (l.val + 128 - 64) % 128 = _; omega))
  · rw [if_neg h, (lh_up l h).1, (lh_up l h).2.2]; rfl

section
variable (X : Vals Ideal S2x1024x128 .f32) (Y : Vals Ideal S2x8192x128 .f32)

theorem h0_at (a : Fin 1024) (l : Fin 128) : h0 X (ix3 0 a l) = X (ix3 0 a l) := win3 X 0 0 _ a l 0 a rfl (Nat.zero_add _).symm
theorem h1_at (a : Fin 1024) (l : Fin 128) : h1 X (ix3 0 a l) = X (ix3 1 a l) := win3 X 1 0 _ a l 1 a rfl (Nat.zero_add _).symm
theorem H0_at (a : Fin 8192) (l : Fin 128) : H0 Y (ix3 0 a l) = Y (ix3 0 a l) := win3 Y 0 0 _ a l 0 a rfl (Nat.zero_add _).symm
theorem H1_at (a : Fin 8192) (l : Fin 128) : H1 Y (ix3 0 a l) = Y (ix3 1 a l) := win3 Y 1 0 _ a l 1 a rfl (Nat.zero_add _).symm

theorem outDV_at (a : Fin 1024) (l : Fin 128) : outDV X (ix2 a l) = X (ix3 (lh l) a (lo l)) := by
  unfold outDV
  pointwise [k0_pay11, k0_pay1]
  exact pick_lo X _ _ (h0_at X) (h1_at X) a l _
theorem outDK_at (a : Fin 1024) (l : Fin 128) : outDK X (ix2 a l) = X (ix3 (lh l) a (lo l)) * ((Real.log 2 : ℝ) : EReal) := by
  unfold outDK
  pointwise [k0_pay10, k0_pay1]
  exact congrArg₂ _ (pick_lo X _ _ (h0_at X) (h1_at X) a l _) rfl
theorem outDN_at (a : Fin 1024) (l : Fin 128) : outDN X (ix2 a l) = X (ix3 (lh l) a (up l)) := by
  unfold outDN
  pointwise [k0_pay12, k0_pay1]
  exact pick_up X _ _ (h0_at X) (h1_at X) a l _
theorem outDQ_at (a : Fin 8192) (l : Fin 128) : outDQ Y (ix2 a l) = Y (ix3 (lh l) a (lo l)) * ((0.125 : ℝ) : EReal) := by
  unfold outDQ
  pointwise [k0_pay14, k0_pay13]
  refine congrArg₂ _ (pick_lo Y _ _ (H0_at Y) (H1_at Y) a l _) ?_
  simp [Ideal.ofBits, Ideal.ieee, -EReal.coe_mul]; norm_num
theorem outRow_at (a : Fin 8192) (l : Fin 128) : outRow Y (ix2 a l) = Y (ix3 (lh l) a (up l)) := by
  unfold outRow
  pointwise [k0_pay15, k0_pay13]
  exact pick_up Y _ _ (H0_at Y) (H1_at Y) a l _
end

section
variable {c : Dev nD} (A : (w : Fin 9) → Buf (Elt Ideal) (((cf (F := Ideal)).win w).arr.view.loc (c.tc : Thread nD τ)))

/-- The gradients of the packed values, keys and queries, lane by lane. -/
def gDV (H : Fin 16) (k : Fin 8192) (l : Fin 128) : EReal := ∑ r, gW A H k r * hr (A 3) H r l
def gDK (H : Fin 16) (k : Fin 8192) (l : Fin 128) : EReal := ∑ r, gS A H k r * hr (A 0) H r l
def gDQ (H : Fin 16) (r : Fin 8192) (l : Fin 128) : EReal := ∑ k, gS A H k r * hr (A 1) H k l

theorem cov5 : ((cf (F := Ideal)).win 5).Covers := by decide +kernel
theorem cov6 : ((cf (F := Ideal)).win 6).Covers := by decide +kernel
theorem cov7 : ((cf (F := Ideal)).win 7).Covers := by decide +kernel
theorem cov8 : ((cf (F := Ideal)).win 8).Covers := by decide +kernel
theorem cov4 : ((cf (F := Ideal)).win 4).CoversWhere (fun β => β 1 < 8) := by decide +kernel

/-- The head of one of 1024 columns, its lane within the head, and that lane's upper twin. -/
def cH (x : Fin 1024) : Fin 16 := ⟨x.val / 64, by omega⟩
def cL (x : Fin 1024) : Fin 128 := ⟨x.val % 64, by omega⟩
def cU (x : Fin 1024) : Fin 128 := ⟨64 + x.val % 64, by omega⟩

theorem idx2 {n : ℕ} (y : (⟨2, ![n, 128]⟩ : Shape).Idx) : ∃ (a : Fin n) (l : Fin 128), y = ix2 a l :=
  ⟨y 0, y 1, funext fun b => match b with | 0 => rfl | 1 => rfl⟩

theorem cols (t : Fin (cf (F := Ideal)).N) (l : Fin 128) (x : Fin 1024) (hx : x.val = gp t * 128 + l.val) : cH x = hd t (lh l) ∧ cL x = lo l ∧ cU x = up l := by
  refine ⟨Fin.ext ?_, Fin.ext ?_, Fin.ext ?_⟩
  · show x.val / 64 = 2 * gp t + l.val / 64; omega
  · show x.val % 64 = l.val % 64; omega
  · show 64 + x.val % 64 = 64 + l.val % 64; omega

/-- At the last point of a column the key and value accumulators' rows, as the arrays name them. -/
theorem DV_out (t : Fin (cf (F := Ideal)).N) (h7 : qi t = 7) (a : Fin 1024) (l : Fin 128) (k : Fin 8192) (x : Fin 1024) (hk : k.val = kj t * 1024 + a.val) (hx : x.val = gp t * 128 + l.val) :
    (st A (t.val + 1)).DV (ix3 (lh l) a (lo l)) = gDV A (cH x) k (cL x) := by
  obtain ⟨h1, h2, -⟩ := cols t l x hx
  rw [h1, h2]; exact DV_end A t h7 (lh l) a (lo l) k (by omega)
theorem DK_out (t : Fin (cf (F := Ideal)).N) (h7 : qi t = 7) (a : Fin 1024) (l : Fin 128) (k : Fin 8192) (x : Fin 1024) (hk : k.val = kj t * 1024 + a.val) (hx : x.val = gp t * 128 + l.val) :
    (st A (t.val + 1)).DK (ix3 (lh l) a (lo l)) = gDK A (cH x) k (cL x) := by
  obtain ⟨h1, h2, -⟩ := cols t l x hx
  rw [h1, h2]; exact DK_end A t h7 (lh l) a (lo l) k (by omega)
theorem DN_out (t : Fin (cf (F := Ideal)).N) (h7 : qi t = 7) (a : Fin 1024) (l : Fin 128) (k : Fin 8192) (x : Fin 1024) (hk : k.val = kj t * 1024 + a.val) (hx : x.val = gp t * 128 + l.val) :
    (st A (t.val + 1)).DK (ix3 (lh l) a (up l)) = gDK A (cH x) k (cU x) := by
  obtain ⟨h1, -, h3⟩ := cols t l x hx
  rw [h1, h3]; exact DK_end A t h7 (lh l) a (up l) k (by omega)

theorem last36 (t : Fin (cf (F := Ideal)).N) (h : t.val % 36 = 35) : t.val + 1 = 36 * gp t + 36 := by
  unfold gp; omega
theorem DQ_out (t : Fin (cf (F := Ideal)).N) (h : t.val % 36 = 35) (a : Fin 8192) (l : Fin 128) (r : Fin 8192) (x : Fin 1024) (hr' : r.val = 0 * 8192 + a.val) (hx : x.val = gp t * 128 + l.val) :
    (st A (t.val + 1)).DQ (ix3 (lh l) a (lo l)) = gDQ A (cH x) r (cL x) := by
  obtain ⟨h1, h2, -⟩ := cols t l x hx
  obtain rfl : r = a := Fin.ext (by omega)
  rw [h1, h2, last36 t h]; exact DQ_end A (gp t) (gp_lt t) (lh l) r (lo l)
theorem Row_out (t : Fin (cf (F := Ideal)).N) (h : t.val % 36 = 35) (a : Fin 8192) (l : Fin 128) (r : Fin 8192) (x : Fin 1024) (hr' : r.val = 0 * 8192 + a.val) (hx : x.val = gp t * 128 + l.val) :
    (st A (t.val + 1)).DQ (ix3 (lh l) a (up l)) = gDQ A (cH x) r (cU x) := by
  obtain ⟨h1, -, h3⟩ := cols t l x hx
  obtain rfl : r = a := Fin.ext (by omega)
  rw [h1, h3, last36 t h]; exact DQ_end A (gp t) (gp_lt t) (lh l) r (up l)

theorem arr6 : (dat A).arrAt 6 (cf (F := Ideal)).N = fun i : S8192x1024.Idx => gDV A (cH (i 1)) (i 0) (cL (i 1)) := by
  refine (dat A).arrAt_eq_of_covers 6 _ cov6 fun t hf y => ?_
  have h7 : qi t = 7 := by
    by_contra h
    exact absurd (flush6 t (fun e => h (congrArg BitVec.toNat e))) (by rw [hf]; decide)
  obtain ⟨a, l, rfl⟩ := idx2 (n := 1024) y
  have e : ((cf (F := Ideal)).win 6).index t = ![kj t, gp t] := by
    refine (tr7_eq (F := Ideal) (grid0.coords t)).trans ?_
    rw [coord0]; rfl
  have e0 := Pipeline.Window.rect_emb_val ((cf (F := Ideal)).win 6) t (ix2 a l) (0 : Fin 2)
  have e1 := Pipeline.Window.rect_emb_val ((cf (F := Ideal)).win 6) t (ix2 a l) (1 : Fin 2)
  rw [e] at e0 e1
  refine (outDV_at _ a l).trans ?_
  exact DV_out A t h7 a l _ _ e0 e1
theorem arr5 : (dat A).arrAt 5 (cf (F := Ideal)).N = fun i : S8192x1024.Idx => gDK A (cH (i 1)) (i 0) (cL (i 1)) * ((Real.log 2 : ℝ) : EReal) := by
  refine (dat A).arrAt_eq_of_covers 5 _ cov5 fun t hf y => ?_
  have h7 : qi t = 7 := by
    by_contra h
    exact absurd (flush5 t (fun e => h (congrArg BitVec.toNat e))) (by rw [hf]; decide)
  obtain ⟨a, l, rfl⟩ := idx2 (n := 1024) y
  have e : ((cf (F := Ideal)).win 5).index t = ![kj t, gp t] := by
    refine (tr6_eq (F := Ideal) (grid0.coords t)).trans ?_
    rw [coord0]; rfl
  have e0 := Pipeline.Window.rect_emb_val ((cf (F := Ideal)).win 5) t (ix2 a l) (0 : Fin 2)
  have e1 := Pipeline.Window.rect_emb_val ((cf (F := Ideal)).win 5) t (ix2 a l) (1 : Fin 2)
  rw [e] at e0 e1
  refine (outDK_at _ a l).trans ?_
  exact congrArg (· * _) (DK_out A t h7 a l _ _ e0 e1)
theorem arr7 : (dat A).arrAt 7 (cf (F := Ideal)).N = fun i : S8192x1024.Idx => gDK A (cH (i 1)) (i 0) (cU (i 1)) := by
  refine (dat A).arrAt_eq_of_covers 7 _ cov7 fun t hf y => ?_
  have h7 : qi t = 7 := by
    by_contra h
    exact absurd (flush7 t (fun e => h (congrArg BitVec.toNat e))) (by rw [hf]; decide)
  obtain ⟨a, l, rfl⟩ := idx2 (n := 1024) y
  have e : ((cf (F := Ideal)).win 7).index t = ![kj t, gp t] := by
    refine (tr8_eq (F := Ideal) (grid0.coords t)).trans ?_
    rw [coord0]; rfl
  have e0 := Pipeline.Window.rect_emb_val ((cf (F := Ideal)).win 7) t (ix2 a l) (0 : Fin 2)
  have e1 := Pipeline.Window.rect_emb_val ((cf (F := Ideal)).win 7) t (ix2 a l) (1 : Fin 2)
  rw [e] at e0 e1
  refine (outDN_at _ a l).trans ?_
  exact DN_out A t h7 a l _ _ e0 e1

theorem arr8 : (dat A).arrAt 8 (cf (F := Ideal)).N = fun i : S8192x1024.Idx => gDQ A (cH (i 1)) (i 0) (cU (i 1)) := by
  refine (dat A).arrAt_eq_of_covers 8 _ cov8 fun t hf y => ?_
  have h35 : t.val % 36 = 35 := by
    by_contra h
    exact absurd (flush8 t h) (by rw [hf]; decide)
  obtain ⟨a, l, rfl⟩ := idx2 (n := 8192) y
  have e : ((cf (F := Ideal)).win 8).index t = ![0, gp t] := by
    refine congrArg (fun n => ![0, n]) ((arg0_eq (grid0.coords t)).trans ?_)
    rw [coord0]; rfl
  have e0 := Pipeline.Window.rect_emb_val ((cf (F := Ideal)).win 8) t (ix2 a l) (0 : Fin 2)
  have e1 := Pipeline.Window.rect_emb_val ((cf (F := Ideal)).win 8) t (ix2 a l) (1 : Fin 2)
  rw [e] at e0 e1
  refine (outRow_at _ a l).trans ?_
  exact Row_out A t h35 a l _ _ e0 e1

/-- A column below 1024 of the wide array, as one of 1024. -/
def cW (x : Fin 3072) : Fin 1024 := ⟨x.val % 1024, by omega⟩

theorem arr4 : (dat A).arrAt 4 (cf (F := Ideal)).N = fun i : S8192x3072.Idx => if (i 1).val / 128 < 8 then gDQ A (cH (cW (i 1))) (i 0) (cL (cW (i 1))) * ((0.125 : ℝ) : EReal) else A 4 i := by
  refine (dat A).arrAt_eq_of_coversWhere 4 (fun i : S8192x3072.Idx => gDQ A (cH (cW (i 1))) (i 0) (cL (cW (i 1))) * ((0.125 : ℝ) : EReal))
    (P := fun i : S8192x3072.Idx => (i 1).val / 128 < 8) (fun β => β 1 < 8) cov4 (fun t hf y => ?_) (fun j => Iff.rfl)
  have h35 : t.val % 36 = 35 := by
    by_contra h
    exact absurd (flush4 t h) (by rw [hf]; decide)
  obtain ⟨a, l, rfl⟩ := idx2 (n := 8192) y
  have e : ((cf (F := Ideal)).win 4).index t = ![0, gp t] := by
    refine congrArg (fun n => ![0, n]) ((arg0_eq (grid0.coords t)).trans ?_)
    rw [coord0]; rfl
  have e0 := Pipeline.Window.rect_emb_val ((cf (F := Ideal)).win 4) t (ix2 a l) (0 : Fin 2)
  have e1 := Pipeline.Window.rect_emb_val ((cf (F := Ideal)).win 4) t (ix2 a l) (1 : Fin 2)
  rw [e] at e0 e1
  refine (outDQ_at _ a l).trans (congrArg (· * _) ?_)
  refine DQ_out A t h35 a l _ _ e0 ?_
  have hg := gp_lt t
  refine (Nat.mod_eq_of_lt ?_).trans e1
  refine Nat.lt_of_le_of_lt (Nat.le_of_eq e1) ?_
  show gp t * 128 + l.val < 1024
  omega
end
end Cert.Fox
end
-- ==== Proof.Real.lean ====
/-
  One head of the attention over the reals: the softmax, its gradient, and what the two programs' forms of it have in common.
-/
module
public import Idealize.ShloMosaic.PureOps.Ideal.Laws
public import Idealize.ShloMosaic.Lib.Pointwise
public import Mathlib.Analysis.SpecialFunctions.Log.Basic
public import Mathlib.Analysis.SpecialFunctions.Pow.Real
@[expose] public section
noncomputable section
namespace Cert.Fox
open Idealize.ShloMosaic
open scoped BigOperators

variable (Q K U D : Fin 8192 → Fin 64 → ℝ) (G : Fin 8192 → ℝ)

/-- A query's score at a key, less the query's own gate sum. -/
def score (r c : Fin 8192) : ℝ := (∑ d, Q r d * K c d) * 0.125 - G c
/-- The power at a visible key when a row's scores are shifted by `a`, and the sum over the row. -/
def pow (a : ℝ) (r c : Fin 8192) : ℝ := if c.val ≤ r.val then Real.exp (score Q K G r c + a) else 0
def tot (a : ℝ) (r : Fin 8192) : ℝ := ∑ c, pow Q K G a r c
/-- The attention's weight. -/
def wgt (r c : Fin 8192) : ℝ := pow Q K G 0 r c / tot Q K G 0 r
/-- The weight's gradient. -/
def dwt (r c : Fin 8192) : ℝ := ∑ d, U c d * D r d
/-- The row's mean of it. -/
def mean (r : Fin 8192) : ℝ := ∑ c, wgt Q K G r c * dwt U D r c
/-- The score's gradient. -/
def dsc (r c : Fin 8192) : ℝ := wgt Q K G r c * (dwt U D r c - mean Q K U D G r)
/-- The gradients of v, of k, of q, and of the gate sums. -/
def dV (c : Fin 8192) (d : Fin 64) : ℝ := ∑ r, wgt Q K G r c * D r d
def dK (c : Fin 8192) (d : Fin 64) : ℝ := (∑ r, dsc Q K U D G r c * Q r d) * 0.125
def dQ (r : Fin 8192) (d : Fin 64) : ℝ := (∑ c, dsc Q K U D G r c * K c d) * 0.125
def dG (r : Fin 8192) : ℝ := ∑ c, dsc Q K U D G r c - ∑ r', dsc Q K U D G r' r

theorem pow_shift (a : ℝ) (r c : Fin 8192) : pow Q K G a r c = pow Q K G 0 r c * Real.exp a := by
  unfold pow; split
  · rw [add_zero, Real.exp_add]
  · rw [zero_mul]

theorem tot_shift (a : ℝ) (r : Fin 8192) : tot Q K G a r = tot Q K G 0 r * Real.exp a := by
  unfold tot; rw [Finset.sum_mul]; exact Finset.sum_congr rfl fun c _ => pow_shift Q K G a r c

theorem pow_nonneg (a : ℝ) (r c : Fin 8192) : 0 ≤ pow Q K G a r c := by
  unfold pow; split
  · exact (Real.exp_pos _).le
  · exact le_rfl

theorem tot_pos (a : ℝ) (r : Fin 8192) : 0 < tot Q K G a r :=
  Finset.sum_pos' (fun c _ => pow_nonneg Q K G a r c) ⟨r, Finset.mem_univ r, by unfold pow; rw [if_pos (le_refl r.val)]; exact Real.exp_pos _⟩

/-- The weights do not depend on the shift. -/
theorem wgt_shift (a : ℝ) (r c : Fin 8192) : pow Q K G a r c * (1 / tot Q K G a r) = wgt Q K G r c := by
  have h := (tot_pos Q K G 0 r).ne'
  have e := (Real.exp_pos a).ne'
  rw [pow_shift, tot_shift, wgt]
  field_simp

/-- The weight at a visible key as one power of e. -/
theorem wgt_log (a : ℝ) (r c : Fin 8192) (h : c.val ≤ r.val) : Real.exp (score Q K G r c + a - Real.log (tot Q K G a r)) = wgt Q K G r c := by
  rw [← wgt_shift Q K G a, Real.exp_sub, Real.exp_log (tot_pos Q K G a r), pow, if_pos h]
  ring

theorem wgt_unseen (r c : Fin 8192) (h : ¬ c.val ≤ r.val) : wgt Q K G r c = 0 := by
  rw [wgt, pow, if_neg h, zero_div]

/-- The mean as the product of the result and its gradient. -/
theorem mean_result (r : Fin 8192) : ∑ d, D r d * ∑ c, U c d * wgt Q K G r c = mean Q K U D G r := by
  unfold mean dwt
  simp only [Finset.mul_sum]
  rw [Finset.sum_comm]
  exact Finset.sum_congr rfl fun c _ => Finset.sum_congr rfl fun d _ => by ring

/-- The score's gradient in the form that divides by the total twice. -/
theorem dsc_shift (a : ℝ) (r c : Fin 8192) :
    (dwt U D r c * (1 / tot Q K G a r) + -∑ x, dwt U D r x * (1 / (tot Q K G a r * tot Q K G a r)) * pow Q K G a r x) * pow Q K G a r c = dsc Q K U D G r c := by
  have h := (tot_pos Q K G a r).ne'
  have e : ∑ x, dwt U D r x * (1 / (tot Q K G a r * tot Q K G a r)) * pow Q K G a r x = mean Q K U D G r * (1 / tot Q K G a r) := by
    unfold mean
    rw [Finset.sum_mul]
    refine Finset.sum_congr rfl fun x _ => ?_
    rw [← wgt_shift Q K G a]
    field_simp
  rw [e, dsc, ← wgt_shift Q K G a]
  ring

/-- A power of two of a multiple of 1 / log 2. -/
theorem two_pow (x : ℝ) : Real.rpow 2 (x * (1 / Real.log 2)) = Real.exp x := by
  have h : Real.log 2 ≠ 0 := (Real.log_pos (by norm_num)).ne'
  show (2 : ℝ) ^ (x * (1 / Real.log 2)) = Real.exp x
  rw [Real.rpow_def_of_pos (by norm_num)]
  congr 1
  field_simp

/-! ## In the extended reals -/

theorem coe_sum {n : ℕ} (f : Fin n → ℝ) : (∑ i, (f i : EReal)) = ((∑ i, f i : ℝ) : EReal) :=
  (map_sum (⟨⟨fun x : ℝ => (x : EReal), EReal.coe_zero⟩, EReal.coe_add⟩ : ℝ →+ EReal) f Finset.univ).symm

/-- A masked row's score. -/
def msk (a : ℝ) (r c : Fin 8192) : EReal := if c.val ≤ r.val then ((score Q K G r c + a : ℝ) : EReal) else ⊥

/-- The greatest is a real number: a query sees itself. -/
theorem max_real (a : ℝ) (r : Fin 8192) : ∃ M : ℝ, Finset.univ.fold max ⊥ (fun c => msk Q K G a r c) = (M : EReal) := by
  have hb : Finset.univ.fold max ⊥ (fun c => msk Q K G a r c) ≠ ⊥ := by
    refine ne_of_gt ((Finset.lt_fold_max _).2 (.inr ⟨r, Finset.mem_univ r, ?_⟩))
    rw [msk, if_pos (le_refl r.val)]
    exact EReal.bot_lt_coe _
  have ht : Finset.univ.fold max ⊥ (fun c => msk Q K G a r c) ≠ ⊤ := by
    refine ne_of_lt ((Finset.fold_max_lt _).2 ⟨bot_lt_top, fun c _ => ?_⟩)
    rw [msk]; split
    · exact EReal.coe_lt_top _
    · exact bot_lt_top
  exact ⟨_, (EReal.coe_toReal ht hb).symm⟩

theorem exp_msk (a M : ℝ) (r c : Fin 8192) : Ideal.exp (msk Q K G a r c - (M : EReal)) = (pow Q K G (a - M) r c : EReal) := by
  unfold msk pow; split
  · rw [← EReal.coe_sub, Ideal.exp_coe, add_sub_assoc]
  · rw [EReal.bot_sub, Ideal.exp_bot, EReal.coe_zero]

/-! ## Rows of 128 lanes -/

/-- A row of 64 values, six more behind them, and one value in all the other lanes. -/
def lane (x : Fin 64 → ℝ) (a : Fin 6 → ℝ) (z : ℝ) (m : Fin 128) : ℝ :=
  if h : m.val < 64 then x ⟨m.val, h⟩ else if h : m.val - 64 < 6 then a ⟨m.val - 64, h⟩ else z

theorem lane_low (x : Fin 64 → ℝ) (a : Fin 6 → ℝ) (z : ℝ) (m : Fin 128) (h : m.val < 64) : lane x a z m = x ⟨m.val, h⟩ := dif_pos h

theorem lane_mid (x : Fin 64 → ℝ) (a : Fin 6 → ℝ) (z : ℝ) (m : Fin 128) (j : Fin 6) (h : m.val = 64 + j.val) : lane x a z m = a j := by
  rw [lane, dif_neg (by omega), dif_pos (by omega)]
  exact congrArg a (Fin.ext (by show m.val - 64 = j.val; omega))

theorem lane_high (x : Fin 64 → ℝ) (a : Fin 6 → ℝ) (z : ℝ) (m : Fin 128) (h : 70 ≤ m.val) : lane x a z m = z := by
  rw [lane, dif_neg (by omega), dif_neg (by omega)]

/-- The product of two such rows, where the one's other lanes are zero. -/
theorem sum_lane (x y : Fin 64 → ℝ) (a b : Fin 6 → ℝ) (z : ℝ) :
    ∑ m, lane x a z m * lane y b 0 m = ∑ d, x d * y d + ∑ j, a j * b j := by
  have h : ∀ f : Fin (64 + (6 + 58)) → ℝ, ∑ i, f i = ∑ i : Fin 64, f (Fin.castAdd _ i) + (∑ i : Fin 6, f (Fin.natAdd 64 (Fin.castAdd 58 i))
      + ∑ i : Fin 58, f (Fin.natAdd 64 (Fin.natAdd 6 i))) := fun f => by rw [Fin.sum_univ_add, Fin.sum_univ_add]
  have hx : ∀ i : Fin 64, lane x a z (Fin.castAdd (6 + 58) i) * lane y b 0 (Fin.castAdd (6 + 58) i) = x i * y i := fun i => by
    rw [lane_low x a z _ i.isLt, lane_low y b 0 _ i.isLt]
    rfl
  have hm : ∀ i : Fin 6, lane x a z (Fin.natAdd 64 (Fin.castAdd 58 i)) * lane y b 0 (Fin.natAdd 64 (Fin.castAdd 58 i)) = a i * b i := fun i => by
    rw [lane_mid x a z _ i rfl, lane_mid y b 0 _ i rfl]
  have hz : ∀ i : Fin 58, lane x a z (Fin.natAdd 64 (Fin.natAdd 6 i)) * lane y b 0 (Fin.natAdd 64 (Fin.natAdd 6 i)) = 0 := fun i => by
    rw [lane_high y b 0 _ (by show 70 ≤ 64 + (6 + i.val); omega), mul_zero]
  refine (h fun m => lane x a z m * lane y b 0 m).trans ?_
  simp only [hx, hm, hz, Finset.sum_const_zero, add_zero]

/-- A choice by the order of two positions. -/
theorem select_le {α : Type} (a b : ℕ) (ha : a < 8192) (hb : b < 8192) (x y : α) :
    Scalar.select (IntOp.cmpi CmpIPredicate.sle (BitVec.ofNat 32 a) (BitVec.ofNat 32 b)) x y = if a ≤ b then x else y := by
  have hc : IntOp.cmpi CmpIPredicate.sle (BitVec.ofNat 32 a) (BitVec.ofNat 32 b) = BitVec.ofBool (decide (a ≤ b)) := by
    show BitVec.ofBool ((BitVec.ofNat 32 a).sle (BitVec.ofNat 32 b)) = _
    congr 1
    rw [BitVec.sle_eq_decide, BitVec.toInt_eq_toNat_of_lt, BitVec.toInt_eq_toNat_of_lt]
    · simp only [BitVec.toNat_ofNat]
      apply decide_eq_decide.mpr
      omega
    · simp only [BitVec.toNat_ofNat]; omega
    · simp only [BitVec.toNat_ofNat]; omega
  rw [hc]
  by_cases h : a ≤ b
  · rw [if_pos h, decide_eq_true h]; rfl
  · rw [if_neg h, decide_eq_false h]; rfl

theorem eighth : (Ideal.ofBits .f32 0x3E000000#32 : EReal) = ((0.125 : ℝ) : EReal) := by
  simp [Ideal.ofBits, Ideal.ieee, -EReal.coe_mul]; norm_num
theorem two : (Ideal.ofBits .f32 0x40000000#32 : EReal) = ((2 : ℝ) : EReal) := by
  simp [Ideal.ofBits, Ideal.ieee, -EReal.coe_mul]; norm_num
theorem neg_inf : (Ideal.ofBits .f32 0xFF800000#32 : EReal) = ⊥ := by
  simp [Ideal.ofBits, Ideal.ieee]

/-- An array of real numbers. -/
abbrev reals {s : Shape} (x : s.Idx → ℝ) : s.Idx → EReal := fun i => (x i : EReal)

/-- One head's rows of a packed array, of an array by heads, and of the gate sums. -/
def ofRows (q : (⟨2, ![8192, 1024]⟩ : Shape).Idx → ℝ) (H : Fin 16) (r : Fin 8192) (d : Fin 64) : ℝ := q (ix2 r ⟨H.val * 64 + d.val, by omega⟩)
def ofHeads (k : (⟨3, ![8192, 16, 64]⟩ : Shape).Idx → ℝ) (H : Fin 16) (c : Fin 8192) (d : Fin 64) : ℝ := k (ix3 c H d)
def ofGate (g : (⟨2, ![8192, 16]⟩ : Shape).Idx → ℝ) (H : Fin 16) (c : Fin 8192) : ℝ := g (ix2 c H)

end Cert.Fox
end
-- ==== Proof.Vals.lean ====
/-
  The call's operands and results where the arguments are real numbers.
-/
module
public import proofs.«01_k».proof.Proof.Host
public import proofs.«01_k».proof.Proof.Arr
public import proofs.«01_k».proof.Proof.Real
@[expose] public section
noncomputable section
namespace Cert.Fox
open Cert.KernelIdeal Cert.KernelIdeal.Gen
open Idealize.ShloMosaic

/-- What a scale by one over the logarithm of two is. -/
theorem log2e_val : log2e (F := Ideal) ix0 = ((1 / Real.log 2 : ℝ) : EReal) := by
  have h : log2e (F := Ideal) ix0 = Ideal.div 1 (Ideal.log (Ideal.ofBits FTy.f32 0x40000000#32)) := by pointwise [log2e]
  rw [h, two, Ideal.log_coe, if_neg (by norm_num), Ideal.div_coe (Real.log_pos (by norm_num)).ne', one_mul]

theorem lse_of (x y : FVec Ideal S16x8192 .f32) (z : FVec Ideal S_ .f32) (r : Fin 8192) (H : Fin 16) :
    (Host.negf (transpose S8192x16 [1, 0] (mulf (addf x (Host.log y)) (broadcastInDim S16x8192 ![] bcast_S_S16x8192 z))
      transposes_S16x8192_S8192x16_1_0) : FVec Ideal S8192x16 .f32) (ix2 r H) = -((x (ix2 H r) + Ideal.log (y (ix2 H r))) * z ix0) := by
  pointwise []

section
variable (q dy : S8192x1024.Idx → ℝ) (k v : S8192x16x64.Idx → ℝ) (g : S8192x16.Idx → ℝ) (H : Fin 16) (r c : Fin 8192)

theorem scores_val : scores (F := Ideal) (reals q) (reals k) (reals g) (ix3 H r c) = msk (ofRows q H) (ofHeads k H) (ofGate g H) 0 r c := by
  have h : scores (F := Ideal) (reals q) (reals k) (reals g) (ix3 H r c) = Scalar.select (IntOp.cmpi CmpIPredicate.sle (BitVec.ofNat 32 c.val) (BitVec.ofNat 32 r.val))
      ((∑ d : Fin 64, reals q (ix2 r ⟨H.val * 64 + d.val, by omega⟩) * reals k (ix3 c H d)) * Ideal.ofBits FTy.f32 0x3E000000#32 - reals g (ix2 c H))
      (Ideal.ofBits FTy.f32 0xFF800000#32) := by
    pointwise [scores, sees, heads]
    rfl
  rw [h, select_le _ _ c.isLt r.isLt, eighth, neg_inf]
  unfold msk
  split
  · simp only [reals, ← EReal.coe_mul, ← EReal.coe_sub, coe_sum, add_zero]
    rfl
  · rfl

theorem max_val : ∃ M : ℝ, rowMax (F := Ideal) (reals q) (reals k) (reals g) (ix2 H r) = (M : EReal) := by
  have h : rowMax (F := Ideal) (reals q) (reals k) (reals g) (ix2 H r)
      = Finset.univ.fold max (Ideal.ofBits FTy.f32 0xFF800000#32) (fun x => scores (F := Ideal) (reals q) (reals k) (reals g) (ix3 H r x)) := by
    pointwise [rowMax]
  rw [h, neg_inf]
  simp only [scores_val]
  exact max_real _ _ _ 0 r

variable (M : ℝ) (hM : rowMax (F := Ideal) (reals q) (reals k) (reals g) (ix2 H r) = (M : EReal))
include hM

theorem powers_val : powers (F := Ideal) (reals q) (reals k) (reals g) (ix3 H r c) = (pow (ofRows q H) (ofHeads k H) (ofGate g H) (0 - M) r c : EReal) := by
  have h : powers (F := Ideal) (reals q) (reals k) (reals g) (ix3 H r c)
      = Ideal.exp (scores (F := Ideal) (reals q) (reals k) (reals g) (ix3 H r c) - rowMax (F := Ideal) (reals q) (reals k) (reals g) (ix2 H r)) := by
    pointwise [powers, spread]
  rw [h, hM, scores_val, exp_msk]

theorem rowSum_val : rowSum (F := Ideal) (reals q) (reals k) (reals g) (ix2 H r) = (tot (ofRows q H) (ofHeads k H) (ofGate g H) (0 - M) r : EReal) := by
  have h : rowSum (F := Ideal) (reals q) (reals k) (reals g) (ix2 H r) = ∑ x, powers (F := Ideal) (reals q) (reals k) (reals g) (ix3 H r x) := by pointwise [rowSum]
  rw [h]
  simp only [powers_val q k g H r _ M hM, coe_sum]
  rfl

theorem nLse_val : nLse (F := Ideal) (reals q) (reals k) (reals g) (ix2 r H)
    = ((-((M + Real.log (tot (ofRows q H) (ofHeads k H) (ofGate g H) (0 - M) r)) * (1 / Real.log 2)) : ℝ) : EReal) := by
  refine (lse_of _ _ _ r H).trans ?_
  rw [hM, rowSum_val q k g H r M hM, log2e_val, Ideal.log_coe, if_neg (not_le.2 (tot_pos _ _ _ _ _))]
  rw [← EReal.coe_add, ← EReal.coe_mul, ← EReal.coe_neg]

theorem attn_val (d : Fin 64) : attn (F := Ideal) (reals q) (reals k) (reals v) (reals g) (ix3 r H d)
    = ((∑ c, ofHeads v H c d * wgt (ofRows q H) (ofHeads k H) (ofGate g H) r c : ℝ) : EReal) := by
  have h : attn (F := Ideal) (reals q) (reals k) (reals v) (reals g) (ix3 r H d)
      = ∑ x, reals v (ix3 x H d) * Ideal.div (powers (F := Ideal) (reals q) (reals k) (reals g) (ix3 H r x)) (rowSum (F := Ideal) (reals q) (reals k) (reals g) (ix2 H r)) := by
    pointwise [attn, spread]
  rw [h]
  simp only [powers_val q k g H r _ M hM, rowSum_val q k g H r M hM, Ideal.div_coe (tot_pos _ _ _ _ _).ne', reals, ← EReal.coe_mul, wgt_shift, coe_sum]
  rfl

theorem nDelta_val : nDelta (F := Ideal) (reals q) (reals k) (reals v) (reals g) (reals dy) (ix2 r H)
    = ((-mean (ofRows q H) (ofHeads k H) (ofHeads v H) (ofRows dy H) (ofGate g H) r : ℝ) : EReal) := by
  have h : nDelta (F := Ideal) (reals q) (reals k) (reals v) (reals g) (reals dy) (ix2 r H)
      = -∑ x : Fin 64, reals dy (ix2 r ⟨H.val * 64 + x.val, by omega⟩) * attn (F := Ideal) (reals q) (reals k) (reals v) (reals g) (ix3 r H x) := by
    pointwise [nDelta, heads]
  rw [h]
  simp only [attn_val q k v g H r M hM, reals, ← EReal.coe_mul, coe_sum, ← EReal.coe_neg, ← mean_result]
  rfl
end

/-! ## The packed operands -/

section
variable (x : FVec Ideal S8192x16 .f32) (r : Fin 8192) (H : Fin 16) (a : ℝ) (hx : x (ix2 r H) = (a : EReal))
theorem part1_val (j : Fin 1) : part1 x (ix3 r H j) = x (ix2 r H) := by pointwise [part1, top, col]
theorem part2_of (j : Fin 1) : part2 x (ix3 r H j) = x (ix2 r H) - x (ix2 r H) := by pointwise [part2, rest, top, col]
theorem part3_of (j : Fin 1) : part3 x (ix3 r H j) = x (ix2 r H) - x (ix2 r H) - (x (ix2 r H) - x (ix2 r H)) := by pointwise [part3, rest, top, col]
include hx
theorem part2_val (j : Fin 1) : part2 x (ix3 r H j) = 0 := by
  rw [part2_of, hx, ← EReal.coe_sub, sub_self, EReal.coe_zero]
theorem part3_val (j : Fin 1) : part3 x (ix3 r H j) = 0 := by
  rw [part3_of, hx, ← EReal.coe_sub, sub_self, EReal.coe_zero, sub_zero]
end

/-- A row of packed lanes from its parts. -/
theorem lane_of (f : Fin 128 → EReal) (x : Fin 64 → ℝ) (a : Fin 6 → ℝ) (z : ℝ) (hx : ∀ (m : Fin 128) (h : m.val < 64), f m = (x ⟨m.val, h⟩ : EReal))
    (ha : ∀ (m : Fin 128) (j : Fin 6), m.val = 64 + j.val → f m = (a j : EReal)) (hz : ∀ m : Fin 128, 70 ≤ m.val → f m = (z : EReal)) :
    f = fun m => (lane x a z m : EReal) := by
  funext m
  by_cases h : m.val < 64
  · rw [hx m h, lane_low x a z m h]
  · by_cases h' : m.val < 70
    · have e : m.val = 64 + (⟨m.val - 64, by omega⟩ : Fin 6).val := by show m.val = 64 + (m.val - 64); omega
      rw [ha m _ e, lane_mid x a z m _ e]
    · rw [hz m (by omega), lane_high x a z m (by omega)]

section
variable (x : FVec Ideal S8192x16x64 .f32) (a b c d e f : FVec Ideal S8192x16x1 .f32) (r : Fin 8192) (H : Fin 16) (m : Fin 128)

/-- The lanes of the packed forms. -/
theorem pack6_at : hr (pack6 x a b c d e f) H r m = if h : m.val < 64 then x (ix3 r H ⟨m.val, h⟩) else if m.val = 64 then a (ix3 r H 0) else if m.val = 65 then b (ix3 r H 0)
      else if m.val = 66 then c (ix3 r H 0) else if m.val = 67 then d (ix3 r H 0) else if m.val = 68 then e (ix3 r H 0) else if m.val = 69 then f (ix3 r H 0) else 0 := by
  pointwise [hr, pack6]
  (repeat' split) <;> first | omega | rfl | exact congrArg _ (congrArg (ix3 r H) (Subsingleton.elim _ _))
theorem pack3_at : hr (pack3 x a b c) H r m = if h : m.val < 64 then x (ix3 r H ⟨m.val, h⟩) else if m.val = 64 then a (ix3 r H 0) else if m.val = 65 then b (ix3 r H 0)
      else if m.val = 66 then c (ix3 r H 0) else 0 := by
  pointwise [hr, pack3]
  (repeat' split) <;> first | omega | rfl | exact congrArg _ (congrArg (ix3 r H) (Subsingleton.elim _ _))
theorem packV_at : hr (packV x) H r m = if h : m.val < 64 then x (ix3 r H ⟨m.val, h⟩) else 1 := by
  pointwise [hr, packV]

variable (X : Fin 64 → ℝ) (A : Fin 6 → ℝ) (hx : ∀ l, x (ix3 r H l) = (X l : EReal)) (ha : a (ix3 r H 0) = (A 0 : EReal)) (hb : b (ix3 r H 0) = (A 1 : EReal))
  (hc : c (ix3 r H 0) = (A 2 : EReal))
include hx
theorem packV_val : hr (packV x) H r = fun m => (lane X (fun _ => 1) 1 m : EReal) :=
  lane_of _ X _ _ (fun m h => by rw [packV_at, dif_pos h, hx]) (fun m j e => by rw [packV_at, dif_neg (by omega), EReal.coe_one])
    (fun m h => by rw [packV_at, dif_neg (by omega), EReal.coe_one])
include ha hb hc
theorem pack6_val (hd : d (ix3 r H 0) = (A 3 : EReal)) (he : e (ix3 r H 0) = (A 4 : EReal)) (hf : f (ix3 r H 0) = (A 5 : EReal)) :
    hr (pack6 x a b c d e f) H r = fun m => (lane X A 0 m : EReal) := by
  refine lane_of _ X _ _ (fun m h => by rw [pack6_at, dif_pos h, hx]) (fun m j e => ?_) (fun m h => ?_)
  · rw [pack6_at, dif_neg (by omega), ha, hb, hc, hd, he, hf]
    simp only [e]
    fin_cases j <;> rfl
  · rw [pack6_at, dif_neg (by omega), if_neg (by omega), if_neg (by omega), if_neg (by omega), if_neg (by omega), if_neg (by omega), if_neg (by omega), EReal.coe_zero]
theorem pack3_val (hd : A 3 = 0) (he : A 4 = 0) (hf : A 5 = 0) :
    hr (pack3 x a b c) H r = fun m => (lane X A 0 m : EReal) := by
  refine lane_of _ X _ _ (fun m h => by rw [pack3_at, dif_pos h, hx]) (fun m j e => ?_) (fun m h => ?_)
  · rw [pack3_at, dif_neg (by omega), ha, hb, hc]
    simp only [e]
    have hz : (0 : EReal) = ((0 : ℝ) : EReal) := EReal.coe_zero.symm
    fin_cases j <;> first | rfl | exact hz.trans (congrArg _ hd.symm) | exact hz.trans (congrArg _ he.symm) | exact hz.trans (congrArg _ hf.symm)
  · rw [pack3_at, dif_neg (by omega), if_neg (by omega), if_neg (by omega), if_neg (by omega), EReal.coe_zero]
end

theorem six (a b c d e f a' b' c' d' e' f' : ℝ) : ∑ j : Fin 6, ![a, b, c, d, e, f] j * ![a', b', c', d', e', f'] j = a * a' + b * b' + c * c' + d * d' + e * e' + f * f' := by
  rw [Fin.sum_univ_six]; rfl
theorem six_one (a : ℝ) : ∑ j : Fin 6, 1 * ![a, 0, 0, 0, 0, 0] j = a := by
  simp [Fin.sum_univ_six]

theorem oneCol_val (r : Fin 8192) (H : Fin 16) (j : Fin 1) : oneCol (F := Ideal) (ix3 r H j) = 1 := by pointwise [oneCol, col]

section
variable (q dy : S8192x1024.Idx → ℝ) (k v : S8192x16x64.Idx → ℝ) (g : S8192x16.Idx → ℝ) (H : Fin 16) (r c : Fin 8192)

theorem gate_val : gate (F := Ideal) (reals g) (ix2 c H) = ((-ofGate g H c * (1 / Real.log 2) : ℝ) : EReal) := by
  have h : gate (F := Ideal) (reals g) (ix2 c H) = -reals g (ix2 c H) * log2e (F := Ideal) ix0 := by pointwise [gate]
  rw [h, log2e_val, ← EReal.coe_neg, ← EReal.coe_mul]
  rfl

theorem packK_val : hr (packK (F := Ideal) (reals k) (reals g)) H c
    = fun m => (lane (fun d => ofHeads k H c d) ![-ofGate g H c * (1 / Real.log 2), 0, 0, 1, 1, 1] 0 m : EReal) := by
  have hg := gate_val g H c
  refine pack6_val _ _ _ _ _ _ _ c H _ _ (fun _ => rfl) ?_ ?_ ?_ ?_ ?_ ?_
  · rw [part1_val, hg]; rfl
  · rw [part2_val _ _ _ _ hg]; exact EReal.coe_zero.symm
  · rw [part3_val _ _ _ _ hg]; exact EReal.coe_zero.symm
  · rw [oneCol_val]; exact EReal.coe_one.symm
  · rw [oneCol_val]; exact EReal.coe_one.symm
  · rw [oneCol_val]; exact EReal.coe_one.symm

theorem packV_real : hr (packV (F := Ideal) (reals v)) H c = fun m => (lane (fun d => ofHeads v H c d) (fun _ => 1) 1 m : EReal) :=
  packV_val _ c H _ fun _ => rfl

variable (M : ℝ) (hM : rowMax (F := Ideal) (reals q) (reals k) (reals g) (ix2 H r) = (M : EReal))
include hM

theorem packQ_val' : hr (packQ (F := Ideal) (reals q) (reals k) (reals g)) H r
    = fun m => (lane (fun d => ofRows q H r d * (0.125 * (1 / Real.log 2)))
        ![1, 1, 1, -((M + Real.log (tot (ofRows q H) (ofHeads k H) (ofGate g H) (0 - M) r)) * (1 / Real.log 2)), 0, 0] 0 m : EReal) := by
  have hl := nLse_val q k g H r M hM
  have hq : ∀ l : Fin 64, (mulf (heads (reals q)) (broadcastInDim S8192x16x64 ![] bcast_S_S8192x16x64 (mulf (constant S_ .f32 0x3E000000#32) log2e)) :
      FVec Ideal S8192x16x64 .f32) (ix3 r H l) = reals q (ix2 r ⟨H.val * 64 + l.val, by omega⟩) * (Ideal.ofBits FTy.f32 0x3E000000#32 * log2e (F := Ideal) ix0) := fun l => by
    pointwise [heads]
  refine pack6_val _ _ _ _ _ _ _ r H _ _ (fun l => ?_) ?_ ?_ ?_ ?_ ?_ ?_
  · rw [hq, eighth, log2e_val, ← EReal.coe_mul, ← EReal.coe_mul]; rfl
  · rw [oneCol_val]; exact EReal.coe_one.symm
  · rw [oneCol_val]; exact EReal.coe_one.symm
  · rw [oneCol_val]; exact EReal.coe_one.symm
  · rw [part1_val, hl]; rfl
  · rw [part2_val _ _ _ _ hl]; exact EReal.coe_zero.symm
  · rw [part3_val _ _ _ _ hl]; exact EReal.coe_zero.symm

theorem packD_val' : hr (packD (F := Ideal) (reals q) (reals k) (reals v) (reals g) (reals dy)) H r
    = fun m => (lane (fun d => ofRows dy H r d) ![-mean (ofRows q H) (ofHeads k H) (ofHeads v H) (ofRows dy H) (ofGate g H) r, 0, 0, 0, 0, 0] 0 m : EReal) := by
  have hl := nDelta_val q dy k v g H r M hM
  have hq : ∀ l : Fin 64, (heads (reals dy) : FVec Ideal S8192x16x64 .f32) (ix3 r H l) = reals dy (ix2 r ⟨H.val * 64 + l.val, by omega⟩) := fun l => by
    pointwise [heads]
  refine pack3_val _ _ _ _ r H _ _ (fun l => ?_) ?_ ?_ ?_ rfl rfl rfl
  · rw [hq]; rfl
  · rw [part1_val, hl]; rfl
  · rw [part2_val _ _ _ _ hl]; exact EReal.coe_zero.symm
  · rw [part3_val _ _ _ _ hl]; exact EReal.coe_zero.symm

theorem wt_val' : wt (c.val ≤ r.val) (hr (packK (F := Ideal) (reals k) (reals g)) H c) (hr (packQ (F := Ideal) (reals q) (reals k) (reals g)) H r)
    = (wgt (ofRows q H) (ofHeads k H) (ofGate g H) r c : EReal) := by
  unfold wt dot
  split
  · rename_i h
    rw [packK_val, packQ_val' q k g H r M hM]
    simp only [← EReal.coe_mul, coe_sum]
    rw [sum_lane, Ideal.exp2_coe, ← wgt_log _ _ _ (0 - M) r c h, ← two_pow]
    have e : ∑ d, ofHeads k H c d * (ofRows q H r d * (0.125 * (1 / Real.log 2))) = (∑ d, ofRows q H r d * ofHeads k H c d) * 0.125 * (1 / Real.log 2) := by
      rw [Finset.sum_mul, Finset.sum_mul]
      exact Finset.sum_congr rfl fun d _ => by ring
    rw [e, six]
    refine congrArg (fun x : ℝ => ((Real.rpow 2 x : ℝ) : EReal)) ?_
    unfold score
    ring
  · rename_i h
    rw [wgt_unseen _ _ _ _ _ h, EReal.coe_zero]

theorem sg_val' : sg (c.val ≤ r.val) (hr (packK (F := Ideal) (reals k) (reals g)) H c) (hr (packQ (F := Ideal) (reals q) (reals k) (reals g)) H r)
    (hr (packV (F := Ideal) (reals v)) H c) (hr (packD (F := Ideal) (reals q) (reals k) (reals v) (reals g) (reals dy)) H r)
    = (dsc (ofRows q H) (ofHeads k H) (ofHeads v H) (ofRows dy H) (ofGate g H) r c : EReal) := by
  unfold sg
  rw [wt_val' q k g H r c M hM]
  unfold dot
  rw [packV_real, packD_val' q dy k v g H r M hM]
  simp only [← EReal.coe_mul, coe_sum]
  rw [sum_lane, six_one, dsc, dwt, sub_eq_add_neg]

end
end Cert.Fox
end
-- ==== Proof.Ends.lean ====
/-
  The kernel's four results where the arguments are real numbers.
-/
module
public import proofs.«01_k».proof.Proof.Vals
@[expose] public section
noncomputable section
namespace Cert.Fox
open Cert.KernelIdeal Cert.KernelIdeal.Gen
open Idealize.ShloMosaic
open Idealize.ShloMosaic.TcCoe

/-- The lane of a column within its head. -/
def cD (x : Fin 1024) : Fin 64 := ⟨x.val % 64, by omega⟩

theorem dcum_at (a b : FVec Ideal S8192x1024 .f32) (r : Fin 8192) (H : Fin 16) :
    dcumOf (F := Ideal) a b (ix2 r H) = a (ix2 r ⟨64 * H.val + 3, by omega⟩) - b (ix2 r ⟨64 * H.val, by omega⟩) := by
  pointwise [dcumOf]
  exact congrArg₂ (· - ·) (congrArg a (congrArg (ix2 r) (Fin.ext (Nat.add_comm _ _)))) rfl

section
variable (m : (ℓ : Loc nD τ sig) → Buf (Elt Ideal) ℓ) (c : Dev nD)
  (q dy : S8192x1024.Idx → ℝ) (k v : S8192x16x64.Idx → ℝ) (g : S8192x16.Idx → ℝ)
  (h0 : m ((c.tc : Thread nD τ).loc main_arg0) = reals q) (h1 : m ((c.tc : Thread nD τ).loc main_arg1) = reals k)
  (h2 : m ((c.tc : Thread nD τ).loc main_arg2) = reals v) (h3 : m ((c.tc : Thread nD τ).loc main_arg3) = reals g)
  (h4 : m ((c.tc : Thread nD τ).loc main_arg4) = reals dy)

include h0 h1 h3 in
theorem arrs_q : arrs m c 0 = packQ (F := Ideal) (reals q) (reals k) (reals g) := by
  rw [← h0, ← h1, ← h3]; exact V_q m c
include h1 h3 in
theorem arrs_k : arrs m c 1 = packK (F := Ideal) (reals k) (reals g) := by
  rw [← h1, ← h3]; exact V_k m c
include h2 in
theorem arrs_v : arrs m c 2 = packV (F := Ideal) (reals v) := by
  rw [← h2]; exact V_v m c
include h0 h1 h2 h3 h4
theorem arrs_d : arrs m c 3 = packD (F := Ideal) (reals q) (reals k) (reals v) (reals g) (reals dy) := by
  rw [← h0, ← h1, ← h2, ← h3, ← h4]; exact V_d m c

omit h2 h4 in
theorem gW_val (H : Fin 16) (x r : Fin 8192) : gW (arrs m c) H x r = (wgt (ofRows q H) (ofHeads k H) (ofGate g H) r x : EReal) := by
  obtain ⟨M, hM⟩ := max_val q k g H r
  unfold gW
  rw [arrs_q m c q k g h0 h1 h3, arrs_k m c k g h1 h3]
  exact wt_val' q k g H r x M hM

theorem gS_val (H : Fin 16) (x r : Fin 8192) : gS (arrs m c) H x r
    = (dsc (ofRows q H) (ofHeads k H) (ofHeads v H) (ofRows dy H) (ofGate g H) r x : EReal) := by
  obtain ⟨M, hM⟩ := max_val q k g H r
  unfold gS
  rw [arrs_q m c q k g h0 h1 h3, arrs_k m c k g h1 h3, arrs_v m c v h2, arrs_d m c q dy k v g h0 h1 h2 h3 h4]
  exact sg_val' q dy k v g H r x M hM

theorem dv_end (r : Fin 8192) (x : Fin 1024) : (dat (arrs m c)).arrAt 6 (cf (F := Ideal)).N (ix2 r x)
    = (dV (ofRows q (cH x)) (ofHeads k (cH x)) (ofRows dy (cH x)) (ofGate g (cH x)) r (cD x) : EReal) := by
  have hd : ∀ y, hr (arrs m c 3) (cH x) y (cL x) = (ofRows dy (cH x) y (cD x) : EReal) := fun y => by
    obtain ⟨M, hM⟩ := max_val q k g (cH x) y
    rw [arrs_d m c q dy k v g h0 h1 h2 h3 h4, packD_val' q dy k v g (cH x) y M hM]
    beta_reduce
    rw [lane_low _ _ _ (cL x) (by show x.val % 64 < 64; omega)]
    rfl
  rw [arr6]
  show gDV (arrs m c) (cH x) r (cL x) = _
  unfold gDV
  simp only [gW_val m c q k g h0 h1 h3, hd, ← EReal.coe_mul, coe_sum]
  rfl

omit h2 h4 in
theorem q_low (H : Fin 16) (y : Fin 8192) (l : Fin 128) (hl : l.val < 64) : hr (arrs m c 0) H y l = ((ofRows q H y ⟨l.val, hl⟩ * (0.125 * (1 / Real.log 2)) : ℝ) : EReal) := by
  obtain ⟨M, hM⟩ := max_val q k g H y
  rw [arrs_q m c q k g h0 h1 h3, packQ_val' q k g H y M hM]
  beta_reduce
  rw [lane_low _ _ _ l hl]

omit h2 h4 in
theorem q_one (H : Fin 16) (y : Fin 8192) (l : Fin 128) (hl : l.val = 64) : hr (arrs m c 0) H y l = ((1 : ℝ) : EReal) := by
  obtain ⟨M, hM⟩ := max_val q k g H y
  rw [arrs_q m c q k g h0 h1 h3, packQ_val' q k g H y M hM]
  beta_reduce
  rw [lane_mid _ _ _ l 0 hl]
  rfl

omit h0 h2 h4 in
theorem k_low (H : Fin 16) (y : Fin 8192) (l : Fin 128) (hl : l.val < 64) : hr (arrs m c 1) H y l = (ofHeads k H y ⟨l.val, hl⟩ : EReal) := by
  rw [arrs_k m c k g h1 h3, packK_val]
  beta_reduce
  rw [lane_low _ _ _ l hl]

omit h0 h2 h4 in
theorem k_one (H : Fin 16) (y : Fin 8192) (l : Fin 128) (hl : l.val = 67) : hr (arrs m c 1) H y l = ((1 : ℝ) : EReal) := by
  rw [arrs_k m c k g h1 h3, packK_val]
  beta_reduce
  rw [lane_mid _ _ _ l 3 hl]
  rfl

theorem dk_end (r : Fin 8192) (x : Fin 1024) : (dat (arrs m c)).arrAt 5 (cf (F := Ideal)).N (ix2 r x)
    = (dK (ofRows q (cH x)) (ofHeads k (cH x)) (ofHeads v (cH x)) (ofRows dy (cH x)) (ofGate g (cH x)) r (cD x) : EReal) := by
  have hq := fun y => q_low m c q k g h0 h1 h3 (cH x) y (cL x) (by show x.val % 64 < 64; omega)
  rw [arr5]
  show gDK (arrs m c) (cH x) r (cL x) * _ = _
  unfold gDK
  simp only [gS_val m c q dy k v g h0 h1 h2 h3 h4, hq, ← EReal.coe_mul, coe_sum]
  rw [dK, Finset.sum_mul, Finset.sum_mul]
  refine congrArg _ (Finset.sum_congr rfl fun y _ => ?_)
  have h : Real.log 2 ≠ 0 := (Real.log_pos (by norm_num)).ne'
  show _ * (ofRows q (cH x) y (cD x) * _) * _ = _
  field_simp

theorem dq_end (r : Fin 8192) (x : Fin 3072) : (dat (arrs m c)).arrAt 4 (cf (F := Ideal)).N (ix2 r x)
    = if h : x.val < 1024 then (dQ (ofRows q (cH ⟨x.val, h⟩)) (ofHeads k (cH ⟨x.val, h⟩)) (ofHeads v (cH ⟨x.val, h⟩)) (ofRows dy (cH ⟨x.val, h⟩)) (ofGate g (cH ⟨x.val, h⟩)) r
        (cD ⟨x.val, h⟩) : EReal) else m ((c.tc : Thread nD τ).loc main_arg5) (ix2 r x) := by
  rw [arr4]
  show (if x.val / 128 < 8 then gDQ (arrs m c) (cH (cW x)) r (cL (cW x)) * ((0.125 : ℝ) : EReal) else arrs m c 4 (ix2 r x)) = _
  by_cases h : x.val < 1024
  · rw [if_pos (by omega), dif_pos h]
    have e : cW x = ⟨x.val, h⟩ := Fin.ext (Nat.mod_eq_of_lt h)
    rw [e]
    have hk := fun y => k_low m c k g h1 h3 (cH ⟨x.val, h⟩) y (cL ⟨x.val, h⟩) (by show x.val % 64 < 64; omega)
    unfold gDQ
    simp only [gS_val m c q dy k v g h0 h1 h2 h3 h4, hk, ← EReal.coe_mul, coe_sum]
    rfl
  · rw [if_neg (by omega), dif_neg h]
    exact congrFun (V_dh m c) (ix2 r x)

theorem gates_end (r : Fin 8192) (H : Fin 16) :
    dcumOf (F := Ideal) ((dat (arrs m c)).arrAt 8 (cf (F := Ideal)).N) ((dat (arrs m c)).arrAt 7 (cf (F := Ideal)).N) (ix2 r H)
    = (dG (ofRows q H) (ofHeads k H) (ofHeads v H) (ofRows dy H) (ofGate g H) r : EReal) := by
  refine (dcum_at _ _ r H).trans ?_
  rw [arr8, arr7]
  show gDQ (arrs m c) (cH ⟨64 * H.val + 3, _⟩) r (cU ⟨64 * H.val + 3, _⟩) - gDK (arrs m c) (cH ⟨64 * H.val, _⟩) r (cU ⟨64 * H.val, _⟩) = _
  have e1 : cH ⟨64 * H.val + 3, by omega⟩ = H := Fin.ext (by show (64 * H.val + 3) / 64 = H.val; omega)
  have e2 : cH ⟨64 * H.val, by omega⟩ = H := Fin.ext (by show (64 * H.val) / 64 = H.val; omega)
  rw [e1, e2]
  have hk := fun y => k_one m c k g h1 h3 H y (cU ⟨64 * H.val + 3, by omega⟩) (by show 64 + (64 * H.val + 3) % 64 = 67; omega)
  have hq := fun y => q_one m c q k g h0 h1 h3 H y (cU ⟨64 * H.val, by omega⟩) (by show 64 + (64 * H.val) % 64 = 64; omega)
  unfold gDQ gDK
  simp only [gS_val m c q dy k v g h0 h1 h2 h3 h4, hk, hq, ← EReal.coe_mul, mul_one, coe_sum, ← EReal.coe_sub]
  rfl
end
end Cert.Fox
end
-- ==== Proof.RefVal.lean ====
/-
  The reference's results where the arguments are real numbers.
-/
module
public import proofs.«01_k».proof.Proof.Gen.ReferenceIdeal.Run
public import proofs.«01_k».proof.Proof.Gen.ReferenceIdeal.Read
public import proofs.«01_k».proof.Proof.Real
@[expose] public section
noncomputable section
namespace Cert.Fox.Reference
open Cert.ReferenceIdeal Cert.ReferenceIdeal.Gen Cert.ReferenceIdeal.Read
open Idealize.ShloMosaic

/-- The powers of a row's differences from a value not below minus infinity. -/
theorem powers_of (s : FVec Ideal S16x8192x8192 .f32) (x : FVec Ideal S16x8192 .f32) (H : Fin 16) (r c : Fin 8192) :
    (Host.exp (subf s (broadcastInDim S16x8192x8192 ![0, 1, 2] bcast_S16x8192x1_S16x8192x8192_0_1_2 (broadcastInDim S16x8192x1 ![0, 1] bcast_S16x8192_S16x8192x1_0_1
      (maximumf (broadcastInDim S16x8192 ![] bcast_S_S16x8192 (constant S_ .f32 0xFF800000#32)) x)))) : FVec Ideal S16x8192x8192 .f32) (ix3 H r c)
      = Ideal.exp (s (ix3 H r c) - max (Ideal.ofBits FTy.f32 0xFF800000#32) (x (ix2 H r))) := by
  pointwise []

section
variable (q dy : S8192x1024.Idx → ℝ) (k v : S8192x16x64.Idx → ℝ) (g : S8192x16.Idx → ℝ) (H : Fin 16) (r c : Fin 8192)

theorem mask_val {α : Type} (x y : α) : Scalar.select (val_main_v20_1 (F := Ideal) (ix3 H r c)) x y = if c.val ≤ r.val then x else y := by
  have h : val_main_v20_1 (F := Ideal) (ix3 H r c) = IntOp.cmpi CmpIPredicate.sle (BitVec.ofNat 32 c.val) (BitVec.ofNat 32 r.val) := by
    pointwise [val_main_v20_1, val_main_v19, val_main_v18, val_main_v17, val_main_v16, val_main_v15, val_main_v14, val_main_v13, val_main_v12]
  rw [h, select_le _ _ c.isLt r.isLt]

theorem scores_val : val_main_v20_0 (F := Ideal) (reals q) (reals k) (reals g) (ix3 H r c) = msk (ofRows q H) (ofHeads k H) (ofGate g H) (ofGate g H r) r c := by
  have h : val_main_v20_0 (F := Ideal) (reals q) (reals k) (reals g) (ix3 H r c) = Scalar.select (IntOp.cmpi CmpIPredicate.sle (BitVec.ofNat 32 c.val) (BitVec.ofNat 32 r.val))
      ((∑ d : Fin 64, reals q (ix2 r ⟨H.val * 64 + d.val, by omega⟩) * reals k (ix3 c H d)) * Ideal.ofBits FTy.f32 0x3E000000#32 + (reals g (ix2 r H) - reals g (ix2 c H)))
      (Ideal.ofBits FTy.f32 0xFF800000#32) := by
    pointwise [val_main_v20_0, val_main_v20_1, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_call0_v2, val_main_call0_v0, val_main_cst_0]
    rfl
  rw [h, select_le _ _ c.isLt r.isLt, eighth, neg_inf]
  unfold msk
  split
  · simp only [reals, ← EReal.coe_mul, ← EReal.coe_sub, ← EReal.coe_add, coe_sum]
    refine congrArg _ ?_
    unfold score
    show _ + (ofGate g H r - ofGate g H c) = _
    rw [sub_add_eq_add_sub, add_sub_assoc]
    rfl
  · rfl

theorem max_val : ∃ M : ℝ, val_main_v21 (F := Ideal) (reals q) (reals k) (reals g) (ix2 H r) = (M : EReal) := by
  have h : val_main_v21 (F := Ideal) (reals q) (reals k) (reals g) (ix2 H r)
      = Finset.univ.fold max (Ideal.ofBits FTy.f32 0xFF800000#32) (fun x => val_main_v20_0 (F := Ideal) (reals q) (reals k) (reals g) (ix3 H r x)) := by
    pointwise [val_main_v21, val_main_cst_1]
  rw [h, neg_inf]
  simp only [scores_val]
  exact max_real _ _ _ _ r

theorem dwt_val : val_main_v54 (F := Ideal) (reals v) (reals dy) (ix3 H r c) = (dwt (ofHeads v H) (ofRows dy H) r c : EReal) := by
  have h : val_main_v54 (F := Ideal) (reals v) (reals dy) (ix3 H r c) = ∑ x : Fin 64, reals dy (ix2 r ⟨H.val * 64 + x.val, by omega⟩) * reals v (ix3 c H x) := by
    pointwise [val_main_v54, val_main_v53, val_main_v52]
  rw [h]
  simp only [reals, ← EReal.coe_mul, coe_sum]
  exact congrArg _ (Finset.sum_congr rfl fun d _ => mul_comm _ _)

/-- The shift of a row's scores. -/
def shift (M : ℝ) : ℝ := ofGate g H r - M

variable (M : ℝ) (hM : val_main_v21 (F := Ideal) (reals q) (reals k) (reals g) (ix2 H r) = (M : EReal))
include hM

theorem powers_val : val_main_v41 (F := Ideal) (reals q) (reals k) (reals g) (ix3 H r c) = (pow (ofRows q H) (ofHeads k H) (ofGate g H) (shift g H r M) r c : EReal) := by
  refine (powers_of (val_main_v20_0 (F := Ideal) (reals q) (reals k) (reals g)) (val_main_v21 (F := Ideal) (reals q) (reals k) (reals g)) H r c).trans ?_
  rw [hM, scores_val, neg_inf, max_eq_right bot_le, exp_msk]
  rfl

theorem tot_val : val_main_v42 (F := Ideal) (reals q) (reals k) (reals g) (ix2 H r) = (tot (ofRows q H) (ofHeads k H) (ofGate g H) (shift g H r M) r : EReal) := by
  have h : val_main_v42 (F := Ideal) (reals q) (reals k) (reals g) (ix2 H r) = ∑ x, val_main_v41 (F := Ideal) (reals q) (reals k) (reals g) (ix3 H r x) := by
    pointwise [val_main_v42, val_main_cst_9]
  rw [h]
  simp only [powers_val q k g H r _ M hM, coe_sum]
  rfl

theorem tot3_val : val_main_v43 (F := Ideal) (reals q) (reals k) (reals g) (ix3 H r 0) = (tot (ofRows q H) (ofHeads k H) (ofGate g H) (shift g H r M) r : EReal) := by
  have h : val_main_v43 (F := Ideal) (reals q) (reals k) (reals g) (ix3 H r 0) = val_main_v42 (F := Ideal) (reals q) (reals k) (reals g) (ix2 H r) := by
    pointwise [val_main_v43]
  rw [h, tot_val q k g H r M hM]

theorem wgt_val : val_main_v45 (F := Ideal) (reals q) (reals k) (reals g) (ix3 H r c) = (wgt (ofRows q H) (ofHeads k H) (ofGate g H) r c : EReal) := by
  have h : val_main_v45 (F := Ideal) (reals q) (reals k) (reals g) (ix3 H r c)
      = Ideal.div (val_main_v41 (F := Ideal) (reals q) (reals k) (reals g) (ix3 H r c)) (val_main_v42 (F := Ideal) (reals q) (reals k) (reals g) (ix2 H r)) := by
    pointwise [val_main_v45, val_main_v44, val_main_v43]
  rw [h, powers_val q k g H r c M hM, tot_val q k g H r M hM, Ideal.div_coe (tot_pos _ _ _ _ _).ne', ← EReal.coe_mul, wgt_shift]

theorem twice_val : val_main_v48 (F := Ideal) (reals q) (reals k) (reals g) (ix3 H r 0)
    = ((1 / (tot (ofRows q H) (ofHeads k H) (ofGate g H) (shift g H r M) r * tot (ofRows q H) (ofHeads k H) (ofGate g H) (shift g H r M) r) : ℝ) : EReal) := by
  have h : val_main_v48 (F := Ideal) (reals q) (reals k) (reals g) (ix3 H r 0)
      = Ideal.div 1 (val_main_v42 (F := Ideal) (reals q) (reals k) (reals g) (ix2 H r) * val_main_v42 (F := Ideal) (reals q) (reals k) (reals g) (ix2 H r)) := by
    pointwise [val_main_v48, val_main_v47, val_main_v46, val_main_v43, val_main_cst_10]
  have h0 := (tot_pos (ofRows q H) (ofHeads k H) (ofGate g H) (shift g H r M) r).ne'
  rw [h, tot_val q k g H r M hM, ← EReal.coe_mul, Ideal.div_coe (mul_ne_zero h0 h0), one_mul]

theorem dsc_val' : val_main_v69 (F := Ideal) (reals q) (reals k) (reals v) (reals g) (reals dy) (ix3 H r c)
    = (dsc (ofRows q H) (ofHeads k H) (ofHeads v H) (ofRows dy H) (ofGate g H) r c : EReal) := by
  have h : val_main_v69 (F := Ideal) (reals q) (reals k) (reals v) (reals g) (reals dy) (ix3 H r c)
      = Scalar.select (val_main_v20_1 (F := Ideal) (ix3 H r c))
      ((Ideal.div (val_main_v54 (F := Ideal) (reals v) (reals dy) (ix3 H r c)) (val_main_v43 (F := Ideal) (reals q) (reals k) (reals g) (ix3 H r 0)) +
          ∑ _x : Fin 1, -∑ x, val_main_v54 (F := Ideal) (reals v) (reals dy) (ix3 H r x) * val_main_v48 (F := Ideal) (reals q) (reals k) (reals g) (ix3 H r 0) * val_main_v41 (F := Ideal) (reals q) (reals k) (reals g) (ix3 H r x)) *
        val_main_v41 (F := Ideal) (reals q) (reals k) (reals g) (ix3 H r c)) 0 := by
    pointwise [val_main_v69, val_main_v68, val_main_v67, val_main_v66, val_main_v65, val_main_v64, val_main_v63, val_main_v62, val_main_v61, val_main_v60, val_main_v59, val_main_v58, val_main_v57, val_main_cst_11, val_main_cst_12, val_main_call1_v0, val_main_call1_cst]
  rw [h, mask_val, Fin.sum_univ_one, tot3_val q k g H r M hM]
  simp only [powers_val q k g H r _ M hM, twice_val q k g H r M hM, dwt_val, Ideal.div_coe (tot_pos _ _ _ _ _).ne', ← EReal.coe_mul, coe_sum, ← EReal.coe_neg, ← EReal.coe_add]
  rw [dsc_shift]
  split
  · rfl
  · rename_i h'
    rw [dsc, wgt_unseen _ _ _ _ _ h', zero_mul, EReal.coe_zero]
end

section
variable (q dy : S8192x1024.Idx → ℝ) (k v : S8192x16x64.Idx → ℝ) (g : S8192x16.Idx → ℝ)

theorem dsc_val (H : Fin 16) (r c : Fin 8192) : val_main_v69 (F := Ideal) (reals q) (reals k) (reals v) (reals g) (reals dy) (ix3 H r c)
    = (dsc (ofRows q H) (ofHeads k H) (ofHeads v H) (ofRows dy H) (ofGate g H) r c : EReal) := by
  obtain ⟨M, hM⟩ := max_val q k g H r
  exact dsc_val' q dy k v g H r c M hM

/-- The head and the lane of a column. -/
def hd (x : Fin 1024) : Fin 16 := ⟨x.val / 64, by omega⟩
def ln (x : Fin 1024) : Fin 64 := ⟨x.val % 64, by omega⟩

theorem ofRows_at (q : S8192x1024.Idx → ℝ) (r : Fin 8192) (x : Fin 1024) : q (ix2 r x) = ofRows q (hd x) r (ln x) :=
  congrArg q (congrArg (ix2 r) (Fin.ext (by show x.val = x.val / 64 * 64 + x.val % 64; omega)))

theorem gates_val (r : Fin 8192) (H : Fin 16) : val_main_v79 (F := Ideal) (reals q) (reals k) (reals v) (reals g) (reals dy) (ix2 r H)
    = (dG (ofRows q H) (ofHeads k H) (ofHeads v H) (ofRows dy H) (ofGate g H) r : EReal) := by
  have h : val_main_v79 (F := Ideal) (reals q) (reals k) (reals v) (reals g) (reals dy) (ix2 r H)
      = ∑ _x : Fin 1, ∑ x, -val_main_v69 (F := Ideal) (reals q) (reals k) (reals v) (reals g) (reals dy) (ix3 H x r)
        + ∑ _x : Fin 1, ∑ x, val_main_v69 (F := Ideal) (reals q) (reals k) (reals v) (reals g) (reals dy) (ix3 H r x) := by
    pointwise [val_main_v79, val_main_v78, val_main_v77, val_main_v76, val_main_v75, val_main_v74, val_main_v73, val_main_v72, val_main_v71, val_main_v70, val_main_cst_13, val_main_cst_14, val_main_cst_15, val_main_cst_16]
  rw [h]
  simp only [dsc_val, Fin.sum_univ_one, ← EReal.coe_neg, coe_sum, ← EReal.coe_add]
  rw [dG, Finset.sum_neg_distrib, neg_add_eq_sub]

theorem dk_val (r : Fin 8192) (x : Fin 1024) : val_main_v91 (F := Ideal) (reals q) (reals k) (reals v) (reals g) (reals dy) (ix2 r x)
    = (dK (ofRows q (hd x)) (ofHeads k (hd x)) (ofHeads v (hd x)) (ofRows dy (hd x)) (ofGate g (hd x)) r (ln x) : EReal) := by
  have h : val_main_v91 (F := Ideal) (reals q) (reals k) (reals v) (reals g) (reals dy) (ix2 r x)
      = ∑ y, val_main_v69 (F := Ideal) (reals q) (reals k) (reals v) (reals g) (reals dy) (ix3 (hd x) y r) * Ideal.ofBits FTy.f32 0x3E000000#32 * reals q (ix2 y x) := by
    pointwise [val_main_v91, val_main_v90, val_main_v83, val_main_v82, val_main_v81, val_main_v80, val_main_cst_17, val_main_v0]
    rfl
  rw [h, eighth]
  simp only [dsc_val, reals, ← EReal.coe_mul, coe_sum]
  rw [dK, Finset.sum_mul]
  refine congrArg _ (Finset.sum_congr rfl fun y _ => ?_)
  rw [ofRows_at q y x]
  ring

theorem dv_val (r : Fin 8192) (x : Fin 1024) : val_main_v93 (F := Ideal) (reals q) (reals k) (reals g) (reals dy) (ix2 r x)
    = (dV (ofRows q (hd x)) (ofHeads k (hd x)) (ofRows dy (hd x)) (ofGate g (hd x)) r (ln x) : EReal) := by
  have h : val_main_v93 (F := Ideal) (reals q) (reals k) (reals g) (reals dy) (ix2 r x)
      = ∑ y, reals dy (ix2 y x) * val_main_v45 (F := Ideal) (reals q) (reals k) (reals g) (ix3 (hd x) y r) := by
    pointwise [val_main_v93, val_main_v92, val_main_v56, val_main_v55, val_main_v53, val_main_v52]
    rfl
  have hw : ∀ y, val_main_v45 (F := Ideal) (reals q) (reals k) (reals g) (ix3 (hd x) y r) = (wgt (ofRows q (hd x)) (ofHeads k (hd x)) (ofGate g (hd x)) y r : EReal) := fun y => by
    obtain ⟨M, hM⟩ := max_val q k g (hd x) y
    exact wgt_val q k g (hd x) y r M hM
  rw [h]
  simp only [hw, reals, ← EReal.coe_mul, coe_sum]
  rw [dV]
  refine congrArg _ (Finset.sum_congr rfl fun y _ => ?_)
  rw [ofRows_at dy y x]
  ring

theorem dq_val (x5 : FVec Ideal S8192x3072 .bf16) (r : Fin 8192) (x : Fin 3072) :
    val_main_v89 (F := Ideal) (reals q) (reals k) (reals v) (reals g) (reals dy) x5 (ix2 r x)
    = if h : x.val < 1024 then (dQ (ofRows q (hd ⟨x.val, h⟩)) (ofHeads k (hd ⟨x.val, h⟩)) (ofHeads v (hd ⟨x.val, h⟩)) (ofRows dy (hd ⟨x.val, h⟩)) (ofGate g (hd ⟨x.val, h⟩)) r
        (ln ⟨x.val, h⟩) : EReal) else x5 (ix2 r x) := by
  have h : val_main_v89 (F := Ideal) (reals q) (reals k) (reals v) (reals g) (reals dy) x5 (ix2 r x)
      = if h : x.val < 1024 then ∑ y, val_main_v69 (F := Ideal) (reals q) (reals k) (reals v) (reals g) (reals dy) (ix3 (hd ⟨x.val, h⟩) r y) * Ideal.ofBits FTy.f32 0x3E000000#32
          * reals k (ix3 y (hd ⟨x.val, h⟩) (ln ⟨x.val, h⟩)) else x5 (ix2 r ⟨1024 + (x.val - 1024), by omega⟩) := by
    pointwise [val_main_v89, val_main_v88, val_main_v87, val_main_v86, val_main_v85, val_main_v84, val_main_v81, val_main_v80, val_main_cst_17]
    rfl
  rw [h]
  split
  · rw [eighth]
    simp only [dsc_val, reals, ← EReal.coe_mul, coe_sum]
    rw [dQ, Finset.sum_mul]
    refine congrArg _ (Finset.sum_congr rfl fun y _ => ?_)
    rw [ofHeads]
    ring
  · refine congrArg x5 (congrArg (ix2 r) (Fin.ext ?_))
    show 1024 + (x.val - 1024) = x.val
    omega
end
end Cert.Fox.Reference
end
-- ==== Proof.Finite.lean ====
/-
  The precondition: every element of the first five arguments is a real number.
-/
module
public import proofs.«01_k».proof.Proof.Gen.Pre_finite
public import Idealize.ShloMosaic.Lib.ReduceAll
public import Idealize.ShloMosaic.Lib.WordArith
public import proofs.«01_k».proof.Proof.Real
@[expose] public section
noncomputable section
namespace Cert.Fox
open Cert.Pre_finite Cert.Pre_finite.Gen
open Idealize.ShloMosaic

/-- A conjunction of two bits that is one. -/
theorem both (a b : BitVec 1) (h : IntOp.andi a b = 1#1) : a = 1#1 ∧ b = 1#1 := by
  revert a b; decide

theorem top_bits : (Ideal.ofBits .f32 0x7F800000#32 : EReal) = ⊤ := by
  simp [Ideal.ofBits, Ideal.ieee]

/-- A value whose size is below infinity is real. -/
theorem real_of (x : EReal) (h : Ideal.cmp .olt (max x (-x)) (Ideal.ofBits .f32 0x7F800000#32) = 1#1) : x = ((x.toReal : ℝ) : EReal) := by
  rw [top_bits] at h
  have hl : max x (-x) < ⊤ := by
    by_contra hn
    rw [Ideal.cmp] at h
    simp [hn] at h
  have h1 : x ≠ ⊤ := fun e => by rw [e] at hl; simp at hl
  have h2 : x ≠ ⊥ := fun e => by rw [e] at hl; simp at hl
  exact (EReal.coe_toReal h1 h2).symm

instance : Subsingleton S_.Idx := ⟨fun _ _ => funext fun i => i.elim0⟩

theorem all_real {s : Shape} {axes : List (Fin s.rank)} (x : FVec Ideal s .f32) (hb : S_.BroadcastsInDim s (![] : Fin 0 → Fin s.rank)) (hr : s.ReducesTo axes S_) (hS : 0 < S_.numel)
    (h : Host.reduce IntOp.andi (cmpf .olt (Host.absf x) (broadcastInDim s ![] hb (constant S_ .f32 0x7F800000#32))) (constantI S_ 1 1#1) hr hS ix0 = 1#1) :
    ∃ y : s.Idx → ℝ, x = reals y :=
  ⟨fun i => (x i : EReal).toReal, funext fun i => real_of _ (Host.reduce_andi_all _ _ hr hS ix0 h i)⟩

theorem args_real (x0 : FVec Ideal S8192x1024 .f32) (x1 x2 : FVec Ideal S8192x16x64 .f32) (x3 : FVec Ideal S8192x16 .f32) (x4 : FVec Ideal S8192x1024 .f32)
    (x5 : FVec Ideal S8192x3072 .bf16) (h : fn x0 x1 x2 x3 x4 x5 = fun _ => 1#1) :
    (∃ y, x0 = reals y) ∧ (∃ y, x1 = reals y) ∧ (∃ y, x2 = reals y) ∧ (∃ y, x3 = reals y) ∧ (∃ y, x4 = reals y) := by
  have h := congrFun h ix0
  dsimp only [fn, fn_part1] at h
  obtain ⟨h, h4⟩ := both _ _ h
  obtain ⟨h, h3⟩ := both _ _ h
  obtain ⟨h, h2⟩ := both _ _ h
  obtain ⟨h0, h1⟩ := both _ _ h
  exact ⟨all_real _ _ _ _ h0, all_real _ _ _ _ h1, all_real _ _ _ _ h2, all_real _ _ _ _ h3, all_real _ _ _ _ h4⟩
end Cert.Fox
end
-- ==== Proof.Alg.lean ====
/-
  Where the arguments are real numbers the kernel's results are the reference's.
-/
module

public import proofs.«01_k».proof.Defs
public import proofs.«01_k».proof.Proof.Ends
public import proofs.«01_k».proof.Proof.RefVal
public import proofs.«01_k».proof.Proof.Finite

@[expose] public section

noncomputable section

namespace Cert.Fox

open Idealize.ShloMosaic Idealize.ShloMosaic.TcCoe Idealize.SL.Sem
open Cert.KernelIdeal Cert.KernelIdeal.Gen
open Cert.ReferenceIdeal.Read

theorem pair {a b : ℕ} (i : (⟨2, ![a, b]⟩ : Shape).Idx) : ∃ (x : Fin a) (y : Fin b), i = ix2 x y :=
  ⟨i 0, i 1, funext fun d => match d with | 0 => rfl | 1 => rfl⟩

theorem hd_eq (x : Fin 1024) : Reference.hd x = cH x := rfl
theorem ln_eq (x : Fin 1024) : Reference.ln x = cD x := rfl

section
variable (m : (ℓ : Loc nD τ sig) → Buf (Elt Ideal) ℓ) (c : Dev nD)
  (x0 x4 : FVec Ideal S8192x1024 .f32) (x1 x2 : FVec Ideal S8192x16x64 .f32) (x3 : FVec Ideal S8192x16 .f32) (x5 : FVec Ideal S8192x3072 .bf16)
  (e0 : x0 = m ((c.tc : Thread nD τ).loc main_arg0)) (e1 : x1 = m ((c.tc : Thread nD τ).loc main_arg1))
  (e2 : x2 = m ((c.tc : Thread nD τ).loc main_arg2)) (e3 : x3 = m ((c.tc : Thread nD τ).loc main_arg3))
  (e4 : x4 = m ((c.tc : Thread nD τ).loc main_arg4)) (e5 : x5 = m ((c.tc : Thread nD τ).loc main_arg5))
  (h : Cert.Pre_finite.fn (F := Ideal) x0 x1 x2 x3 x4 x5 = fun _ => 1#1)
include e0 e1 e2 e3 e4 h

/-! The four results of the two programs, on one device's arguments. -/

include e5 in
theorem dq_same : val_main_v89 (F := Ideal) x0 x1 x2 x3 x4 x5 = (dat (arrs m c)).arrAt 4 (cf (F := Ideal)).N := by
  obtain ⟨⟨q, rfl⟩, ⟨k, rfl⟩, ⟨v, rfl⟩, ⟨g, rfl⟩, ⟨dy, rfl⟩⟩ := args_real _ _ _ _ _ _ h
  funext i
  obtain ⟨r, x, rfl⟩ := pair (a := 8192) (b := 3072) i
  have a := Reference.dq_val q dy k v g x5 r x
  have b := dq_end m c q dy k v g e0.symm e1.symm e2.symm e3.symm e4.symm r x
  rw [← e5] at b
  simp only [hd_eq, ln_eq] at a
  rw [a, b]

theorem dk_same : val_main_v91 (F := Ideal) x0 x1 x2 x3 x4 = (dat (arrs m c)).arrAt 5 (cf (F := Ideal)).N := by
  obtain ⟨⟨q, rfl⟩, ⟨k, rfl⟩, ⟨v, rfl⟩, ⟨g, rfl⟩, ⟨dy, rfl⟩⟩ := args_real _ _ _ _ _ _ h
  funext i
  obtain ⟨r, x, rfl⟩ := pair (a := 8192) (b := 1024) i
  have a := Reference.dk_val q dy k v g r x
  have b := dk_end m c q dy k v g e0.symm e1.symm e2.symm e3.symm e4.symm r x
  rw [hd_eq, ln_eq] at a
  rw [a, b]

theorem dv_same : val_main_v93 (F := Ideal) x0 x1 x3 x4 = (dat (arrs m c)).arrAt 6 (cf (F := Ideal)).N := by
  obtain ⟨⟨q, rfl⟩, ⟨k, rfl⟩, ⟨v, rfl⟩, ⟨g, rfl⟩, ⟨dy, rfl⟩⟩ := args_real _ _ _ _ _ _ h
  funext i
  obtain ⟨r, x, rfl⟩ := pair (a := 8192) (b := 1024) i
  have a := Reference.dv_val q dy k g r x
  have b := dv_end m c q dy k v g e0.symm e1.symm e2.symm e3.symm e4.symm r x
  rw [hd_eq, ln_eq] at a
  rw [a, b]

theorem gates_same : val_main_v79 (F := Ideal) x0 x1 x2 x3 x4
    = dcumOf (F := Ideal) ((dat (arrs m c)).arrAt 8 (cf (F := Ideal)).N) ((dat (arrs m c)).arrAt 7 (cf (F := Ideal)).N) := by
  obtain ⟨⟨q, rfl⟩, ⟨k, rfl⟩, ⟨v, rfl⟩, ⟨g, rfl⟩, ⟨dy, rfl⟩⟩ := args_real _ _ _ _ _ _ h
  funext i
  obtain ⟨r, H, rfl⟩ := pair (a := 8192) (b := 16) i
  rw [Reference.gates_val q dy k v g r H, gates_end m c q dy k v g e0.symm e1.symm e2.symm e3.symm e4.symm r H]
end

/-- The precondition on the reference's copy of the arguments. -/
theorem pre_of (m : (ℓ : Loc nD τ sig) → Buf (Elt Ideal) ℓ) (c : Dev nD)
    (x0 x4 : FVec Ideal S8192x1024 .f32) (x1 x2 : FVec Ideal S8192x16x64 .f32) (x3 : FVec Ideal S8192x16 .f32) (x5 : FVec Ideal S8192x3072 .bf16)
    (e0 : x0 = m ((c.tc : Thread nD τ).loc main_arg0)) (e1 : x1 = m ((c.tc : Thread nD τ).loc main_arg1))
    (e2 : x2 = m ((c.tc : Thread nD τ).loc main_arg2)) (e3 : x3 = m ((c.tc : Thread nD τ).loc main_arg3))
    (e4 : x4 = m ((c.tc : Thread nD τ).loc main_arg4)) (e5 : x5 = m ((c.tc : Thread nD τ).loc main_arg5))
    (h : Cert.Pre_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) :
    Cert.Pre_finite.fn (F := Ideal) x0 x1 x2 x3 x4 x5 = fun _ => 1#1 := by
  subst e0 e1 e2 e3 e4 e5
  exact h

set_option maxHeartbeats 2000000 in
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (dat (arrs m c)).arrAt 4 (cf (F := Ideal)).N, fun c => (dat (arrs m c)).arrAt 5 (cf (F := Ideal)).N,
    fun c => (dat (arrs m c)).arrAt 6 (cf (F := Ideal)).N,
    fun c => dcumOf (F := Ideal) ((dat (arrs m c)).arrAt 8 (cf (F := Ideal)).N) ((dat (arrs m c)).arrAt 7 (cf (F := Ideal)).N), ?_, ?_⟩
  · exact (θ_run _ _ _).mono (fun _ h c => ⟨post_arr m h.1 c 4, post_arr m h.1 c 5, post_arr m h.1 c 6, post_dcum m h.1 c,
      post_arg m h.1 c _ (by decide) (by decide), post_arg m h.1 c _ (by decide) (by decide), post_arg m h.1 c _ (by decide) (by decide),
      post_arg m h.1 c _ (by decide) (by decide), post_arg m h.1 c _ (by decide) (by decide), post_arg m h.1 c _ (by decide) (by decide)⟩) (run_post m g)
  · refine (θ_run _ _ _).mono (fun _ h c => ?_) (Cert.ReferenceIdeal.Value.run (F := Ideal) m' g')
    obtain ⟨r0, r1, r2, r3, rest⟩ := h c
    obtain ⟨a0, a1, a2, a3, a4, a5⟩ := ha c
    have hf := pre_of m c _ _ _ _ _ _ a0 a1 a2 a3 a4 a5 (hp c)
    exact ⟨r0.trans ((val_main_v89_eq m' c).trans (dq_same m c _ _ _ _ _ _ a0 a1 a2 a3 a4 a5 hf)),
      r1.trans ((val_main_v91_eq m' c).trans (dk_same m c _ _ _ _ _ _ a0 a1 a2 a3 a4 hf)),
      r2.trans ((val_main_v93_eq m' c).trans (dv_same m c _ _ _ _ _ _ a0 a1 a2 a3 a4 hf)),
      r3.trans ((val_main_v79_eq m' c).trans (gates_same m c _ _ _ _ _ _ a0 a1 a2 a3 a4 hf)), rest⟩

end Cert.Fox

end
-- ==== Proof.Gx.lean ====
/-
  The gradient of layer 0's input: the call that multiplies the projection's gradient by the weights, against the derivative.
-/
module
public import proofs.«01_k».proof.Defs
public import proofs.«01_k».proof.Proof.Gen.KernelGxIdeal.Value
public import proofs.«01_k».proof.Proof.Gen.ReferenceGxIdeal.Run
public import proofs.«01_k».proof.Proof.Gen.KernelGx.Frame
public import Idealize.ShloMosaic.Lib.Quiescent
public import Idealize.ShloMosaic.Lib.Pointwise
public import Idealize.ShloMosaic.Lib.Pipeline.ValueKit.Partial
@[expose] public section
noncomputable section
namespace Cert.Gx
open Cert.KernelGxIdeal Cert.KernelGxIdeal.Gen
open Idealize.ShloMosaic Idealize.ShloMosaic.TcCoe Idealize.SL.Sem

/-- The residual's factor. -/
abbrev alpha : EReal := Ideal.ofBits .f32 0x3FB504F3#32

/-- One element of the input's gradient: the row of the projection's gradient times the row of the weights, and the residual's part. -/
def grad (dh : S8192x3072.Idx → EReal) (w : S1024x3072.Idx → EReal) (dz : S8192x1024.Idx → EReal) (i : S8192x1024.Idx) : EReal :=
  ∑ j : Fin 3072, dh (ix2 (i 0) j) * w (ix2 (i 1) j) + alpha * dz i

theorem pay_at (x0 : Vec Ideal S512x3072 .bf16) (x1 : Vec Ideal S1024x3072 .bf16) (x2 : Vec Ideal S512x1024 .f32) (a : Fin 512) (l : Fin 1024) :
    k0_pay1 (F := Ideal) x0 x1 x2 (ix2 a l) = ∑ j : Fin 3072, x0 (ix2 a j) * x1 (ix2 l j) + alpha * x2 (ix2 a l) := by
  pointwise [k0_pay1]

theorem cov : ((cfg0).win 3).Covers := by decide +kernel
theorem hz : (![0, 0] : Fin 2 → Nat) = fun _ => 0 := funext fun a => by fin_cases a <;> rfl
theorem ix0 : ∀ t : Fin cfg0.N, win0_0.index t = ![t.val, 0] := by decide +kernel
theorem ix1 : ∀ t : Fin cfg0.N, win0_1.index t = ![0, 0] := by decide +kernel
theorem ix2' : ∀ t : Fin cfg0.N, win0_2.index t = ![t.val, 0] := by decide +kernel
theorem ix3' : ∀ t : Fin cfg0.N, win0_3.index t = ![t.val, 0] := by decide +kernel

variable (m : (ℓ : Loc nD τ sig) → Buf (Elt Ideal) ℓ) (c : Dev nD)

/-- The result array at the end. -/
theorem arr : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ cov fun t hf y => ?_
  rw [after0_3]
  obtain ⟨a, l, rfl⟩ : ∃ (a : Fin 512) (l : Fin 1024), y = ix2 a l := ⟨y 0, y 1, funext fun d => match d with | 0 => rfl | 1 => rfl⟩
  unfold out0_3
  rw [View.canon_unit_zero hz, View.ld_unit_zero hz, View.ld_unit_zero hz, View.ld_unit_zero hz]
  refine (pay_at _ _ _ a l).trans ?_
  refine congrArg₂ (· + ·) (Finset.sum_congr rfl fun j _ => congrArg₂ (· * ·) ?_ ?_) (congrArg (alpha * ·) ?_)
  · refine congrArg (m ((c : Thread nD τ).loc main_arg0)) (funext fun d => Fin.ext ?_)
    match d with
    | 0 => exact (Pipeline.Window.rect_emb_val (cfg0.win 0) t (ix2 a j) (0 : Fin 2)).trans ((congrArg (· * 512 + a.val) ((congrFun (ix0 t) 0).trans (congrFun (ix3' t) 0).symm)).trans
        (Pipeline.Window.rect_emb_val (cfg0.win 3) t (ix2 a l) (0 : Fin 2)).symm)
    | 1 => exact (Pipeline.Window.rect_emb_val (cfg0.win 0) t (ix2 a j) (1 : Fin 2)).trans ((congrArg (· * 3072 + j.val) (congrFun (ix0 t) 1)).trans (by show 0 * 3072 + j.val = j.val; omega))
  · refine congrArg (m ((c : Thread nD τ).loc main_arg1)) (funext fun d => Fin.ext ?_)
    match d with
    | 0 => exact (Pipeline.Window.rect_emb_val (cfg0.win 1) t (ix2 l j) (0 : Fin 2)).trans ((congrArg (· * 1024 + l.val) ((congrFun (ix1 t) 0).trans (congrFun (ix3' t) 1).symm)).trans
        (Pipeline.Window.rect_emb_val (cfg0.win 3) t (ix2 a l) (1 : Fin 2)).symm)
    | 1 => exact (Pipeline.Window.rect_emb_val (cfg0.win 1) t (ix2 l j) (1 : Fin 2)).trans ((congrArg (· * 3072 + j.val) (congrFun (ix1 t) 1)).trans (by show 0 * 3072 + j.val = j.val; omega))
  · refine congrArg (m ((c : Thread nD τ).loc main_arg2)) (funext fun d => Fin.ext ?_)
    match d with
    | 0 => exact (Pipeline.Window.rect_emb_val (cfg0.win 2) t (ix2 a l) (0 : Fin 2)).trans ((congrArg (· * 512 + a.val) ((congrFun (ix2' t) 0).trans (congrFun (ix3' t) 0).symm)).trans
        (Pipeline.Window.rect_emb_val (cfg0.win 3) t (ix2 a l) (0 : Fin 2)).symm)
    | 1 => exact (Pipeline.Window.rect_emb_val (cfg0.win 2) t (ix2 a l) (1 : Fin 2)).trans ((congrArg (· * 1024 + l.val) ((congrFun (ix2' t) 1).trans (congrFun (ix3' t) 1).symm)).trans
        (Pipeline.Window.rect_emb_val (cfg0.win 3) t (ix2 a l) (1 : Fin 2)).symm)

/-- What the reference computes of the same arguments. -/
theorem ref (x0 : FVec Ideal S8192x3072 .bf16) (x1 : FVec Ideal S1024x3072 .bf16) (x2 : FVec Ideal S8192x1024 .f32) :
    addf (mulf (broadcastInDim ReferenceGxIdeal.S8192x1024 ![] ReferenceGxIdeal.Gen.facts.bcast_S_S8192x1024 (constant (F := Ideal) ReferenceGxIdeal.S_ .f32 0x3FB504F3#32)) x2)
      (Host.dotGeneral ReferenceGxIdeal.dot_S8192x3072_S1024x3072_S8192x1024_1_1_0_0_n_n none (extf .f32 x0 ReferenceGxIdeal.Gen.facts.bitsLt_bf16_f32) (extf .f32 x1 ReferenceGxIdeal.Gen.facts.bitsLt_bf16_f32))
      = grad x0 x1 x2 := by
  funext i
  obtain ⟨a, l, rfl⟩ : ∃ (a : Fin 8192) (l : Fin 1024), i = ix2 a l := ⟨i 0, i 1, funext fun d => match d with | 0 => rfl | 1 => rfl⟩
  pointwise [grad]
  exact add_comm _ _

/-- The call computes the derivative. -/
theorem algebraic : Cert.algebraic_KernelGxIdeal_ReferenceGxIdeal (hKernelGxIdeal := Cert.KernelGxIdeal.Gen.facts)
    (hReferenceGxIdeal := Cert.ReferenceGxIdeal.Gen.facts) := by
  intro m g m' g' _ ha
  refine ⟨fun c => grad (m ((c : Thread nD τ).loc main_arg0)) (m ((c : Thread nD τ).loc main_arg1)) (m ((c : Thread nD τ).loc main_arg2)), ?_, ?_⟩
  · exact (θ_run _ _ _).mono (fun _ h c => ⟨(h c).1.trans (arr m c), (h c).2⟩) (KernelGxIdeal.Value.run_blocks m g)
  · refine (θ_run _ _ _).mono (fun _ h c => ⟨(h c).1.trans ((ref _ _ _).trans ?_), (h c).2⟩) (ReferenceGxIdeal.Value.run (F := Ideal) m' g')
    rw [(ha c).1, (ha c).2.1, (ha c).2.2]

theorem frame_kernel : Cert.quiescent_KernelGx (hKernelGx := Cert.KernelGx.Gen.facts) :=
  fun m g _ => KernelGx.Gen.frame m g
theorem frame_ideal : Cert.quiescent_KernelGxIdeal (hKernelGxIdeal := Cert.KernelGxIdeal.Gen.facts) := fun m g _ => KernelGxIdeal.Gen.frame m g
theorem frame_reference : Cert.quiescent_ReferenceGxIdeal (hReferenceGxIdeal := Cert.ReferenceGxIdeal.Gen.facts) := by
  intro m g _
  exact (θ_run Cert.ReferenceGxIdeal.defs _ _).mono (fun _ h => ⟨fun c => (h c).2, sem_eq_zero_of_no_sems rfl _⟩) (ReferenceGxIdeal.Value.run (F := Ideal) m g)

end Cert.Gx
end
-- ==== Proof.Dwin.lean ====
/-
  The gradient of layer 0's projection weights: the call accumulates one block of columns over four chunks of rows, against the derivative.
-/
module
public import proofs.«01_k».proof.Defs
public import proofs.«01_k».proof.Proof.Read
public import proofs.«01_k».proof.Proof.Gen.KernelDwin.Frame
public import proofs.«01_k».proof.Proof.Gen.KernelDwinIdeal.Value
public import proofs.«01_k».proof.Proof.Gen.ReferenceDwinIdeal.Run
public import Idealize.ShloMosaic.Lib.Quiescent
public import Idealize.ShloMosaic.Lib.Pointwise
public import Idealize.ShloMosaic.Lib.Pipeline.ValueKit.Partial
@[expose] public section
noncomputable section
namespace Cert.Dwin
open Cert.KernelDwinIdeal Cert.KernelDwinIdeal.Gen Cert.KernelDwinIdeal.Value
open Idealize.ShloMosaic Idealize.ShloMosaic.TcCoe Idealize.SL.Sem

theorem hz : (![0, 0] : Fin 2 → Nat) = fun _ => 0 := funext fun a => by fin_cases a <;> rfl

/-! ## Whole stores and loads -/

section
variable {sig : RefSig} {κ : Kind} {sp : Space} {s : Shape} {e : EltTy} {Val : EltTy → Type}

/-- A store of the whole block leaves what was stored. -/
theorem store_all (v : View sig κ sp s e) (f : v.ty.Contents Val) {off : Fin s.rank → ℕ} (h : off = fun _ => 0) (inb : ∀ a, off a + s.size a ≤ s.size a)
    (w : s.Idx → Val e) (L : List (View.Piece Val s e)) :
    v.read Val (v.writes Val f (⟨Rect.unit off s.size inb, w⟩ :: L)) = w :=
  (Fox.store_cons v f inb w L).trans (Fox.put_all off (congrFun h) _ w)

/-- A load of the whole block reads it. -/
theorem load_all (v : View sig κ sp s e) (f : v.ty.Contents Val) {off : Fin s.rank → ℕ} (h : off = fun _ => 0) (inb : ∀ a, off a + s.size a ≤ s.size a) :
    v.readAt Val (Rect.unit off s.size inb).toLoadRect f = v.read Val f := by
  subst h
  refine (Fox.load_any v f inb).trans (funext fun y => ?_)
  unfold VecWindow.window
  exact congrArg _ (funext fun a => Fin.ext (by show 0 + 1 * (y a).val = (y a).val; omega))

theorem map3 {A B C D : Type} (f : A → B → C → D) {a a' : A} {b b' : B} {c c' : C} (ha : a = a') (hb : b = b') (hc : c = c') : f a b c = f a' b' c' := by
  rw [ha, hb, hc]
end

/-! ## What one point leaves -/

theorem sout0_A_0_eq (c : Dev nD) (i : grid0.Coords) (arg3 : Memref sig .tc .vmem S1024x2048 .bf16) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S1024x1536 .f32) (harg6 : arg6.IsWhole) (hc0 : cond0_0 i) (hc1 : ¬cond0_1 i) (hc2 : ¬cond0_2 i)
    (x0 : Vec Ideal S1024x2048 .bf16) (x1 : Vec Ideal S2048x1536 .bf16) :
    sout0_A_0 c i arg3 harg3 arg4 harg4 arg5 harg5 arg6 harg6 hc0 hc1 hc2 x0 x1 = k0_pay2 x0 x1 := by
  unfold sout0_A_0 kernelRun0_A
  dsimp only
  exact (store_all VS0_0 _ hz _ _ _).trans (congrArg₂ k0_pay2 ((load_all arg3.view _ hz _).trans (harg3.read_unread x0)) ((load_all arg4.view _ hz _).trans (harg4.read_unread x1)))

theorem sout0_B_0_eq (c : Dev nD) (i : grid0.Coords) (arg3 : Memref sig .tc .vmem S1024x2048 .bf16) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : cond0_1 i) (hc2 : ¬cond0_2 i)
    (x0 : Vec Ideal S1024x2048 .bf16) (x1 : Vec Ideal S2048x1536 .bf16) (xs0 : Vec Ideal S1024x1536 .f32) :
    sout0_B_0 c i arg3 harg3 arg4 harg4 arg5 harg5 arg6 harg6 hc0 hc1 hc2 x0 x1 xs0 = k0_pay3 x0 x1 xs0 := by
  unfold sout0_B_0 kernelRun0_B
  dsimp only
  exact (store_all VS0_0 _ hz _ _ _).trans (map3 k0_pay3 ((load_all arg3.view _ hz _).trans (harg3.read_unread x0)) ((load_all arg4.view _ hz _).trans (harg4.read_unread x1)) ((load_all arg6.view _ hz _).trans (harg6.read_unread xs0)))

theorem sout0_C_0_eq (c : Dev nD) (i : grid0.Coords) (arg3 : Memref sig .tc .vmem S1024x2048 .bf16) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : cond0_1 i) (hc2 : cond0_2 i)
    (x0 : Vec Ideal S1024x2048 .bf16) (x1 : Vec Ideal S2048x1536 .bf16) (xs0 : Vec Ideal S1024x1536 .f32) :
    sout0_C_0 c i arg3 harg3 arg4 harg4 arg5 harg5 arg6 harg6 hc0 hc1 hc2 x0 x1 xs0 = k0_pay3 x0 x1 xs0 := by
  unfold sout0_C_0 kernelRun0_C
  dsimp only
  unfold kernelRun0_C.sl.HS0_1
  exact (store_all VS0_0 _ hz _ _ _).trans (map3 k0_pay3 ((load_all arg3.view _ hz _).trans (harg3.read_unread x0)) ((load_all arg4.view _ hz _).trans (harg4.read_unread x1)) ((load_all arg6.view _ hz _).trans (harg6.read_unread xs0)))

theorem out0_C_2_eq (c : Dev nD) (i : grid0.Coords) (arg3 : Memref sig .tc .vmem S1024x2048 .bf16) (harg3 : arg3.IsWhole) (arg4 : Memref sig .tc .vmem S2048x1536 .bf16) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : cond0_1 i) (hc2 : cond0_2 i)
    (x0 : Vec Ideal S1024x2048 .bf16) (x1 : Vec Ideal S2048x1536 .bf16) (xs0 : Vec Ideal S1024x1536 .f32) :
    out0_C_2 c i arg3 harg3 arg4 harg4 arg5 harg5 arg6 harg6 hc0 hc1 hc2 x0 x1 xs0 = k0_pay4 (k0_pay3 x0 x1 xs0) := by
  unfold out0_C_2 kernelRun0_C
  dsimp only
  unfold kernelRun0_C.sl.v13 kernelRun0_C.sl.HS0_1
  exact (store_all VO0_2 _ hz _ _ _).trans (congrArg k0_pay4 ((load_all arg6.view _ hz _).trans ((store_all arg6.view _ hz _ _ _).trans (map3 k0_pay3 ((load_all arg3.view _ hz _).trans (harg3.read_unread x0)) ((load_all arg4.view _ hz _).trans (harg4.read_unread x1)) ((load_all arg6.view _ hz _).trans (harg6.read_unread xs0))))))

/-! ## The fold over the chunks of rows -/

theorem pay1_at (x0 : Vec Ideal S1024x2048 .bf16) (x1 : Vec Ideal S2048x1536 .bf16) (a : Fin 1024) (l : Fin 1536) :
    k0_pay1 (F := Ideal) x0 x1 (ix2 a l) = ∑ j : Fin 2048, x0 (ix2 a j) * x1 (ix2 j l) := by
  pointwise [k0_pay1]
theorem pay2_eq (x0 : Vec Ideal S1024x2048 .bf16) (x1 : Vec Ideal S2048x1536 .bf16) (a : Fin 1024) (l : Fin 1536) :
    k0_pay2 (F := Ideal) x0 x1 (ix2 a l) = k0_pay1 (F := Ideal) x0 x1 (ix2 a l) := by
  pointwise [k0_pay2]
theorem pay3_eq (x0 : Vec Ideal S1024x2048 .bf16) (x1 : Vec Ideal S2048x1536 .bf16) (y : Vec Ideal S1024x1536 .f32) (a : Fin 1024) (l : Fin 1536) :
    k0_pay3 (F := Ideal) x0 x1 y (ix2 a l) = y (ix2 a l) + k0_pay1 (F := Ideal) x0 x1 (ix2 a l) := by
  pointwise [k0_pay3]
theorem pay4_eq (y : Vec Ideal S1024x1536 .f32) : k0_pay4 (F := Ideal) y = y := rfl

theorem cov : ((cfg0).win 2).Covers := by decide +kernel
theorem at0 : ∀ t : Fin cfg0.N, win0_0.index t = ![0, t.val % 4] := by decide +kernel
theorem at1 : ∀ t : Fin cfg0.N, win0_1.index t = ![t.val % 4, t.val / 4] := by decide +kernel
theorem at2 : ∀ t : Fin cfg0.N, win0_2.index t = ![0, t.val / 4] := by decide +kernel

/-- One element of the weights' gradient: the columns' product over all rows. -/
def grad (x : S8192x1024.Idx → EReal) (dh : S8192x3072.Idx → EReal) (i : S1024x3072.Idx) : EReal :=
  ∑ j : Fin 8192, x (ix2 j (i 0)) * dh (ix2 j (i 1))

/-- Row `i`'s part of it. -/
def term (x : S8192x1024.Idx → EReal) (dh : S8192x3072.Idx → EReal) (a : Fin 1024) (l : Fin 3072) (i : ℕ) : EReal :=
  if h : i < 8192 then x (ix2 ⟨i, h⟩ a) * dh (ix2 ⟨i, h⟩ l) else 0

variable (m : (ℓ : Loc nD τ sig) → Buf (Elt Ideal) ℓ) (c : Dev nD)

abbrev X : S8192x1024.Idx → EReal := m ((c : Thread nD τ).loc main_arg0)
abbrev DH : S8192x3072.Idx → EReal := m ((c : Thread nD τ).loc main_arg1)

theorem V_x : V (F := Ideal) m c main_v1 = truncf (F := Ideal) .bf16 (transpose S1024x8192 [1, 0] (m ((c : Thread nD τ).loc main_arg0)) transposes_S8192x1024_S1024x8192_1_0) bitsLt_bf16_f32 := by
  unfold V hostOps0
  after_results
theorem tr_at (x : FVec Ideal S8192x1024 .f32) (a : Fin 1024) (i : Fin 8192) :
    truncf (F := Ideal) .bf16 (transpose S1024x8192 [1, 0] x transposes_S8192x1024_S1024x8192_1_0) bitsLt_bf16_f32 (ix2 a i) = x (ix2 i a) := by
  pointwise

/-- One point's product is its chunk's part of the sum. -/
theorem chunk (t : Fin cfg0.N) (a : Fin 1024) (l : Fin 1536) (b : Fin 3072) (hb : b.val = t.val / 4 * 1536 + l.val) :
    k0_pay1 (F := Ideal) (iblk m c 0 t) (iblk m c 1 t) (ix2 a l) = ∑ j ∈ Finset.range 2048, term (X m c) (DH m c) a b (2048 * (t.val % 4) + j) := by
  refine (pay1_at _ _ a l).trans ?_
  rw [Finset.sum_range]
  refine Finset.sum_congr rfl fun j _ => ?_
  have hi : 2048 * (t.val % 4) + j.val < 8192 := by omega
  unfold term
  rw [dif_pos hi]
  refine congrArg₂ (· * ·) ?_ ?_
  · refine Eq.trans ?_ (tr_at (m ((c : Thread nD τ).loc main_arg0)) a ⟨2048 * (t.val % 4) + j.val, hi⟩)
    refine (congrArg (V (F := Ideal) m c main_v1) (funext fun d => Fin.ext ?_)).trans (congrFun (V_x m c) _)
    match d with
    | 0 => exact (Pipeline.Window.rect_emb_val (cfg0.win 0) t (ix2 a j) (0 : Fin 2)).trans ((congrArg (· * 1024 + a.val) (congrFun (at0 t) 0)).trans (by show 0 * 1024 + a.val = a.val; omega))
    | 1 => exact (Pipeline.Window.rect_emb_val (cfg0.win 0) t (ix2 a j) (1 : Fin 2)).trans ((congrArg (· * 2048 + j.val) (congrFun (at0 t) 1)).trans (by show t.val % 4 * 2048 + j.val = 2048 * (t.val % 4) + j.val; omega))
  · refine (congrArg (V (F := Ideal) m c main_arg1) (funext fun d => Fin.ext ?_)).trans (congrFun (V_main_arg1 m c) _)
    match d with
    | 0 => exact (Pipeline.Window.rect_emb_val (cfg0.win 1) t (ix2 j l) (0 : Fin 2)).trans ((congrArg (· * 2048 + j.val) (congrFun (at1 t) 0)).trans (by show t.val % 4 * 2048 + j.val = 2048 * (t.val % 4) + j.val; omega))
    | 1 => exact (Pipeline.Window.rect_emb_val (cfg0.win 1) t (ix2 j l) (1 : Fin 2)).trans ((congrArg (· * 1536 + l.val) (congrFun (at1 t) 1)).trans (by show t.val / 4 * 1536 + l.val = b.val; omega))

/-- What the accumulator holds after point `n`. -/
theorem acc (a : Fin 1024) (l : Fin 1536) : ∀ (n : ℕ) (hn : n < cfg0.N) (b : Fin 3072), b.val = n / 4 * 1536 + l.val →
    (outsAt0 m c n hn).2 (ix2 a l) = ∑ j ∈ Finset.range (2048 * (n % 4) + 2048), term (X m c) (DH m c) a b j := by
  intro n
  induction n with
  | zero =>
    intro hn b hb
    rw [outsAt0_A m c ⟨0, hn⟩ rfl (by show ¬ 1 ≤ 0 % 4; decide) (by show ¬ 0 % 4 = 3; decide)]
    dsimp only
    rw [sout0_A_0_eq, pay2_eq, chunk m c ⟨0, hn⟩ a l b hb]
    exact Finset.sum_congr rfl fun j _ => congrArg _ (Nat.zero_add j)
  | succ n ih =>
    intro hn b hb
    by_cases h0 : (n + 1) % 4 = 0
    · rw [outsAt0_A m c ⟨n + 1, hn⟩ h0 (by show ¬ 1 ≤ (n + 1) % 4; omega) (by show ¬ (n + 1) % 4 = 3; omega)]
      dsimp only
      rw [sout0_A_0_eq, pay2_eq, chunk m c ⟨n + 1, hn⟩ a l b hb]
      rw [h0]
      exact Finset.sum_congr rfl fun j _ => congrArg _ (Nat.zero_add j)
    · have step : (outsAt0 m c (n + 1) hn).2 (ix2 a l) = (outsAt0 m c n (Nat.lt_of_succ_lt hn)).2 (ix2 a l) + k0_pay1 (F := Ideal) (iblk m c 0 ⟨n + 1, hn⟩) (iblk m c 1 ⟨n + 1, hn⟩) (ix2 a l) := by
        by_cases h2 : (n + 1) % 4 = 3
        · rw [outsAt0_C m c ⟨n + 1, hn⟩ h0 (by show 1 ≤ (n + 1) % 4; omega) h2]
          dsimp only
          rw [sout0_C_0_eq, pay3_eq]
          rfl
        · rw [outsAt0_B m c ⟨n + 1, hn⟩ h0 (by show 1 ≤ (n + 1) % 4; omega) h2]
          dsimp only
          rw [sout0_B_0_eq, pay3_eq]
          rfl
      rw [step, ih (Nat.lt_of_succ_lt hn) b (by omega), chunk m c ⟨n + 1, hn⟩ a l b hb]
      have e : 2048 * (n % 4) + 2048 = 2048 * ((n + 1) % 4) := by omega
      rw [e]
      exact (Finset.sum_range_add _ _ _).symm

/-- The result array at the end. -/
theorem arr : (dats m 0 c).arrAt 2 cfg0.N = grad (X m c) (DH m c) := by
  refine (dats m 0 c).arrAt_eq_of_covers 2 _ cov fun t hf y => ?_
  rw [after0_2]
  obtain ⟨a, l, rfl⟩ : ∃ (a : Fin 1024) (l : Fin 1536), y = ix2 a l := ⟨y 0, y 1, funext fun d => match d with | 0 => rfl | 1 => rfl⟩
  have h2 : t.val % 4 = 3 := (flush0_2 t).mp hf
  have hN : t.val < 8 := lt_of_lt_of_eq t.isLt N_0
  have hb : t.val / 4 * 1536 + l.val < 3072 := by omega
  have e : (outsAt0 m c t.val t.isLt).1 = (outsAt0 m c t.val t.isLt).2 := by
    rw [outsAt0_C m c t (by omega) (by omega) h2]
    dsimp only
    rw [out0_C_2_eq, sout0_C_0_eq, pay4_eq]
  refine (congrFun e (ix2 a l)).trans ((acc m c a l t.val t.isLt ⟨_, hb⟩ rfl).trans ?_)
  rw [h2]
  have hd : (⟨t.val / 4 * 1536 + l.val, hb⟩ : Fin 3072) = ((cfg0.win 2).rect t).emb (ix2 a l) 1 :=
    Fin.ext (((congrArg (· * 1536 + l.val) (congrFun (at2 t) 1)).symm.trans (Pipeline.Window.rect_emb_val (cfg0.win 2) t (ix2 a l) (1 : Fin 2)).symm))
  have ha : a = ((cfg0.win 2).rect t).emb (ix2 a l) 0 :=
    Fin.ext (((Pipeline.Window.rect_emb_val (cfg0.win 2) t (ix2 a l) (0 : Fin 2)).trans ((congrArg (· * 1024 + a.val) (congrFun (at2 t) 0)).trans (by show 0 * 1024 + a.val = a.val; omega))).symm)
  show ∑ j ∈ Finset.range 8192, term (X m c) (DH m c) a _ j = ∑ j : Fin 8192, X m c (ix2 j (((cfg0.win 2).rect t).emb (ix2 a l) 0)) * DH m c (ix2 j (((cfg0.win 2).rect t).emb (ix2 a l) 1))
  rw [← hd, ← ha, Finset.sum_range]
  exact Finset.sum_congr rfl fun j _ => dif_pos j.isLt

/-- What the reference computes of the same arguments. -/
theorem ref (x : FVec Ideal S8192x1024 .f32) (dh : FVec Ideal S8192x3072 .bf16) :
    truncf (F := Ideal) .bf16 (transpose ReferenceDwinIdeal.S1024x3072 [1, 0] (Host.dotGeneral ReferenceDwinIdeal.dot_S8192x3072_S8192x1024_S3072x1024_0_0_1_1_n_n none
      (extf .f32 dh ReferenceDwinIdeal.Gen.facts.bitsLt_bf16_f32) x) ReferenceDwinIdeal.Gen.facts.transposes_S3072x1024_S1024x3072_1_0) ReferenceDwinIdeal.Gen.facts.bitsLt_bf16_f32
      = grad x dh := by
  funext i
  obtain ⟨a, l, rfl⟩ : ∃ (a : Fin 1024) (l : Fin 3072), i = ix2 a l := ⟨i 0, i 1, funext fun d => match d with | 0 => rfl | 1 => rfl⟩
  pointwise [grad]
  exact Finset.sum_congr rfl fun j _ => mul_comm _ _

/-- The call computes the derivative. -/
theorem algebraic : Cert.algebraic_KernelDwinIdeal_ReferenceDwinIdeal (hKernelDwinIdeal := Cert.KernelDwinIdeal.Gen.facts)
    (hReferenceDwinIdeal := Cert.ReferenceDwinIdeal.Gen.facts) := by
  intro m g m' g' _ ha
  refine ⟨fun c => grad (X m c) (DH m c), ?_, ?_⟩
  · exact (θ_run _ _ _).mono (fun _ h c => ⟨(h c).1.trans (arr m c), (h c).2⟩) (KernelDwinIdeal.Value.run_blocks m g)
  · refine (θ_run _ _ _).mono (fun _ h c => ⟨(h c).1.trans ((ref _ _).trans ?_), (h c).2⟩) (ReferenceDwinIdeal.Value.run (F := Ideal) m' g')
    rw [(ha c).1, (ha c).2]

theorem frame_kernel : Cert.quiescent_KernelDwin (hKernelDwin := Cert.KernelDwin.Gen.facts) := fun m g _ => KernelDwin.Gen.frame m g
theorem frame_ideal : Cert.quiescent_KernelDwinIdeal (hKernelDwinIdeal := Cert.KernelDwinIdeal.Gen.facts) := fun m g _ => KernelDwinIdeal.Gen.frame m g
theorem frame_reference : Cert.quiescent_ReferenceDwinIdeal (hReferenceDwinIdeal := Cert.ReferenceDwinIdeal.Gen.facts) := by
  intro m g _
  exact (θ_run Cert.ReferenceDwinIdeal.defs _ _).mono (fun _ h => ⟨fun c => (h c).2, sem_eq_zero_of_no_sems rfl _⟩) (ReferenceDwinIdeal.Value.run (F := Ideal) m g)

end Cert.Dwin
end
-- ==== Proof.Dx.lean ====
/-
  The gradient of layer 1's input: the call that adds the four products to the residual's part, against the derivative.
-/
module
public import proofs.«01_k».proof.Defs
public import proofs.«01_k».proof.Proof.Dwin
public import proofs.«01_k».proof.Proof.Gen.KernelDx.Frame
public import proofs.«01_k».proof.Proof.Gen.KernelDxIdeal.Value
public import proofs.«01_k».proof.Proof.Gen.ReferenceDxIdeal.Run
public import Idealize.ShloMosaic.Lib.Quiescent
public import Idealize.ShloMosaic.Lib.Pointwise
public import Idealize.ShloMosaic.Lib.Pipeline.ValueKit.Partial
@[expose] public section
noncomputable section
namespace Cert.Dx
open Cert.KernelDxIdeal Cert.KernelDxIdeal.Gen Cert.KernelDxIdeal.Value
open Cert.Dwin (store_all load_all hz)
open Idealize.ShloMosaic Idealize.ShloMosaic.TcCoe Idealize.SL.Sem

/-- The residual's factor. -/
abbrev alpha : EReal := Ideal.ofBits .f32 0x3FB504F3#32

/-- One element of the input's gradient: the residual's part and the four products, the keys', the values' and the gates' each with their columns of the weights. -/
def grad (dh : S8192x3072.Idx → EReal) (w : S1024x3072.Idx → EReal) (dk dv : S8192x1024.Idx → EReal) (df : S8192x16.Idx → EReal) (u : S1024x2064.Idx → EReal)
    (dz : S8192x1024.Idx → EReal) (i : S8192x1024.Idx) : EReal :=
  alpha * dz i + ∑ j : Fin 3072, dh (ix2 (i 0) j) * w (ix2 (i 1) j)
    + ∑ j : Fin 1024, dk (ix2 (i 0) j) * u (ix2 (i 1) ⟨j.val, by omega⟩)
    + ∑ j : Fin 1024, dv (ix2 (i 0) j) * u (ix2 (i 1) ⟨1024 + j.val, by omega⟩)
    + ∑ j : Fin 16, df (ix2 (i 0) j) * u (ix2 (i 1) ⟨2048 + j.val, by omega⟩)

/-! ## The body -/

theorem pay_at (x8 : Vec Ideal S512x1024 .f32) (x0 : Vec Ideal S512x3072 .bf16) (x1 : Vec Ideal S1024x3072 .bf16) (x2 : Vec Ideal S512x1024 .bf16) (x5 : Vec Ideal S1024x1024 .bf16)
    (x3 : Vec Ideal S512x1024 .bf16) (x6 : Vec Ideal S1024x1024 .bf16) (x4 : Vec Ideal S512x128 .bf16) (x7 : Vec Ideal S1024x128 .bf16) (a : Fin 512) (l : Fin 1024) :
    k0_pay1 (F := Ideal) x8 x0 x1 x2 x5 x3 x6 x4 x7 (ix2 a l) = alpha * x8 (ix2 a l) + ∑ j : Fin 3072, x0 (ix2 a j) * x1 (ix2 l j)
      + ∑ j : Fin 1024, x2 (ix2 a j) * x5 (ix2 l j) + ∑ j : Fin 1024, x3 (ix2 a j) * x6 (ix2 l j) + ∑ j : Fin 128, x4 (ix2 a j) * x7 (ix2 l j) := by
  pointwise [k0_pay1]

theorem zero_int : (FloatOps.sitofp (F := Ideal) FTy.bf16 (0#32 : BitVec 32) : EReal) = 0 := by
  show (((0#32 : BitVec 32).toInt : ℝ) : EReal) = 0
  simp
theorem pad_f (x : FVec Ideal S8192x16 .bf16) (a : Fin 8192) (j : Fin 128) :
    pad S8192x128 ![0, 0] ![0, 112] ![0, 0] x (sitofp (F := Ideal) .bf16 (constantI S_ 32 0#32)) pads_S8192x16_S8192x128_000_01120 h_S_ (ix2 a j)
      = if h : j.val < 16 then x (ix2 a ⟨j.val, h⟩) else 0 := by
  pointwise
  rw [zero_int]
theorem pad_w (x : FVec Ideal S1024x2064 .bf16) (l : Fin 1024) (j : Fin 2176) :
    pad S1024x2176 ![0, 0] ![0, 112] ![0, 0] x (sitofp (F := Ideal) .bf16 (constantI S_ 32 0#32)) pads_S1024x2064_S1024x2176_000_01120 h_S_ (ix2 l j)
      = if h : j.val < 2064 then x (ix2 l ⟨j.val, h⟩) else 0 := by
  pointwise
  rw [zero_int]

variable (m : (ℓ : Loc nD τ sig) → Buf (Elt Ideal) ℓ) (c : Dev nD)

theorem V_f : V (F := Ideal) m c main_v0 = pad S8192x128 ![0, 0] ![0, 112] ![0, 0] (m ((c : Thread nD τ).loc main_arg4)) (sitofp (F := Ideal) .bf16 (constantI S_ 32 0#32)) pads_S8192x16_S8192x128_000_01120 h_S_ := by
  unfold V hostOps0 hostOps0_1 hostOps0_2 hostOps0_3
  simp only [List.flatten_cons, List.flatten_nil, List.append_nil, List.cons_append, List.nil_append]
  after_results
  rfl
theorem V_w : V (F := Ideal) m c main_v1 = pad S1024x2176 ![0, 0] ![0, 112] ![0, 0] (m ((c : Thread nD τ).loc main_arg5)) (sitofp (F := Ideal) .bf16 (constantI S_ 32 0#32)) pads_S1024x2064_S1024x2176_000_01120 h_S_ := by
  unfold V hostOps0 hostOps0_1 hostOps0_2 hostOps0_3
  simp only [List.flatten_cons, List.flatten_nil, List.append_nil, List.cons_append, List.nil_append]
  after_results
  rfl

theorem cov : ((cfg0).win 9).Covers := by decide +kernel
theorem t0 : ∀ t : Fin cfg0.N, win0_0.index t = ![t.val, 0] := by decide +kernel
theorem t1 : ∀ t : Fin cfg0.N, win0_1.index t = ![0, 0] := by decide +kernel
theorem t2 : ∀ t : Fin cfg0.N, win0_2.index t = ![t.val, 0] := by decide +kernel
theorem t3 : ∀ t : Fin cfg0.N, win0_3.index t = ![t.val, 0] := by decide +kernel
theorem t4 : ∀ t : Fin cfg0.N, win0_4.index t = ![t.val, 0] := by decide +kernel
theorem t5 : ∀ t : Fin cfg0.N, win0_5.index t = ![0, 0] := by decide +kernel
theorem t6 : ∀ t : Fin cfg0.N, win0_6.index t = ![0, 1] := by decide +kernel
theorem t7 : ∀ t : Fin cfg0.N, win0_7.index t = ![0, 16] := by decide +kernel
theorem t8 : ∀ t : Fin cfg0.N, win0_8.index t = ![t.val, 0] := by decide +kernel
theorem t9 : ∀ t : Fin cfg0.N, win0_9.index t = ![t.val, 0] := by decide +kernel

abbrev W : S1024x2064.Idx → EReal := m ((c : Thread nD τ).loc main_arg5)
abbrev DF : S8192x16.Idx → EReal := m ((c : Thread nD τ).loc main_arg4)

/-- The padded weights' columns that one window holds. -/
theorem col (l : Fin 1024) (j : ℕ) (h : j < 2064) (i : S1024x2176.Idx) (h0 : (i 0).val = l.val) (h1 : (i 1).val = j) :
    V (F := Ideal) m c main_v1 i = W m c (ix2 l ⟨j, h⟩) := by
  have hj : j < 2176 := by omega
  have hi : i = ix2 l ⟨j, hj⟩ := funext fun d => Fin.ext (match d with | 0 => h0 | 1 => h1)
  exact (congrArg (V m c main_v1) hi).trans ((congrFun (V_w m c) _).trans ((pad_w _ l ⟨j, hj⟩).trans (dif_pos h)))
theorem col5 (t : Fin cfg0.N) (l j : Fin 1024) : X0_5 (F := Ideal) m c t (ix2 l j) = W m c (ix2 l ⟨j.val, by omega⟩) := by
  unfold X0_5 Pipeline.Window.fill
  rw [dif_pos (moved0_5 t _)]
  refine col m c l j.val (by omega) _ ?_ ?_
  · exact (Pipeline.Window.rect_emb_val (cfg0.win 5) t _ (0 : Fin 2)).trans ((congrArg (· * 1024 + l.val) (congrFun (t5 t) 0)).trans (by show 0 * 1024 + l.val = l.val; omega))
  · exact (Pipeline.Window.rect_emb_val (cfg0.win 5) t _ (1 : Fin 2)).trans ((congrArg (· * 1024 + j.val) (congrFun (t5 t) 1)).trans (by show 0 * 1024 + j.val = j.val; omega))
theorem col6 (t : Fin cfg0.N) (l j : Fin 1024) : X0_6 (F := Ideal) m c t (ix2 l j) = W m c (ix2 l ⟨1024 + j.val, by omega⟩) := by
  unfold X0_6 Pipeline.Window.fill
  rw [dif_pos (moved0_6 t _)]
  refine col m c l (1024 + j.val) (by omega) _ ?_ ?_
  · exact (Pipeline.Window.rect_emb_val (cfg0.win 6) t _ (0 : Fin 2)).trans ((congrArg (· * 1024 + l.val) (congrFun (t6 t) 0)).trans (by show 0 * 1024 + l.val = l.val; omega))
  · exact (Pipeline.Window.rect_emb_val (cfg0.win 6) t _ (1 : Fin 2)).trans ((congrArg (· * 1024 + j.val) (congrFun (t6 t) 1)).trans (by show 1 * 1024 + j.val = 1024 + j.val; omega))
theorem col7 (t : Fin cfg0.N) (l : Fin 1024) (j : Fin 128) (h : j.val < 16) : iblk (F := Ideal) m c 7 t (ix2 l j) = W m c (ix2 l ⟨2048 + j.val, by omega⟩) := by
  refine col m c l (2048 + j.val) (by omega) _ ?_ ?_
  · exact (Pipeline.Window.rect_emb_val (cfg0.win 7) t (ix2 l j) (0 : Fin 2)).trans ((congrArg (· * 1024 + l.val) (congrFun (t7 t) 0)).trans (by show 0 * 1024 + l.val = l.val; omega))
  · exact (Pipeline.Window.rect_emb_val (cfg0.win 7) t (ix2 l j) (1 : Fin 2)).trans ((congrArg (· * 128 + j.val) (congrFun (t7 t) 1)).trans (by show 16 * 128 + j.val = 2048 + j.val; omega))

theorem map9 {A0 A1 A2 A3 A4 A5 A6 A7 A8 D : Type} (f : A0 → A1 → A2 → A3 → A4 → A5 → A6 → A7 → A8 → D) {a0 b0 : A0} {a1 b1 : A1} {a2 b2 : A2} {a3 b3 : A3} {a4 b4 : A4} {a5 b5 : A5} {a6 b6 : A6} {a7 b7 : A7} {a8 b8 : A8}
    (h0 : a0 = b0) (h1 : a1 = b1) (h2 : a2 = b2) (h3 : a3 = b3) (h4 : a4 = b4) (h5 : a5 = b5) (h6 : a6 = b6) (h7 : a7 = b7) (h8 : a8 = b8) :
    f a0 a1 a2 a3 a4 a5 a6 a7 a8 = f b0 b1 b2 b3 b4 b5 b6 b7 b8 := by
  rw [h0, h1, h2, h3, h4, h5, h6, h7, h8]

/-- What the body stores at one point. -/
theorem out_eq (t : Fin cfg0.N) : outsAt0 (F := Ideal) m c t
    = k0_pay1 (F := Ideal) (iblk m c 8 t) (iblk m c 0 t) (iblk m c 1 t) (iblk m c 2 t) (X0_5 m c t) (iblk m c 3 t) (X0_6 m c t) (iblk m c 4 t) (iblk m c 7 t) := by
  unfold outsAt0 out0_A_9 kernelRun0_A
  dsimp only
  exact (store_all VO0_9 _ hz _ _ _).trans (map9 k0_pay1 ((load_all (ms0_8 t).view _ hz _).trans ((hs0_8 t).read_unread _)) ((load_all (ms0_0 t).view _ hz _).trans ((hs0_0 t).read_unread _))
    ((load_all (ms0_1 t).view _ hz _).trans ((hs0_1 t).read_unread _)) ((load_all (ms0_2 t).view _ hz _).trans ((hs0_2 t).read_unread _)) ((load_all (ms0_5 t).view _ hz _).trans ((hs0_5 t).read_unread _))
    ((load_all (ms0_3 t).view _ hz _).trans ((hs0_3 t).read_unread _)) ((load_all (ms0_6 t).view _ hz _).trans ((hs0_6 t).read_unread _)) ((load_all (ms0_4 t).view _ hz _).trans ((hs0_4 t).read_unread _))
    ((load_all (ms0_7 t).view _ hz _).trans ((hs0_7 t).read_unread _)))

/-- A sum over lanes past the sixteenth of which nothing is left. -/
theorem sum_pad (f : ℕ → EReal) (h : ∀ i, 16 ≤ i → f i = 0) : ∑ j : Fin 128, f j.val = ∑ j : Fin 16, f j.val := by
  rw [← Finset.sum_range f, ← Finset.sum_range f]
  exact (Finset.sum_subset (Finset.range_mono (by decide)) fun i _ hi => h i (by simpa using hi)).symm

/-! ## The blocks -/

theorem e8 (t : Fin cfg0.N) {a : Fin 512} {r : Fin 8192} (hrv : r.val = t.val * 512 + a.val) (l : Fin 1024) :
    iblk (F := Ideal) m c 8 t (ix2 a l) = m ((c : Thread nD τ).loc main_arg6) (ix2 r l) := by
  refine (congrArg (V (F := Ideal) m c main_arg6) (funext fun d => Fin.ext ?_)).trans (congrFun (V_main_arg6 m c) _)
  match d with
  | 0 => exact (Pipeline.Window.rect_emb_val (cfg0.win 8) t (ix2 a l) (0 : Fin 2)).trans ((congrArg (· * 512 + a.val) (congrFun (t8 t) 0)).trans hrv.symm)
  | 1 => exact (Pipeline.Window.rect_emb_val (cfg0.win 8) t (ix2 a l) (1 : Fin 2)).trans ((congrArg (· * 1024 + l.val) (congrFun (t8 t) 1)).trans (by show 0 * 1024 + l.val = l.val; omega))
theorem e0 (t : Fin cfg0.N) {a : Fin 512} {r : Fin 8192} (hrv : r.val = t.val * 512 + a.val) (j : Fin 3072) :
    iblk (F := Ideal) m c 0 t (ix2 a j) = m ((c : Thread nD τ).loc main_arg0) (ix2 r j) := by
  refine (congrArg (V (F := Ideal) m c main_arg0) (funext fun d => Fin.ext ?_)).trans (congrFun (V_main_arg0 m c) _)
  match d with
  | 0 => exact (Pipeline.Window.rect_emb_val (cfg0.win 0) t (ix2 a j) (0 : Fin 2)).trans ((congrArg (· * 512 + a.val) (congrFun (t0 t) 0)).trans hrv.symm)
  | 1 => exact (Pipeline.Window.rect_emb_val (cfg0.win 0) t (ix2 a j) (1 : Fin 2)).trans ((congrArg (· * 3072 + j.val) (congrFun (t0 t) 1)).trans (by show 0 * 3072 + j.val = j.val; omega))
theorem e1 (t : Fin cfg0.N) (l : Fin 1024) (j : Fin 3072) :
    iblk (F := Ideal) m c 1 t (ix2 l j) = m ((c : Thread nD τ).loc main_arg1) (ix2 l j) := by
  refine (congrArg (V (F := Ideal) m c main_arg1) (funext fun d => Fin.ext ?_)).trans (congrFun (V_main_arg1 m c) _)
  match d with
  | 0 => exact (Pipeline.Window.rect_emb_val (cfg0.win 1) t (ix2 l j) (0 : Fin 2)).trans ((congrArg (· * 1024 + l.val) (congrFun (t1 t) 0)).trans (by show 0 * 1024 + l.val = l.val; omega))
  | 1 => exact (Pipeline.Window.rect_emb_val (cfg0.win 1) t (ix2 l j) (1 : Fin 2)).trans ((congrArg (· * 3072 + j.val) (congrFun (t1 t) 1)).trans (by show 0 * 3072 + j.val = j.val; omega))
theorem e2 (t : Fin cfg0.N) {a : Fin 512} {r : Fin 8192} (hrv : r.val = t.val * 512 + a.val) (j : Fin 1024) :
    iblk (F := Ideal) m c 2 t (ix2 a j) = m ((c : Thread nD τ).loc main_arg2) (ix2 r j) := by
  refine (congrArg (V (F := Ideal) m c main_arg2) (funext fun d => Fin.ext ?_)).trans (congrFun (V_main_arg2 m c) _)
  match d with
  | 0 => exact (Pipeline.Window.rect_emb_val (cfg0.win 2) t (ix2 a j) (0 : Fin 2)).trans ((congrArg (· * 512 + a.val) (congrFun (t2 t) 0)).trans hrv.symm)
  | 1 => exact (Pipeline.Window.rect_emb_val (cfg0.win 2) t (ix2 a j) (1 : Fin 2)).trans ((congrArg (· * 1024 + j.val) (congrFun (t2 t) 1)).trans (by show 0 * 1024 + j.val = j.val; omega))
theorem e3 (t : Fin cfg0.N) {a : Fin 512} {r : Fin 8192} (hrv : r.val = t.val * 512 + a.val) (j : Fin 1024) :
    iblk (F := Ideal) m c 3 t (ix2 a j) = m ((c : Thread nD τ).loc main_arg3) (ix2 r j) := by
  refine (congrArg (V (F := Ideal) m c main_arg3) (funext fun d => Fin.ext ?_)).trans (congrFun (V_main_arg3 m c) _)
  match d with
  | 0 => exact (Pipeline.Window.rect_emb_val (cfg0.win 3) t (ix2 a j) (0 : Fin 2)).trans ((congrArg (· * 512 + a.val) (congrFun (t3 t) 0)).trans hrv.symm)
  | 1 => exact (Pipeline.Window.rect_emb_val (cfg0.win 3) t (ix2 a j) (1 : Fin 2)).trans ((congrArg (· * 1024 + j.val) (congrFun (t3 t) 1)).trans (by show 0 * 1024 + j.val = j.val; omega))
theorem e4 (t : Fin cfg0.N) {a : Fin 512} {r : Fin 8192} (hrv : r.val = t.val * 512 + a.val) (j : Fin 128) :
    iblk (F := Ideal) m c 4 t (ix2 a j) = if h : j.val < 16 then DF m c (ix2 r ⟨j.val, h⟩) else 0 := by
  refine (congrArg (V (F := Ideal) m c main_v0) (funext fun d => Fin.ext ?_)).trans ((congrFun (V_f m c) (ix2 r j)).trans (pad_f _ r j))
  match d with
  | 0 => exact (Pipeline.Window.rect_emb_val (cfg0.win 4) t (ix2 a j) (0 : Fin 2)).trans ((congrArg (· * 512 + a.val) (congrFun (t4 t) 0)).trans hrv.symm)
  | 1 => exact (Pipeline.Window.rect_emb_val (cfg0.win 4) t (ix2 a j) (1 : Fin 2)).trans ((congrArg (· * 128 + j.val) (congrFun (t4 t) 1)).trans (by show 0 * 128 + j.val = j.val; omega))
theorem eF (t : Fin cfg0.N) {a : Fin 512} {r : Fin 8192} (hrv : r.val = t.val * 512 + a.val) (l : Fin 1024) :
    ∑ j : Fin 128, @HMul.hMul EReal EReal EReal instHMul (iblk (F := Ideal) m c 4 t (ix2 a j)) (iblk (F := Ideal) m c 7 t (ix2 l j)) = ∑ j : Fin 16, DF m c (ix2 r j) * W m c (ix2 l ⟨2048 + j.val, by omega⟩) := by
  refine Eq.trans ?_ ((sum_pad (fun i => if h : i < 16 then DF m c (ix2 r ⟨i, h⟩) * W m c (ix2 l ⟨2048 + i, by omega⟩) else 0) fun i h => dif_neg (by omega)).trans (Finset.sum_congr rfl fun j _ => dif_pos j.isLt))
  refine Finset.sum_congr rfl fun j _ => ?_
  rw [e4 m c t hrv j]
  by_cases h : j.val < 16
  · rw [dif_pos h, dif_pos h, col7 m c t l j h]
  · rw [dif_neg h, dif_neg h, zero_mul]

/-- The gradient of the call's arguments. -/
abbrev G : S8192x1024.Idx → EReal :=
  grad (m ((c : Thread nD τ).loc main_arg0)) (m ((c : Thread nD τ).loc main_arg1)) (m ((c : Thread nD τ).loc main_arg2)) (m ((c : Thread nD τ).loc main_arg3)) (DF m c) (W m c) (m ((c : Thread nD τ).loc main_arg6))

/-- One element of what the body stores. -/
theorem point (t : Fin cfg0.N) {a : Fin 512} {r : Fin 8192} (hrv : r.val = t.val * 512 + a.val) (l : Fin 1024) :
    k0_pay1 (F := Ideal) (iblk m c 8 t) (iblk m c 0 t) (iblk m c 1 t) (iblk m c 2 t) (X0_5 m c t) (iblk m c 3 t) (X0_6 m c t) (iblk m c 4 t) (iblk m c 7 t) (ix2 a l) = G m c (ix2 r l) := by
  refine (pay_at _ _ _ _ _ _ _ _ _ a l).trans ?_
  unfold G grad
  refine congrArg₂ (· + ·) (congrArg₂ (· + ·) (congrArg₂ (· + ·) (congrArg₂ (· + ·) (congrArg (alpha * ·) (e8 m c t hrv l)) ?_) ?_) ?_) (eF m c t hrv l)
  · exact Finset.sum_congr rfl fun j _ => congrArg₂ (· * ·) (e0 m c t hrv j) (e1 m c t l j)
  · exact Finset.sum_congr rfl fun j _ => congrArg₂ (· * ·) (e2 m c t hrv j) (col5 m c t l j)
  · exact Finset.sum_congr rfl fun j _ => congrArg₂ (· * ·) (e3 m c t hrv j) (col6 m c t l j)

/-- Where the result's block lies. -/
theorem place (t : Fin cfg0.N) {a : Fin 512} {r : Fin 8192} (hrv : r.val = t.val * 512 + a.val) (l : Fin 1024) :
    ((cfg0.win 9).rect t).emb (ix2 a l) = (ix2 r l : S8192x1024.Idx) := by
  refine funext fun d => Fin.ext ?_
  match d with
  | 0 => exact (Pipeline.Window.rect_emb_val (cfg0.win 9) t (ix2 a l) (0 : Fin 2)).trans ((congrArg (· * 512 + a.val) (congrFun (t9 t) 0)).trans hrv.symm)
  | 1 => exact (Pipeline.Window.rect_emb_val (cfg0.win 9) t (ix2 a l) (1 : Fin 2)).trans ((congrArg (· * 1024 + l.val) (congrFun (t9 t) 1)).trans (by show 0 * 1024 + l.val = l.val; omega))

/-- The body's block against the gradient. -/
theorem step (t : Fin cfg0.N) (y : S512x1024.Idx) : outsAt0 (F := Ideal) m c t y = G m c (((cfg0.win 9).rect t).emb y) := by
  obtain ⟨a, l, rfl⟩ : ∃ (a : Fin 512) (l : Fin 1024), y = ix2 a l := ⟨y 0, y 1, funext fun d => match d with | 0 => rfl | 1 => rfl⟩
  have hN : t.val < 16 := lt_of_lt_of_eq t.isLt N_0
  have hr : t.val * 512 + a.val < 8192 := by omega
  exact (congrFun (out_eq m c t) (ix2 a l)).trans ((point m c t (r := ⟨_, hr⟩) rfl l).trans (congrArg (G m c) (place t (r := ⟨_, hr⟩) rfl l)).symm)

/-- The result array at the end. -/
theorem arr : (dats m 0 c).arrAt 9 cfg0.N = G m c := by
  refine (dats m 0 c).arrAt_eq_of_covers 9 _ cov fun t hf y => ?_
  rw [after0_9]
  have h := step m c t y
  generalize outsAt0 (F := Ideal) m c t = o at h ⊢
  generalize G m c = g at h ⊢
  exact h

/-! ## The reference -/

/-- A sum over the joined columns is the sum of the three parts' sums. -/
theorem sum_join (k v : Fin 1024 → EReal) (f : Fin 16 → EReal) (u : Fin 2064 → EReal) :
    ∑ j : Fin 2064, (((if h : 2048 ≤ j.val ∧ j.val - 2048 < 16 then f ⟨j.val - 2048, h.2⟩ else 0) + (if h : 1024 ≤ j.val ∧ j.val - 1024 < 1024 then v ⟨j.val - 1024, h.2⟩ else 0))
        + (if h : j.val < 1024 then k ⟨j.val, h⟩ else 0)) * u j
      = ∑ j : Fin 1024, k j * u ⟨j.val, by omega⟩ + ∑ j : Fin 1024, v j * u ⟨1024 + j.val, by omega⟩ + ∑ j : Fin 16, f j * u ⟨2048 + j.val, by omega⟩ := by
  obtain ⟨g, hg⟩ : ∃ g : ℕ → EReal, ∀ (i : ℕ) (h : i < 2064), g i = (((if h : 2048 ≤ i ∧ i - 2048 < 16 then f ⟨i - 2048, h.2⟩ else 0) + (if h : 1024 ≤ i ∧ i - 1024 < 1024 then v ⟨i - 1024, h.2⟩ else 0))
        + (if h : i < 1024 then k ⟨i, h⟩ else 0)) * u ⟨i, h⟩ :=
    ⟨fun i => if h : i < 2064 then (((if h : 2048 ≤ i ∧ i - 2048 < 16 then f ⟨i - 2048, h.2⟩ else 0) + (if h : 1024 ≤ i ∧ i - 1024 < 1024 then v ⟨i - 1024, h.2⟩ else 0))
        + (if h : i < 1024 then k ⟨i, h⟩ else 0)) * u ⟨i, h⟩ else 0, fun i h => dif_pos h⟩
  have e : ∑ i ∈ Finset.range (1024 + 1024 + 16), g i = _ := (Finset.sum_range_add g (1024 + 1024) 16).trans (congrArg (· + _) (Finset.sum_range_add g 1024 1024))
  rw [Finset.sum_range, Finset.sum_range, Finset.sum_range, Finset.sum_range] at e
  refine Eq.trans (Finset.sum_congr rfl fun j _ => (hg j.val j.isLt).symm) (e.trans (congrArg₂ (· + ·) (congrArg₂ (· + ·) ?_ ?_) ?_))
  · refine Finset.sum_congr rfl fun j _ => (hg _ (by omega)).trans ?_
    rw [dif_neg (by omega), dif_neg (by omega), dif_pos j.isLt, zero_add, zero_add]
  · refine Finset.sum_congr rfl fun j _ => (hg _ (by omega)).trans ?_
    rw [dif_neg (by omega), dif_pos (by omega), dif_neg (by omega), zero_add, add_zero]
    exact congrArg (· * _) (congrArg v (Fin.ext (by show 1024 + j.val - 1024 = j.val; omega)))
  · refine Finset.sum_congr rfl fun j _ => (hg _ (by omega)).trans ?_
    rw [dif_pos (by omega), dif_neg (by omega), dif_neg (by omega), add_zero, add_zero]
    exact congrArg (· * _) (congrArg f (Fin.ext (by show 1024 + 1024 + j.val - 2048 = j.val; omega)))

/-- What the reference computes of the same arguments. -/
theorem ref (x0 : FVec Ideal S8192x3072 .bf16) (x1 : FVec Ideal S1024x3072 .bf16) (dk dv : FVec Ideal S8192x1024 .bf16) (df : FVec Ideal S8192x16 .bf16) (w : FVec Ideal S1024x2064 .bf16) (dz : FVec Ideal S8192x1024 .f32) :
    addf (addf (mulf (broadcastInDim ReferenceDxIdeal.S8192x1024 ![] ReferenceDxIdeal.Gen.facts.bcast_S_S8192x1024 (constant (F := Ideal) ReferenceDxIdeal.S_ .f32 0x3FB504F3#32)) dz)
      (Host.dotGeneral ReferenceDxIdeal.dot_S8192x3072_S1024x3072_S8192x1024_1_1_0_0_n_n none (extf .f32 x0 ReferenceDxIdeal.Gen.facts.bitsLt_bf16_f32) (extf .f32 x1 ReferenceDxIdeal.Gen.facts.bitsLt_bf16_f32)))
      (Host.dotGeneral ReferenceDxIdeal.dot_S8192x2064_S1024x2064_S8192x1024_1_1_0_0_n_n none
        (addf (addf (pad ReferenceDxIdeal.S8192x2064 ![0, 2048] ![0, 0] ![0, 0] (extf (F := Ideal) .f32 df ReferenceDxIdeal.Gen.facts.bitsLt_bf16_f32) (constant (F := Ideal) ReferenceDxIdeal.S_ .f32 0x00000000#32) ReferenceDxIdeal.Gen.facts.pads_S8192x16_S8192x2064_000_204800 ReferenceDxIdeal.Gen.facts.h_S_)
            (pad ReferenceDxIdeal.S8192x2064 ![0, 1024] ![0, 16] ![0, 0] (extf (F := Ideal) .f32 dv ReferenceDxIdeal.Gen.facts.bitsLt_bf16_f32) (constant (F := Ideal) ReferenceDxIdeal.S_ .f32 0x00000000#32) ReferenceDxIdeal.Gen.facts.pads_S8192x1024_S8192x2064_000_1024160 ReferenceDxIdeal.Gen.facts.h_S_))
          (pad ReferenceDxIdeal.S8192x2064 ![0, 0] ![0, 1040] ![0, 0] (extf (F := Ideal) .f32 dk ReferenceDxIdeal.Gen.facts.bitsLt_bf16_f32) (constant (F := Ideal) ReferenceDxIdeal.S_ .f32 0x00000000#32) ReferenceDxIdeal.Gen.facts.pads_S8192x1024_S8192x2064_000_010400 ReferenceDxIdeal.Gen.facts.h_S_))
        (extf .f32 w ReferenceDxIdeal.Gen.facts.bitsLt_bf16_f32))
      = grad x0 x1 dk dv df w dz := by
  funext i
  obtain ⟨a, l, rfl⟩ : ∃ (a : Fin 8192) (l : Fin 1024), i = ix2 a l := ⟨i 0, i 1, funext fun d => match d with | 0 => rfl | 1 => rfl⟩
  pointwise [grad]
  refine (congrArg (_ + ·) (sum_join (fun j => dk (ix2 a j)) (fun j => dv (ix2 a j)) (fun j => df (ix2 a j)) (fun j => w (ix2 l j)))).trans ?_
  rw [← add_assoc, ← add_assoc]

/-- The call computes the derivative. -/
theorem algebraic : Cert.algebraic_KernelDxIdeal_ReferenceDxIdeal (hKernelDxIdeal := Cert.KernelDxIdeal.Gen.facts)
    (hReferenceDxIdeal := Cert.ReferenceDxIdeal.Gen.facts) := by
  intro m g m' g' _ ha
  refine ⟨fun c => G m c, ?_, ?_⟩
  · exact (θ_run _ _ _).mono (fun _ h c => ⟨(h c).1.trans (arr m c), (h c).2⟩) (KernelDxIdeal.Value.run_blocks m g)
  · refine (θ_run _ _ _).mono (fun _ h c => ⟨(h c).1.trans ((ref _ _ _ _ _ _ _).trans ?_), (h c).2⟩) (ReferenceDxIdeal.Value.run (F := Ideal) m' g')
    rw [(ha c).1, (ha c).2.1, (ha c).2.2.1, (ha c).2.2.2.1, (ha c).2.2.2.2.1, (ha c).2.2.2.2.2.1, (ha c).2.2.2.2.2.2]

theorem frame_kernel : Cert.quiescent_KernelDx (hKernelDx := Cert.KernelDx.Gen.facts) := fun m g _ => KernelDx.Gen.frame m g
theorem frame_ideal : Cert.quiescent_KernelDxIdeal (hKernelDxIdeal := Cert.KernelDxIdeal.Gen.facts) := fun m g _ => KernelDxIdeal.Gen.frame m g
theorem frame_reference : Cert.quiescent_ReferenceDxIdeal (hReferenceDxIdeal := Cert.ReferenceDxIdeal.Gen.facts) := by
  intro m g _
  exact (θ_run Cert.ReferenceDxIdeal.defs _ _).mono (fun _ h => ⟨fun c => (h c).2, sem_eq_zero_of_no_sems rfl _⟩) (ReferenceDxIdeal.Value.run (F := Ideal) m g)

end Cert.Dx
end
-- ==== Proof.Dwout.lean ====
/-
  The gradient of layer 1's output weights: the call accumulates over eight chunks of rows, against the derivative.
-/
module
public import proofs.«01_k».proof.Defs
public import proofs.«01_k».proof.Proof.Dwin
public import proofs.«01_k».proof.Proof.Gen.KernelDwout.Frame
public import proofs.«01_k».proof.Proof.Gen.KernelDwoutIdeal.Value
public import proofs.«01_k».proof.Proof.Gen.ReferenceDwoutIdeal.Run
public import Idealize.ShloMosaic.Lib.Quiescent
public import Idealize.ShloMosaic.Lib.Pointwise
public import Idealize.ShloMosaic.Lib.Pipeline.ValueKit.Partial
@[expose] public section
noncomputable section
namespace Cert.Dwout
open Cert.KernelDwoutIdeal Cert.KernelDwoutIdeal.Gen Cert.KernelDwoutIdeal.Value
open Cert.Dwin (store_all load_all map3 hz)
open Idealize.ShloMosaic Idealize.ShloMosaic.TcCoe Idealize.SL.Sem

/-! ## What one point leaves -/

theorem sout0_A_0_eq (c : Dev nD) (i : grid0.Coords) (arg3 : Memref sig .tc .vmem S1024x1536 .bf16) (harg3 : arg3.IsWhole) (arg4 : Memref sig .tc .vmem S1024x1024 .f32) (harg4 : arg4.IsWhole) (arg5 : Memref sig .tc .vmem S1536x1024 .bf16) (harg5 : arg5.IsWhole) (arg6 : Memref sig .tc .vmem S1536x1024 .f32) (harg6 : arg6.IsWhole) (hc0 : cond0_0 i) (hc1 : ¬cond0_1 i) (hc2 : ¬cond0_2 i)
    (x0 : Vec Ideal S1024x1536 .bf16) (x1 : Vec Ideal S1024x1024 .f32) :
    sout0_A_0 c i arg3 harg3 arg4 harg4 arg5 harg5 arg6 harg6 hc0 hc1 hc2 x0 x1 = k0_pay2 x0 x1 := by
  unfold sout0_A_0 kernelRun0_A
  dsimp only
  exact (store_all VS0_0 _ hz _ _ _).trans (congrArg₂ k0_pay2 ((load_all arg3.view _ hz _).trans (harg3.read_unread x0)) ((load_all arg4.view _ hz _).trans (harg4.read_unread x1)))

theorem sout0_B_0_eq (c : Dev nD) (i : grid0.Coords) (arg3 : Memref sig .tc .vmem S1024x1536 .bf16) (harg3 : arg3.IsWhole) (arg4 : Memref sig .tc .vmem S1024x1024 .f32) (harg4 : arg4.IsWhole) (arg5 : Memref sig .tc .vmem S1536x1024 .bf16) (harg5 : arg5.IsWhole) (arg6 : Memref sig .tc .vmem S1536x1024 .f32) (harg6 : arg6.IsWhole) (hc0 : ¬cond0_0 i) (hc1 : cond0_1 i) (hc2 : ¬cond0_2 i)
    (x0 : Vec Ideal S1024x1536 .bf16) (x1 : Vec Ideal S1024x1024 .f32) (xs0 : Vec Ideal S1536x1024 .f32) :
    sout0_B_0 c i arg3 harg3 arg4 harg4 arg5 harg5 arg6 harg6 hc0 hc1 hc2 x0 x1 xs0 = k0_pay3 x0 x1 xs0 := by
  unfold sout0_B_0 kernelRun0_B
  dsimp only
  exact (store_all VS0_0 _ hz _ _ _).trans (map3 k0_pay3 ((load_all arg3.view _ hz _).trans (harg3.read_unread x0)) ((load_all arg4.view _ hz _).trans (harg4.read_unread x1)) ((load_all arg6.view _ hz _).trans (harg6.read_unread xs0)))

theorem sout0_C_0_eq (c : Dev nD) (i : grid0.Coords) (arg3 : Memref sig .tc .vmem S1024x1536 .bf16) (harg3 : arg3.IsWhole) (arg4 : Memref sig .tc .vmem S1024x1024 .f32) (harg4 : arg4.IsWhole) (arg5 : Memref sig .tc .vmem S1536x1024 .bf16) (harg5 : arg5.IsWhole) (arg6 : Memref sig .tc .vmem S1536x1024 .f32) (harg6 : arg6.IsWhole) (hc0 : ¬cond0_0 i) (hc1 : cond0_1 i) (hc2 : cond0_2 i)
    (x0 : Vec Ideal S1024x1536 .bf16) (x1 : Vec Ideal S1024x1024 .f32) (xs0 : Vec Ideal S1536x1024 .f32) :
    sout0_C_0 c i arg3 harg3 arg4 harg4 arg5 harg5 arg6 harg6 hc0 hc1 hc2 x0 x1 xs0 = k0_pay3 x0 x1 xs0 := by
  unfold sout0_C_0 kernelRun0_C
  dsimp only
  unfold kernelRun0_C.sl.HS0_1
  exact (store_all VS0_0 _ hz _ _ _).trans (map3 k0_pay3 ((load_all arg3.view _ hz _).trans (harg3.read_unread x0)) ((load_all arg4.view _ hz _).trans (harg4.read_unread x1)) ((load_all arg6.view _ hz _).trans (harg6.read_unread xs0)))

theorem out0_C_2_eq (c : Dev nD) (i : grid0.Coords) (arg3 : Memref sig .tc .vmem S1024x1536 .bf16) (harg3 : arg3.IsWhole) (arg4 : Memref sig .tc .vmem S1024x1024 .f32) (harg4 : arg4.IsWhole) (arg5 : Memref sig .tc .vmem S1536x1024 .bf16) (harg5 : arg5.IsWhole) (arg6 : Memref sig .tc .vmem S1536x1024 .f32) (harg6 : arg6.IsWhole) (hc0 : ¬cond0_0 i) (hc1 : cond0_1 i) (hc2 : cond0_2 i)
    (x0 : Vec Ideal S1024x1536 .bf16) (x1 : Vec Ideal S1024x1024 .f32) (xs0 : Vec Ideal S1536x1024 .f32) :
    out0_C_2 c i arg3 harg3 arg4 harg4 arg5 harg5 arg6 harg6 hc0 hc1 hc2 x0 x1 xs0 = k0_pay4 (k0_pay3 x0 x1 xs0) := by
  unfold out0_C_2 kernelRun0_C
  dsimp only
  unfold kernelRun0_C.sl.v13 kernelRun0_C.sl.HS0_1
  exact (store_all VO0_2 _ hz _ _ _).trans (congrArg k0_pay4 ((load_all arg6.view _ hz _).trans ((store_all arg6.view _ hz _ _ _).trans (map3 k0_pay3 ((load_all arg3.view _ hz _).trans (harg3.read_unread x0)) ((load_all arg4.view _ hz _).trans (harg4.read_unread x1)) ((load_all arg6.view _ hz _).trans (harg6.read_unread xs0))))))

/-! ## The fold over the chunks of rows -/

theorem pay1_at (x0 : Vec Ideal S1024x1536 .bf16) (x1 : Vec Ideal S1024x1024 .f32) (a : Fin 1536) (l : Fin 1024) :
    k0_pay1 (F := Ideal) x0 x1 (ix2 a l) = ∑ j : Fin 1024, x0 (ix2 j a) * x1 (ix2 j l) := by
  pointwise [k0_pay1]
theorem pay2_eq (x0 : Vec Ideal S1024x1536 .bf16) (x1 : Vec Ideal S1024x1024 .f32) (a : Fin 1536) (l : Fin 1024) :
    k0_pay2 (F := Ideal) x0 x1 (ix2 a l) = k0_pay1 (F := Ideal) x0 x1 (ix2 a l) := by
  pointwise [k0_pay2]
theorem pay3_eq (x0 : Vec Ideal S1024x1536 .bf16) (x1 : Vec Ideal S1024x1024 .f32) (y : Vec Ideal S1536x1024 .f32) (a : Fin 1536) (l : Fin 1024) :
    k0_pay3 (F := Ideal) x0 x1 y (ix2 a l) = y (ix2 a l) + k0_pay1 (F := Ideal) x0 x1 (ix2 a l) := by
  pointwise [k0_pay3]
theorem pay4_eq (y : Vec Ideal S1536x1024 .f32) : k0_pay4 (F := Ideal) y = y := rfl

theorem cov : ((cfg0).win 2).Covers := by decide +kernel
theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel

/-- One element of the weights' gradient: the columns' product over all rows. -/
def grad (yg : S8192x1536.Idx → EReal) (dz : S8192x1024.Idx → EReal) (i : S1536x1024.Idx) : EReal :=
  ∑ j : Fin 8192, yg (ix2 j (i 0)) * dz (ix2 j (i 1))

/-- Row `i`'s part of it. -/
def term (yg : S8192x1536.Idx → EReal) (dz : S8192x1024.Idx → EReal) (a : Fin 1536) (l : Fin 1024) (i : ℕ) : EReal :=
  if h : i < 8192 then yg (ix2 ⟨i, h⟩ a) * dz (ix2 ⟨i, h⟩ l) else 0

variable (m : (ℓ : Loc nD τ sig) → Buf (Elt Ideal) ℓ) (c : Dev nD)

abbrev YG : S8192x1536.Idx → EReal := m ((c : Thread nD τ).loc main_arg0)
abbrev DZ : S8192x1024.Idx → EReal := m ((c : Thread nD τ).loc main_arg1)

/-- One point's product is its chunk's part of the sum. -/
theorem chunk (t : Fin cfg0.N) (a : Fin 1536) (l : Fin 1024) :
    k0_pay1 (F := Ideal) (iblk m c 0 t) (iblk m c 1 t) (ix2 a l) = ∑ j ∈ Finset.range 1024, term (YG m c) (DZ m c) a l (1024 * t.val + j) := by
  have hN : t.val < 8 := lt_of_lt_of_eq t.isLt N_0
  refine (pay1_at _ _ a l).trans ?_
  rw [Finset.sum_range]
  refine Finset.sum_congr rfl fun j _ => ?_
  have hi : 1024 * t.val + j.val < 8192 := by omega
  unfold term
  rw [dif_pos hi]
  refine congrArg₂ (· * ·) ?_ ?_
  · refine congrArg (m ((c : Thread nD τ).loc main_arg0)) (funext fun d => Fin.ext ?_)
    match d with
    | 0 => exact (Pipeline.Window.rect_emb_val (cfg0.win 0) t (ix2 j a) (0 : Fin 2)).trans ((congrArg (· * 1024 + j.val) (congrFun (at0 t) 0)).trans (by show t.val * 1024 + j.val = 1024 * t.val + j.val; omega))
    | 1 => exact (Pipeline.Window.rect_emb_val (cfg0.win 0) t (ix2 j a) (1 : Fin 2)).trans ((congrArg (· * 1536 + a.val) (congrFun (at0 t) 1)).trans (by show 0 * 1536 + a.val = a.val; omega))
  · refine congrArg (m ((c : Thread nD τ).loc main_arg1)) (funext fun d => Fin.ext ?_)
    match d with
    | 0 => exact (Pipeline.Window.rect_emb_val (cfg0.win 1) t (ix2 j l) (0 : Fin 2)).trans ((congrArg (· * 1024 + j.val) (congrFun (at1 t) 0)).trans (by show t.val * 1024 + j.val = 1024 * t.val + j.val; omega))
    | 1 => exact (Pipeline.Window.rect_emb_val (cfg0.win 1) t (ix2 j l) (1 : Fin 2)).trans ((congrArg (· * 1024 + l.val) (congrFun (at1 t) 1)).trans (by show 0 * 1024 + l.val = l.val; omega))

/-- What the accumulator holds after point `n`. -/
theorem acc (a : Fin 1536) (l : Fin 1024) : ∀ (n : ℕ) (hn : n < cfg0.N),
    (outsAt0 m c n hn).2 (ix2 a l) = ∑ j ∈ Finset.range (1024 * n + 1024), term (YG m c) (DZ m c) a l j := by
  intro n
  induction n with
  | zero =>
    intro hn
    rw [outsAt0_A m c ⟨0, hn⟩ rfl (by show ¬ 1 ≤ 0; decide) (by show ¬ 0 % 8 = 7; decide)]
    dsimp only
    rw [sout0_A_0_eq, pay2_eq, chunk m c ⟨0, hn⟩ a l]
    exact Finset.sum_congr rfl fun j _ => congrArg _ (Nat.zero_add j)
  | succ n ih =>
    intro hn
    have hN : n + 1 < 8 := lt_of_lt_of_eq hn N_0
    have step : (outsAt0 m c (n + 1) hn).2 (ix2 a l) = (outsAt0 m c n (Nat.lt_of_succ_lt hn)).2 (ix2 a l) + k0_pay1 (F := Ideal) (iblk m c 0 ⟨n + 1, hn⟩) (iblk m c 1 ⟨n + 1, hn⟩) (ix2 a l) := by
      by_cases h2 : (n + 1) % 8 = 7
      · rw [outsAt0_C m c ⟨n + 1, hn⟩ (by show ¬ (n + 1) % 8 = 0; omega) (by show 1 ≤ n + 1; omega) h2]
        dsimp only
        rw [sout0_C_0_eq, pay3_eq]
        rfl
      · rw [outsAt0_B m c ⟨n + 1, hn⟩ (by show ¬ (n + 1) % 8 = 0; omega) (by show 1 ≤ n + 1; omega) h2]
        dsimp only
        rw [sout0_B_0_eq, pay3_eq]
        rfl
    rw [step, ih (Nat.lt_of_succ_lt hn), chunk m c ⟨n + 1, hn⟩ a l]
    have e : 1024 * n + 1024 = 1024 * (n + 1) := by omega
    rw [e]
    exact (Finset.sum_range_add _ _ _).symm

/-- The result array at the end. -/
theorem arr : (dats m 0 c).arrAt 2 cfg0.N = grad (YG m c) (DZ m c) := by
  refine (dats m 0 c).arrAt_eq_of_covers 2 _ cov fun t hf y => ?_
  rw [after0_2]
  obtain ⟨a, l, rfl⟩ : ∃ (a : Fin 1536) (l : Fin 1024), y = ix2 a l := ⟨y 0, y 1, funext fun d => match d with | 0 => rfl | 1 => rfl⟩
  have h2 : t.val % 8 = 7 := (flush0_2 t).mp hf
  have hN : t.val < 8 := lt_of_lt_of_eq t.isLt N_0
  have ht : t.val = 7 := by omega
  have e : (outsAt0 m c t.val t.isLt).1 = (outsAt0 m c t.val t.isLt).2 := by
    rw [outsAt0_C m c t (by omega) (by omega) h2]
    dsimp only
    rw [out0_C_2_eq, sout0_C_0_eq, pay4_eq]
  refine (congrFun e (ix2 a l)).trans ((acc m c a l t.val t.isLt).trans ?_)
  rw [ht]
  have hd : l = ((cfg0.win 2).rect t).emb (ix2 a l) 1 :=
    Fin.ext (((Pipeline.Window.rect_emb_val (cfg0.win 2) t (ix2 a l) (1 : Fin 2)).trans ((congrArg (· * 1024 + l.val) (congrFun (at2 t) 1)).trans (by show 0 * 1024 + l.val = l.val; omega))).symm)
  have ha : a = ((cfg0.win 2).rect t).emb (ix2 a l) 0 :=
    Fin.ext (((Pipeline.Window.rect_emb_val (cfg0.win 2) t (ix2 a l) (0 : Fin 2)).trans ((congrArg (· * 1536 + a.val) (congrFun (at2 t) 0)).trans (by show 0 * 1536 + a.val = a.val; omega))).symm)
  show ∑ j ∈ Finset.range 8192, term (YG m c) (DZ m c) a l j = ∑ j : Fin 8192, YG m c (ix2 j (((cfg0.win 2).rect t).emb (ix2 a l) 0)) * DZ m c (ix2 j (((cfg0.win 2).rect t).emb (ix2 a l) 1))
  rw [← hd, ← ha, Finset.sum_range]
  exact Finset.sum_congr rfl fun j _ => dif_pos j.isLt

/-- What the reference computes of the same arguments. -/
theorem ref (yg : FVec Ideal S8192x1536 .bf16) (dz : FVec Ideal S8192x1024 .f32) :
    truncf (F := Ideal) .bf16 (transpose ReferenceDwoutIdeal.S1536x1024 [1, 0] (Host.dotGeneral ReferenceDwoutIdeal.dot_S8192x1024_S8192x1536_S1024x1536_0_0_1_1_n_n none
      dz (extf .f32 yg ReferenceDwoutIdeal.Gen.facts.bitsLt_bf16_f32)) ReferenceDwoutIdeal.Gen.facts.transposes_S1024x1536_S1536x1024_1_0) ReferenceDwoutIdeal.Gen.facts.bitsLt_bf16_f32
      = grad yg dz := by
  funext i
  obtain ⟨a, l, rfl⟩ : ∃ (a : Fin 1536) (l : Fin 1024), i = ix2 a l := ⟨i 0, i 1, funext fun d => match d with | 0 => rfl | 1 => rfl⟩
  pointwise [grad]
  exact Finset.sum_congr rfl fun j _ => mul_comm _ _

/-- The call computes the derivative. -/
theorem algebraic : Cert.algebraic_KernelDwoutIdeal_ReferenceDwoutIdeal (hKernelDwoutIdeal := Cert.KernelDwoutIdeal.Gen.facts)
    (hReferenceDwoutIdeal := Cert.ReferenceDwoutIdeal.Gen.facts) := by
  intro m g m' g' _ ha
  refine ⟨fun c => grad (YG m c) (DZ m c), ?_, ?_⟩
  · exact (θ_run _ _ _).mono (fun _ h c => ⟨(h c).1.trans (arr m c), (h c).2⟩) (KernelDwoutIdeal.Value.run_blocks m g)
  · refine (θ_run _ _ _).mono (fun _ h c => ⟨(h c).1.trans ((ref _ _).trans ?_), (h c).2⟩) (ReferenceDwoutIdeal.Value.run (F := Ideal) m' g')
    rw [(ha c).1, (ha c).2]

theorem frame_kernel : Cert.quiescent_KernelDwout (hKernelDwout := Cert.KernelDwout.Gen.facts) := fun m g _ => KernelDwout.Gen.frame m g
theorem frame_ideal : Cert.quiescent_KernelDwoutIdeal (hKernelDwoutIdeal := Cert.KernelDwoutIdeal.Gen.facts) := fun m g _ => KernelDwoutIdeal.Gen.frame m g
theorem frame_reference : Cert.quiescent_ReferenceDwoutIdeal (hReferenceDwoutIdeal := Cert.ReferenceDwoutIdeal.Gen.facts) := by
  intro m g _
  exact (θ_run Cert.ReferenceDwoutIdeal.defs _ _).mono (fun _ h => ⟨fun c => (h c).2, sem_eq_zero_of_no_sems rfl _⟩) (ReferenceDwoutIdeal.Value.run (F := Ideal) m g)

end Cert.Dwout
end
-- ==== Proof.lean ====
/-
  The proof of the claims.
-/
module

public import proofs.«01_k».proof.Defs
public import proofs.«01_k».proof.Proof.Frame
public import proofs.«01_k».proof.Proof.Alg
public import proofs.«01_k».proof.Proof.Gx
public import proofs.«01_k».proof.Proof.Dx
public import proofs.«01_k».proof.Proof.Dwin
public import proofs.«01_k».proof.Proof.Dwout
public import proofs.«01_k».proof.Proof.Gen.KernelGx.Frame
public import proofs.«01_k».proof.Proof.Gen.KernelGxIdeal.Value
public import proofs.«01_k».proof.Proof.Gen.ReferenceGxIdeal.Run
public import proofs.«01_k».proof.Proof.Gen.KernelDx.Frame
public import proofs.«01_k».proof.Proof.Gen.KernelDxIdeal.Value
public import proofs.«01_k».proof.Proof.Gen.ReferenceDxIdeal.Run
public import proofs.«01_k».proof.Proof.Gen.KernelDwin.Frame
public import proofs.«01_k».proof.Proof.Gen.KernelDwinIdeal.Value
public import proofs.«01_k».proof.Proof.Gen.ReferenceDwinIdeal.Run
public import proofs.«01_k».proof.Proof.Gen.KernelDwout.Frame
public import proofs.«01_k».proof.Proof.Gen.KernelDwoutIdeal.Value
public import proofs.«01_k».proof.Proof.Gen.ReferenceDwoutIdeal.Run

@[expose] public section

noncomputable section

namespace Cert.Proof

open Idealize.ShloMosaic

/-- The mask's number names minus infinity, the last factor of the key gradient the logarithm of two. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.KernelGx.Gen.facts, Cert.KernelGxIdeal.Gen.facts,
    Cert.ReferenceGxIdeal.Gen.facts, Cert.KernelDx.Gen.facts, Cert.KernelDxIdeal.Gen.facts, Cert.ReferenceDxIdeal.Gen.facts,
    Cert.KernelDwin.Gen.facts, Cert.KernelDwinIdeal.Gen.facts, Cert.ReferenceDwinIdeal.Gen.facts, Cert.KernelDwout.Gen.facts,
    Cert.KernelDwoutIdeal.Gen.facts, Cert.ReferenceDwoutIdeal.Gen.facts, Cert.Pre_finite.Gen.facts, Cert.Fox.frame_kernel,
    Cert.Fox.frame_kernelIdeal, fun m g _ => Cert.Fox.frame_kernelIdeal m g trivial, Cert.Fox.frame_reference,
    fun m g _ => Cert.Fox.frame_reference m g trivial, Cert.Gx.frame_kernel, Cert.Gx.frame_ideal, Cert.Gx.frame_reference,
    Cert.Dx.frame_kernel, Cert.Dx.frame_ideal, Cert.Dx.frame_reference, Cert.Dwin.frame_kernel, Cert.Dwin.frame_ideal,
    Cert.Dwin.frame_reference, Cert.Dwout.frame_kernel, Cert.Dwout.frame_ideal, Cert.Dwout.frame_reference, preserves, Cert.Fox.algebraic,
    trivial, Cert.Gx.algebraic, trivial, Cert.Dx.algebraic, trivial, Cert.Dwin.algebraic, trivial, Cert.Dwout.algebraic⟩

end Cert.Proof

end
